-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v72) = v0 c
          ∧ r.2.mem ((c.tc : Thread Cert.Reference4Ideal.nD Cert.Reference4Ideal.τ).loc Cert.Reference4Ideal.main_v73) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S3x8192x512 : Shape := ⟨3, ![3, 8192, 512]⟩
abbrev S8192x512 : Shape := ⟨2, ![8192, 512]⟩
abbrev S_ : Shape := ⟨0, ![]⟩

class Facts : Prop where
  bitsLt_bf16_f32 : FTy.bits .bf16 < FTy.bits .f32
  bcast_S_S3x8192x512 : S_.BroadcastsInDim S3x8192x512 (![] : Fin 0 → Fin S3x8192x512.rank)
  reducesTo_S3x8192x512_S_d0_1_2 : S3x8192x512.ReducesTo [0, 1, 2] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S3x8192x512 .bf16) (main_arg1 : FVec F S8192x512 .bf16) : IVec S_ 1 × IVec S_ 1 :=
  let main_v0 : FVec F S3x8192x512 .f32 := (extf .f32 · bitsLt_bf16_f32) main_arg0
  let main_v1 : FVec F S3x8192x512 .f32 := Host.absf main_v0
  let main_cst : FVec F S_ .f32 := constant S_ .f32 0x7F800000#32
  let main_v2 : FVec F S3x8192x512 .f32 := broadcastInDim S3x8192x512 ![] bcast_S_S3x8192x512 main_cst
  let main_v3 : IVec S3x8192x512 1 := cmpf .olt main_v1 main_v2
  let main_c : IVec S_ 1 := constantI S_ 1 1#1
  let main_v4 : IVec S_ 1 := (fun x v => Host.reduce IntOp.andi x v reducesTo_S3x8192x512_S_d0_1_2 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  (main_v4, main_v9)
-- ==== Kernel.lean ====
abbrev S3x8192x512 : Shape := ⟨3, ![3, 8192, 512]⟩
abbrev S8192x512 : Shape := ⟨2, ![8192, 512]⟩
abbrev S1x8192x512 : Shape := ⟨3, ![1, 8192, 512]⟩
abbrev S8192x8x64 : Shape := ⟨3, ![8192, 8, 64]⟩
abbrev S8x8192x64 : Shape := ⟨3, ![8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S_ : Shape := ⟨0, ![]⟩
abbrev S8x8192 : Shape := ⟨2, ![8, 8192]⟩
abbrev S4x2x1x8192 : Shape := ⟨4, ![4, 2, 1, 8192]⟩
abbrev S4x8192x2x1 : Shape := ⟨4, ![4, 8192, 2, 1]⟩
abbrev S4x8192x2x64 : Shape := ⟨4, ![4, 8192, 2, 64]⟩
abbrev S4x8192x128 : Shape := ⟨3, ![4, 8192, 128]⟩
abbrev S4x32x8x128 : Shape := ⟨4, ![4, 32, 8, 128]⟩
abbrev S1x256x128 : Shape := ⟨3, ![1, 256, 128]⟩
abbrev S1x8192x128 : Shape := ⟨3, ![1, 8192, 128]⟩
abbrev S256x128 : Shape := ⟨2, ![256, 128]⟩
abbrev S1x1x8x128 : Shape := ⟨4, ![1, 1, 8, 128]⟩
abbrev S8192x128 : Shape := ⟨2, ![8192, 128]⟩
abbrev S32x128x256 : Shape := ⟨3, ![32, 128, 256]⟩
abbrev S256x256 : Shape := ⟨2, ![256, 256]⟩
abbrev S512x256 : Shape := ⟨2, ![512, 256]⟩
abbrev S1x128 : Shape := ⟨2, ![1, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S512x128 : Shape := ⟨2, ![512, 128]⟩
abbrev S128x512 : Shape := ⟨2, ![128, 512]⟩
abbrev S256 : Shape := ⟨1, ![256]⟩
abbrev S256x1 : Shape := ⟨2, ![256, 1]⟩
abbrev S512x1 : Shape := ⟨2, ![512, 1]⟩
abbrev S512x512 : Shape := ⟨2, ![512, 512]⟩
abbrev S1x128x256 : Shape := ⟨3, ![1, 128, 256]⟩
abbrev S128x256 : Shape := ⟨2, ![128, 256]⟩
abbrev S512 : Shape := ⟨1, ![512]⟩

abbrev nBuf : Space → Nat
  | .hbm => 54
  | .vmem => 20
  | .smem => 0
  | _ => 0

abbrev bufTy : (tb : Table) → Fin (tcTables nBuf tb) → BufTy
  | .hbm, ⟨0, _⟩ => ⟨S3x8192x512, .bf16⟩
  | .hbm, ⟨1, _⟩ => ⟨S8192x512, .bf16⟩
  | .hbm, ⟨2, _⟩ => ⟨S3x8192x512, .f32⟩
  | .hbm, ⟨3, _⟩ => ⟨S1x8192x512, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S1x8192x512, .f32⟩
  | .hbm, ⟨8, _⟩ => ⟨S8192x512, .f32⟩
  | .hbm, ⟨9, _⟩ => ⟨S8192x8x64, .f32⟩
  | .hbm, ⟨10, _⟩ => ⟨S8x8192x64, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S8x8192, .f32⟩
  | .hbm, ⟨45, _⟩ => ⟨S4x2x1x8192, .f32⟩
  | .hbm, ⟨46, _⟩ => ⟨S4x8192x2x1, .f32⟩
  | .hbm, ⟨47, _⟩ => ⟨S4x8192x2x64, .f32⟩
  | .hbm, ⟨48, _⟩ => ⟨S4x8192x128, .f32⟩
  | .hbm, ⟨49, _⟩ => ⟨S_, .f32⟩
  | .hbm, ⟨50, _⟩ => ⟨S4x32x8x128, .f32⟩
  | .hbm, ⟨51, _⟩ => ⟨S8192x512, .bf16⟩
  | .hbm, ⟨52, _⟩ => ⟨S8192x512, .bf16⟩
  | .hbm, ⟨53, _⟩ => ⟨S8192x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S256x128, .bf16⟩
  | .local _ .vmem, ⟨7, _⟩ => ⟨S256x128, .bf16⟩
  | .local _ .vmem, ⟨8, _⟩ => ⟨S1x256x128, .f32⟩
  | .local _ .vmem, ⟨9, _⟩ => ⟨S1x256x128, .f32⟩
  | .local _ .vmem, ⟨10, _⟩ => ⟨S1x1x8x128, .f32⟩
  | .local _ .vmem, ⟨11, _⟩ => ⟨S1x1x8x128, .f32⟩
  | .local _ .vmem, ⟨12, _⟩ => ⟨S256x128, .bf16⟩
  | .local _ .vmem, ⟨13, _⟩ => ⟨S256x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .bf16⟩
  | .local _ .vmem, ⟨17, _⟩ => ⟨S8192x128, .bf16⟩
  | .local _ .vmem, ⟨18, _⟩ => ⟨S32x128x256, .f32⟩
  | .local _ .vmem, ⟨19, _⟩ => ⟨S32x128x256, .f32⟩
  | _, _ => ⟨S3x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27_0 : Ref sig .tc := ⟨.hbm, 51, rfl⟩
abbrev main_v27_1 : Ref sig .tc := ⟨.hbm, 52, rfl⟩
abbrev main_v27_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

@[reducible] def k0_t1_loop (i : grid0.Coords) (v33 : BitVec 32) : Scf.Loop 32 :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let v86 : BitVec 32 := Scalar.subi arg1 v35
  let c1_i32 : BitVec 32 := 1#32
  let v88 : BitVec 32 := Scalar.divsi v86 c1_i32
  let v89 : BitVec 32 := Scalar.muli v88 c1_i32
  let v90 : BitVec 32 := Scalar.addi v35 v89
  let c1_i32_27 : BitVec 32 := 1#32
  ⟨v35, v90, c1_i32_27⟩

def k0_mult1 (i : grid0.Coords) (v33 : BitVec 32) (k0_t1 : Fin (k0_t1_loop i v33).trips) : BitVec 32 :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let c1_i32_27 : BitVec 32 := 1#32
  let arg13 : BitVec 32 := Scf.iv v35 c1_i32_27 k0_t1
  let c256_i32_60 : BitVec 32 := 256#32
  let v183 : BitVec 32 := Scalar.muli arg13 c256_i32_60
  v183
def k0_off1 (i : grid0.Coords) (v33 : BitVec 32) (k0_t1 : Fin (k0_t1_loop i v33).trips) : Fin 3 → Nat :=
  let c0_61 : Index := 0#32
  let arg1 : BitVec 32 := BitVec.ofNat 32 (i 1).val
  let c0_i32_13 : BitVec 32 := 0#32
  let v34 : BitVec 32 := Scalar.maxsi c0_i32_13 v33
  let v35 : BitVec 32 := Scalar.minsi arg1 v34
  let c1_i32_27 : BitVec 32 := 1#32
  let arg13 : BitVec 32 := Scf.iv v35 c1_i32_27 k0_t1
  let c256_i32_60 : BitVec 32 := 256#32
  let v183 : BitVec 32 := Scalar.muli arg13 c256_i32_60
  let v184 : BitVec 32 := v183
  let v185 : Index := Scalar.indexCast v184
  let c0_62 : Index := 0#32
  ![0, v185.toNat, 0]
def k0_off2 (i : grid0.Coords) (v33 : BitVec 32) (k0_t1 : Fin (k0_t1_loop i v33).trips) : Fin 3 → Nat :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let c1_i32_27 : BitVec 32 := 1#32
  let arg13 : BitVec 32 := Scf.iv v35 c1_i32_27 k0_t1
  let v234 : Index := Scalar.indexCast arg13
  let c0_74 : Index := 0#32
  let c0_75 : Index := 0#32
  ![v234.toNat, 0, 0]
@[reducible] def k0_t2_loop (i : grid0.Coords) (v33 : BitVec 32) : Scf.Loop 32 :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let v86 : BitVec 32 := Scalar.subi arg1 v35
  let c1_i32 : BitVec 32 := 1#32
  let v88 : BitVec 32 := Scalar.divsi v86 c1_i32
  let v89 : BitVec 32 := Scalar.muli v88 c1_i32
  let v90 : BitVec 32 := Scalar.addi v35 v89
  let v87 : BitVec 32 := Scalar.addi v35 v86
  let c1_i32_28 : BitVec 32 := 1#32
  ⟨v90, v87, c1_i32_28⟩
def k0_mult2 (i : grid0.Coords) (v33 : BitVec 32) (k0_t2 : Fin (k0_t2_loop i v33).trips) : BitVec 32 :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let v86 : BitVec 32 := Scalar.subi arg1 v35
  let c1_i32 : BitVec 32 := 1#32
  let v88 : BitVec 32 := Scalar.divsi v86 c1_i32
  let v89 : BitVec 32 := Scalar.muli v88 c1_i32
  let v90 : BitVec 32 := Scalar.addi v35 v89
  let c1_i32_28 : BitVec 32 := 1#32
  let arg13 : BitVec 32 := Scf.iv v90 c1_i32_28 k0_t2
  let c256_i32_60 : BitVec 32 := 256#32
  let v183 : BitVec 32 := Scalar.muli arg13 c256_i32_60
  v183
def k0_off3 (i : grid0.Coords) (v33 : BitVec 32) (k0_t2 : Fin (k0_t2_loop i v33).trips) : Fin 3 → Nat :=
  let c0_61 : Index := 0#32
  let arg1 : BitVec 32 := BitVec.ofNat 32 (i 1).val
  let c0_i32_13 : BitVec 32 := 0#32
  let v34 : BitVec 32 := Scalar.maxsi c0_i32_13 v33
  let v35 : BitVec 32 := Scalar.minsi arg1 v34
  let v86 : BitVec 32 := Scalar.subi arg1 v35
  let c1_i32 : BitVec 32 := 1#32
  let v88 : BitVec 32 := Scalar.divsi v86 c1_i32
  let v89 : BitVec 32 := Scalar.muli v88 c1_i32
  let v90 : BitVec 32 := Scalar.addi v35 v89
  let c1_i32_28 : BitVec 32 := 1#32
  let arg13 : BitVec 32 := Scf.iv v90 c1_i32_28 k0_t2
  let c256_i32_60 : BitVec 32 := 256#32
  let v183 : BitVec 32 := Scalar.muli arg13 c256_i32_60
  let v184 : BitVec 32 := v183
  let v185 : Index := Scalar.indexCast v184
  let c0_62 : Index := 0#32
  ![0, v185.toNat, 0]
def k0_off4 (i : grid0.Coords) (v33 : BitVec 32) (k0_t2 : Fin (k0_t2_loop i v33).trips) : Fin 3 → Nat :=
  let arg1 : BitVec 32 := BitVec.ofNat 32 (i 1).val
  let c0_i32_13 : BitVec 32 := 0#32
  let v34 : BitVec 32 := Scalar.maxsi c0_i32_13 v33
  let v35 : BitVec 32 := Scalar.minsi arg1 v34
  let v86 : BitVec 32 := Scalar.subi arg1 v35
  let c1_i32 : BitVec 32 := 1#32
  let v88 : BitVec 32 := Scalar.divsi v86 c1_i32
  let v89 : BitVec 32 := Scalar.muli v88 c1_i32
  let v90 : BitVec 32 := Scalar.addi v35 v89
  let c1_i32_28 : BitVec 32 := 1#32
  let arg13 : BitVec 32 := Scf.iv v90 c1_i32_28 k0_t2
  let v234 : Index := Scalar.indexCast arg13
  let c0_74 : Index := 0#32
  let c0_75 : Index := 0#32
  ![v234.toNat, 0, 0]

def k0_chk1 (i : grid0.Coords) (v33 : BitVec 32) : Prop :=
  ((k0_t1_loop i v33).OK) ∧
  (∀ k0_t1 : Fin (k0_t1_loop i v33).trips, 256 ∣ (k0_mult1 i v33 k0_t1).toNat) ∧
  (∀ k0_t1 : Fin (k0_t1_loop i v33).trips, ∀ a, (k0_off1 i v33 k0_t1) a + S1x256x128.size a ≤ S1x8192x128.size a) ∧
  (∀ k0_t1 : Fin (k0_t1_loop i v33).trips, ∀ a, (k0_off2 i v33 k0_t1) a + S1x128x256.size a ≤ S32x128x256.size a) ∧
  ((k0_t2_loop i v33).OK) ∧
  (∀ k0_t2 : Fin (k0_t2_loop i v33).trips, 256 ∣ (k0_mult2 i v33 k0_t2).toNat) ∧
  (∀ k0_t2 : Fin (k0_t2_loop i v33).trips, ∀ a, (k0_off3 i v33 k0_t2) a + S1x256x128.size a ≤ S1x8192x128.size a) ∧
  (∀ k0_t2 : Fin (k0_t2_loop i v33).trips, ∀ a, (k0_off4 i v33 k0_t2) a + S1x128x256.size a ≤ S32x128x256.size a)
theorem k0_t1_ok : ∀ (i : grid0.Coords) (v33 : BitVec 32) (k0_hw1 : k0_chk1 i v33), (k0_t1_loop i v33).OK := fun i v33 k0_hw1 => k0_hw1.1
theorem k0_mult1_dvd : ∀ (i : grid0.Coords) (v33 : BitVec 32) (k0_hw1 : k0_chk1 i v33) (k0_t1 : Fin (k0_t1_loop i v33).trips), 256 ∣ (k0_mult1 i v33 k0_t1).toNat := fun i v33 k0_hw1 k0_t1 => k0_hw1.2.1 k0_t1
theorem k0_off1_inb : ∀ (i : grid0.Coords) (v33 : BitVec 32) (k0_hw1 : k0_chk1 i v33) (k0_t1 : Fin (k0_t1_loop i v33).trips), ∀ a, (k0_off1 i v33 k0_t1) a + S1x256x128.size a ≤ S1x8192x128.size a := fun i v33 k0_hw1 k0_t1 => k0_hw1.2.2.1 k0_t1
theorem k0_off2_inb : ∀ (i : grid0.Coords) (v33 : BitVec 32) (k0_hw1 : k0_chk1 i v33) (k0_t1 : Fin (k0_t1_loop i v33).trips), ∀ a, (k0_off2 i v33 k0_t1) a + S1x128x256.size a ≤ S32x128x256.size a := fun i v33 k0_hw1 k0_t1 => k0_hw1.2.2.2.1 k0_t1
theorem k0_t2_ok : ∀ (i : grid0.Coords) (v33 : BitVec 32) (k0_hw1 : k0_chk1 i v33), (k0_t2_loop i v33).OK := fun i v33 k0_hw1 => k0_hw1.2.2.2.2.1
theorem k0_mult2_dvd : ∀ (i : grid0.Coords) (v33 : BitVec 32) (k0_hw1 : k0_chk1 i v33) (k0_t2 : Fin (k0_t2_loop i v33).trips), 256 ∣ (k0_mult2 i v33 k0_t2).toNat := fun i v33 k0_hw1 k0_t2 => k0_hw1.2.2.2.2.2.1 k0_t2
theorem k0_off3_inb : ∀ (i : grid0.Coords) (v33 : BitVec 32) (k0_hw1 : k0_chk1 i v33) (k0_t2 : Fin (k0_t2_loop i v33).trips), ∀ a, (k0_off3 i v33 k0_t2) a + S1x256x128.size a ≤ S1x8192x128.size a := fun i v33 k0_hw1 k0_t2 => k0_hw1.2.2.2.2.2.2.1 k0_t2
theorem k0_off4_inb : ∀ (i : grid0.Coords) (v33 : BitVec 32) (k0_hw1 : k0_chk1 i v33) (k0_t2 : Fin (k0_t2_loop i v33).trips), ∀ a, (k0_off4 i v33 k0_t2) a + S1x128x256.size a ≤ S32x128x256.size a := fun i v33 k0_hw1 k0_t2 => k0_hw1.2.2.2.2.2.2.2 k0_t2

def k0_mult3 (i : grid0.Coords) : BitVec 32 :=
  let arg1 : BitVec 32 := BitVec.ofNat 32 (i 1).val
  let c256_i32 : BitVec 32 := 256#32
  let v93 : BitVec 32 := Scalar.muli arg1 c256_i32
  v93
def k0_off5 (i : grid0.Coords) : Fin 3 → Nat :=
  let c0_29 : Index := 0#32
  let arg1 : BitVec 32 := BitVec.ofNat 32 (i 1).val
  let c256_i32 : BitVec 32 := 256#32
  let v93 : BitVec 32 := Scalar.muli arg1 c256_i32
  let v94 : BitVec 32 := v93
  let v95 : Index := Scalar.indexCast v94
  let c0_30 : Index := 0#32
  ![0, v95.toNat, 0]
def k0_off6 (i : grid0.Coords) : Fin 3 → Nat :=
  let arg1 : BitVec 32 := BitVec.ofNat 32 (i 1).val
  let v150 : Index := Scalar.indexCast arg1
  let c0_45 : Index := 0#32
  let c0_46 : Index := 0#32
  ![v150.toNat, 0, 0]
def k0_cond2 (i : grid0.Coords) : BitVec 1 :=
  let arg1 : BitVec 32 := BitVec.ofNat 32 (i 1).val
  let c31_i32 : BitVec 32 := 31#32
  let v180 : BitVec 1 := Scalar.cmpi .eq arg1 c31_i32
  let v181 : BitVec 32 := Scalar.extui v180
  let c0_i32_59 : BitVec 32 := 0#32
  let v182 : BitVec 1 := Scalar.cmpi .ne v181 c0_i32_59
  v182

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S3x8192x512 : Shape := ⟨3, ![3, 8192, 512]⟩
abbrev S8192x512 : Shape := ⟨2, ![8192, 512]⟩
abbrev S1x8192x512 : Shape := ⟨3, ![1, 8192, 512]⟩
abbrev S8192x8x64 : Shape := ⟨3, ![8192, 8, 64]⟩
abbrev S8x8192x64 : Shape := ⟨3, ![8, 8192, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S_ : Shape := ⟨0, ![]⟩
abbrev S8x64x8192 : Shape := ⟨3, ![8, 64, 8192]⟩

abbrev nBuf : Space → Nat
  | .hbm => 185
  | .vmem => 0
  | .smem => 0
  | _ => 0

abbrev hbmTy0_0 (i : Nat) : BufTy := match i % 128 with
  | 0 => ⟨S3x8192x512, .bf16⟩
  | 1 => ⟨S8192x512, .bf16⟩
  | 2 => ⟨S3x8192x512, .f32⟩
  | 3 => ⟨S1x8192x512, .f32⟩
  | 4 => ⟨S8192x512, .f32⟩
  | 5 => ⟨S1x8192x512, .f32⟩
  | 6 => ⟨S8192x512, .f32⟩
  | 7 => ⟨S1x8192x512, .f32⟩
  | 8 => ⟨S8192x512, .f32⟩
  | 9 => ⟨S8192x8x64, .f32⟩
  | 10 => ⟨S8x8192x64, .f32⟩
  | 11 => ⟨S8192x8x64, .f32⟩
  | 12 => ⟨S8x8192x64, .f32⟩
  | 13 => ⟨S8192x8x64, .f32⟩
  | 14 => ⟨S8x8192x64, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S8x8192x8192, .f32⟩
  | 22 => ⟨S_, .f32⟩
  | 23 => ⟨S8x8192x8192, .f32⟩
  | 24 => ⟨S8x8192x8192, .f32⟩
  | 25 => ⟨S8x8192x8192, .f32⟩
  | 26 => ⟨S_, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .i1⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .i1⟩
  | 43 => ⟨S_, .f32⟩
  | 44 => ⟨S8x8192x8192, .f32⟩
  | 45 => ⟨S8x8192x8192, .f32⟩
  | 46 => ⟨S_, .f32⟩
  | 47 => ⟨S8x8192x8192, .f32⟩
  | 48 => ⟨S8x8192x8192, .i1⟩
  | 49 => ⟨S_, .f32⟩
  | 50 => ⟨S8x8192x8192, .f32⟩
  | 51 => ⟨S8x8192x8192, .f32⟩
  | 52 => ⟨S8x8192x8192, .f32⟩
  | 53 => ⟨S8x8192x8192, .f32⟩
  | 54 => ⟨S_, .f32⟩
  | 55 => ⟨S_, .f32⟩
  | 56 => ⟨S_, .i1⟩
  | 57 => ⟨S_, .f32⟩
  | 58 => ⟨S_, .f32⟩
  | 59 => ⟨S_, .f32⟩
  | 60 => ⟨S_, .f32⟩
  | 61 => ⟨S8x8192x8192, .f32⟩
  | 62 => ⟨S8x8192x8192, .i1⟩
  | 63 => ⟨S_, .f32⟩
  | 64 => ⟨S8x8192x8192, .f32⟩
  | 65 => ⟨S8x8192x8192, .f32⟩
  | 66 => ⟨S8x8192x8192, .f32⟩
  | 67 => ⟨S8x8192x8192, .f32⟩
  | 68 => ⟨S8x8192x8192, .f32⟩
  | 69 => ⟨S_, .f32⟩
  | 70 => ⟨S8x8192x8192, .f32⟩
  | 71 => ⟨S8x8192x8192, .f32⟩
  | 72 => ⟨S8x8192x8192, .f32⟩
  | 73 => ⟨S8x8192x8192, .f32⟩
  | 74 => ⟨S8x8192x8192, .f32⟩
  | 75 => ⟨S_, .f32⟩
  | 76 => ⟨S8x8192x8192, .f32⟩
  | 77 => ⟨S8x8192x8192, .f32⟩
  | 78 => ⟨S8x8192x8192, .f32⟩
  | 79 => ⟨S8x8192x8192, .f32⟩
  | 80 => ⟨S8x8192x8192, .i1⟩
  | 81 => ⟨S8x8192x8192, .f32⟩
  | 82 => ⟨S8x8192x8192, .f32⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .f32⟩
  | 88 => ⟨S8x8192x8192, .f32⟩
  | 89 => ⟨S_, .f32⟩
  | 90 => ⟨S8x8192x8192, .f32⟩
  | 91 => ⟨S8x8192x8192, .i1⟩
  | 92 => ⟨S_, .f32⟩
  | 93 => ⟨S8x8192x8192, .f32⟩
  | 94 => ⟨S8x8192x8192, .f32⟩
  | 95 => ⟨S_, .f32⟩
  | 96 => ⟨S8x8192x8192, .f32⟩
  | 97 => ⟨S8x8192x8192, .i1⟩
  | 98 => ⟨S_, .f32⟩
  | 99 => ⟨S8x8192x8192, .f32⟩
  | 100 => ⟨S8x8192x8192, .f32⟩
  | 101 => ⟨S8x8192x8192, .f32⟩
  | 102 => ⟨S8x8192x8192, .f32⟩
  | 103 => ⟨S_, .f32⟩
  | 104 => ⟨S_, .f32⟩
  | 105 => ⟨S_, .i1⟩
  | 106 => ⟨S_, .f32⟩
  | 107 => ⟨S_, .f32⟩
  | 108 => ⟨S_, .f32⟩
  | 109 => ⟨S_, .f32⟩
  | 110 => ⟨S8x8192x8192, .f32⟩
  | 111 => ⟨S8x8192x8192, .i1⟩
  | 112 => ⟨S_, .f32⟩
  | 113 => ⟨S8x8192x8192, .f32⟩
  | 114 => ⟨S8x8192x8192, .f32⟩
  | 115 => ⟨S8x8192x8192, .f32⟩
  | 116 => ⟨S8x8192x8192, .f32⟩
  | 117 => ⟨S8x8192x8192, .f32⟩
  | 118 => ⟨S_, .f32⟩
  | 119 => ⟨S8x8192x8192, .f32⟩
  | 120 => ⟨S8x8192x8192, .f32⟩
  | 121 => ⟨S8x8192x8192, .f32⟩
  | 122 => ⟨S_, .f32⟩
  | 123 => ⟨S_, .f32⟩
  | 124 => ⟨S8x8192x8192, .i1⟩
  | 125 => ⟨S8x8192x8192, .f32⟩
  | 126 => ⟨S8x8192x8192, .f32⟩
  | 127 => ⟨S_, .f32⟩
  | _ => ⟨S3x8192x512, .bf16⟩

abbrev hbmTy0_1 (i : Nat) : BufTy := match i % 128 with
  | 0 => ⟨S8x8192x8192, .f32⟩
  | 1 => ⟨S_, .f32⟩
  | 2 => ⟨S_, .f32⟩
  | 3 => ⟨S8x8192x8192, .f32⟩
  | 4 => ⟨S8x8192x8192, .f32⟩
  | 5 => ⟨S8x8192x8192, .f32⟩
  | 6 => ⟨S8x8192x8192, .f32⟩
  | 7 => ⟨S_, .f32⟩
  | 8 => ⟨S_, .f32⟩
  | 9 => ⟨S8x8192x8192, .i1⟩
  | 10 => ⟨S8x8192x8192, .f32⟩
  | 11 => ⟨S8x8192x8192, .f32⟩
  | 12 => ⟨S_, .f32⟩
  | 13 => ⟨S8x8192x8192, .f32⟩
  | 14 => ⟨S8x8192x64, .f32⟩
  | 15 => ⟨S8192x8x64, .f32⟩
  | 16 => ⟨S8192x512, .f32⟩
  | 17 => ⟨S8192x512, .f32⟩
  | 18 => ⟨S8192x8x64, .f32⟩
  | 19 => ⟨S8x8192x64, .f32⟩
  | 20 => ⟨S8x64x8192, .f32⟩
  | 21 => ⟨S8x8192x64, .f32⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S_, .f32⟩
  | 29 => ⟨S_, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S8x8192x8192, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .f32⟩
  | 46 => ⟨S8x8192x64, .f32⟩
  | 47 => ⟨S8x8192x64, .f32⟩
  | 48 => ⟨S8192x8x64, .f32⟩
  | 49 => ⟨S8192x512, .f32⟩
  | 50 => ⟨S8192x8x64, .f32⟩
  | 51 => ⟨S8192x512, .f32⟩
  | 52 => ⟨S8192x8x64, .f32⟩
  | 53 => ⟨S8192x512, .f32⟩
  | 54 => ⟨S8192x512, .bf16⟩
  | 55 => ⟨S8192x512, .bf16⟩
  | 56 => ⟨S8192x512, .bf16⟩
  | _ => ⟨S3x8192x512, .bf16⟩

abbrev hbmTy (i : Nat) : BufTy := match i / 128 with
  | 0 => hbmTy0_0 i
  | 1 => hbmTy0_1 i
  | _ => ⟨S3x8192x512, .bf16⟩

abbrev bufTy : (tb : Table) → Fin (tcTables nBuf tb) → BufTy
  | .hbm, ⟨i, _⟩ => hbmTy i
  | _, _ => ⟨S3x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1_0 : Ref sig .tc := ⟨.hbm, 39, rfl⟩
abbrev main_call0_call0_cst_0 : Ref sig .tc := ⟨.hbm, 40, rfl⟩
abbrev main_call0_call0_v13 : Ref sig .tc := ⟨.hbm, 41, rfl⟩
abbrev main_call0_call0_v14 : Ref sig .tc := ⟨.hbm, 42, rfl⟩
abbrev main_call0_call0_cst_1 : Ref sig .tc := ⟨.hbm, 43, rfl⟩
abbrev main_call0_call0_v15 : Ref sig .tc := ⟨.hbm, 44, rfl⟩
abbrev main_call0_call0_v16 : Ref sig .tc := ⟨.hbm, 45, rfl⟩
abbrev main_call0_call0_cst_2 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_cst_3 : Ref sig .tc := ⟨.hbm, 49, rfl⟩
abbrev main_call0_call0_v19 : Ref sig .tc := ⟨.hbm, 50, rfl⟩
abbrev main_call0_call0_v20 : Ref sig .tc := ⟨.hbm, 51, rfl⟩
abbrev main_call0_call0_v21 : Ref sig .tc := ⟨.hbm, 52, rfl⟩
abbrev main_v22_1 : Ref sig .tc := ⟨.hbm, 53, rfl⟩
abbrev main_call0_call0_cst_4 : Ref sig .tc := ⟨.hbm, 54, rfl⟩
abbrev main_call0_call0_cst_5 : Ref sig .tc := ⟨.hbm, 55, rfl⟩
abbrev main_call0_call0_v23 : Ref sig .tc := ⟨.hbm, 56, rfl⟩
abbrev main_call0_call0_cst_6 : Ref sig .tc := ⟨.hbm, 57, rfl⟩
abbrev main_call0_call0_cst_7 : Ref sig .tc := ⟨.hbm, 58, rfl⟩
abbrev main_call0_call0_v24 : Ref sig .tc := ⟨.hbm, 59, rfl⟩
abbrev main_call0_call0_cst_8 : Ref sig .tc := ⟨.hbm, 60, rfl⟩
abbrev main_call0_call0_v25 : Ref sig .tc := ⟨.hbm, 61, rfl⟩
abbrev main_call0_call0_v26 : Ref sig .tc := ⟨.hbm, 62, rfl⟩
abbrev main_call0_call0_cst_9 : Ref sig .tc := ⟨.hbm, 63, rfl⟩
abbrev main_call0_call0_v27 : Ref sig .tc := ⟨.hbm, 64, rfl⟩
abbrev main_call0_call0_v28 : Ref sig .tc := ⟨.hbm, 65, rfl⟩
abbrev main_call0_call0_v29 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_cst_10 : Ref sig .tc := ⟨.hbm, 69, rfl⟩
abbrev main_call0_call0_v32 : Ref sig .tc := ⟨.hbm, 70, rfl⟩
abbrev main_v22_2 : Ref sig .tc := ⟨.hbm, 71, rfl⟩
abbrev main_v22_0 : Ref sig .tc := ⟨.hbm, 72, rfl⟩
abbrev main_v23 : Ref sig .tc := ⟨.hbm, 73, rfl⟩
abbrev main_call1_v0 : Ref sig .tc := ⟨.hbm, 74, rfl⟩
abbrev main_call1_call0_cst : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_call0_v2 : Ref sig .tc := ⟨.hbm, 78, rfl⟩
abbrev main_call1_call0_v3 : Ref sig .tc := ⟨.hbm, 79, rfl⟩
abbrev main_call1_call0_v4 : Ref sig .tc := ⟨.hbm, 80, rfl⟩
abbrev main_call1_call0_v5 : Ref sig .tc := ⟨.hbm, 81, rfl⟩
abbrev main_call1_call0_v6 : Ref sig .tc := ⟨.hbm, 82, rfl⟩
abbrev main_call1_call0_v7 : Ref sig .tc := ⟨.hbm, 83, rfl⟩
abbrev main_call1_call0_v8 : Ref sig .tc := ⟨.hbm, 84, rfl⟩
abbrev main_call1_call0_v9 : Ref sig .tc := ⟨.hbm, 85, rfl⟩
abbrev main_call1_call0_v10 : Ref sig .tc := ⟨.hbm, 86, rfl⟩
abbrev main_call1_call0_v11 : Ref sig .tc := ⟨.hbm, 87, rfl⟩
abbrev main_call1_v1_0 : Ref sig .tc := ⟨.hbm, 88, rfl⟩
abbrev main_call1_call0_cst_0 : Ref sig .tc := ⟨.hbm, 89, rfl⟩
abbrev main_call1_call0_v13 : Ref sig .tc := ⟨.hbm, 90, rfl⟩
abbrev main_call1_call0_v14 : Ref sig .tc := ⟨.hbm, 91, rfl⟩
abbrev main_call1_call0_cst_1 : Ref sig .tc := ⟨.hbm, 92, rfl⟩
abbrev main_call1_call0_v15 : Ref sig .tc := ⟨.hbm, 93, rfl⟩
abbrev main_call1_call0_v16 : Ref sig .tc := ⟨.hbm, 94, rfl⟩
abbrev main_call1_call0_cst_2 : Ref sig .tc := ⟨.hbm, 95, rfl⟩
abbrev main_call1_call0_v17 : Ref sig .tc := ⟨.hbm, 96, rfl⟩
abbrev main_call1_call0_v18 : Ref sig .tc := ⟨.hbm, 97, rfl⟩
abbrev main_call1_call0_cst_3 : Ref sig .tc := ⟨.hbm, 98, rfl⟩
abbrev main_call1_call0_v19 : Ref sig .tc := ⟨.hbm, 99, rfl⟩
abbrev main_call1_call0_v20 : Ref sig .tc := ⟨.hbm, 100, rfl⟩
abbrev main_call1_call0_v21 : Ref sig .tc := ⟨.hbm, 101, rfl⟩
abbrev main_v24_1 : Ref sig .tc := ⟨.hbm, 102, rfl⟩
abbrev main_call1_call0_cst_4 : Ref sig .tc := ⟨.hbm, 103, rfl⟩
abbrev main_call1_call0_cst_5 : Ref sig .tc := ⟨.hbm, 104, rfl⟩
abbrev main_call1_call0_v23 : Ref sig .tc := ⟨.hbm, 105, rfl⟩
abbrev main_call1_call0_cst_6 : Ref sig .tc := ⟨.hbm, 106, rfl⟩
abbrev main_call1_call0_cst_7 : Ref sig .tc := ⟨.hbm, 107, rfl⟩
abbrev main_call1_call0_v24 : Ref sig .tc := ⟨.hbm, 108, rfl⟩
abbrev main_call1_call0_cst_8 : Ref sig .tc := ⟨.hbm, 109, rfl⟩
abbrev main_call1_call0_v25 : Ref sig .tc := ⟨.hbm, 110, rfl⟩
abbrev main_call1_call0_v26 : Ref sig .tc := ⟨.hbm, 111, rfl⟩
abbrev main_call1_call0_cst_9 : Ref sig .tc := ⟨.hbm, 112, rfl⟩
abbrev main_call1_call0_v27 : Ref sig .tc := ⟨.hbm, 113, rfl⟩
abbrev main_call1_call0_v28 : Ref sig .tc := ⟨.hbm, 114, rfl⟩
abbrev main_call1_call0_v29 : Ref sig .tc := ⟨.hbm, 115, rfl⟩
abbrev main_call1_call0_v30 : Ref sig .tc := ⟨.hbm, 116, rfl⟩
abbrev main_call1_call0_v31 : Ref sig .tc := ⟨.hbm, 117, rfl⟩
abbrev main_call1_call0_cst_10 : Ref sig .tc := ⟨.hbm, 118, rfl⟩
abbrev main_call1_call0_v32 : Ref sig .tc := ⟨.hbm, 119, rfl⟩
abbrev main_v24_2 : Ref sig .tc := ⟨.hbm, 120, rfl⟩
abbrev main_v24_0 : Ref sig .tc := ⟨.hbm, 121, rfl⟩
abbrev main_cst_0 : Ref sig .tc := ⟨.hbm, 122, rfl⟩
abbrev main_call2_v0 : Ref sig .tc := ⟨.hbm, 123, rfl⟩
abbrev main_v25_1 : Ref sig .tc := ⟨.hbm, 124, rfl⟩
abbrev main_call2_v2 : Ref sig .tc := ⟨.hbm, 125, rfl⟩
abbrev main_v25_0 : Ref sig .tc := ⟨.hbm, 126, rfl⟩
abbrev main_call2_cst : Ref sig .tc := ⟨.hbm, 127, rfl⟩
abbrev main_v25_2 : Ref sig .tc := ⟨.hbm, 128, rfl⟩
abbrev main_call3_cst : Ref sig .tc := ⟨.hbm, 129, rfl⟩
abbrev main_call3_v0 : Ref sig .tc := ⟨.hbm, 130, rfl⟩
abbrev main_v26 : Ref sig .tc := ⟨.hbm, 131, rfl⟩
abbrev main_v27 : Ref sig .tc := ⟨.hbm, 132, rfl⟩
abbrev main_v28 : Ref sig .tc := ⟨.hbm, 133, rfl⟩
abbrev main_v29 : Ref sig .tc := ⟨.hbm, 134, rfl⟩
abbrev main_cst_1 : Ref sig .tc := ⟨.hbm, 135, rfl⟩
abbrev main_call4_v0 : Ref sig .tc := ⟨.hbm, 136, rfl⟩
abbrev main_v30_1 : Ref sig .tc := ⟨.hbm, 137, rfl⟩
abbrev main_call4_v2 : Ref sig .tc := ⟨.hbm, 138, rfl⟩
abbrev main_v30_0 : Ref sig .tc := ⟨.hbm, 139, rfl⟩
abbrev main_call4_cst : Ref sig .tc := ⟨.hbm, 140, rfl⟩
abbrev main_v30_2 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_v39 : Ref sig .tc := ⟨.hbm, 150, rfl⟩
abbrev main_call5_cst : Ref sig .tc := ⟨.hbm, 151, rfl⟩
abbrev main_call5_v0 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_call6_cst : Ref sig .tc := ⟨.hbm, 156, rfl⟩
abbrev main_call6_v0 : Ref sig .tc := ⟨.hbm, 157, rfl⟩
abbrev main_v43 : Ref sig .tc := ⟨.hbm, 158, rfl⟩
abbrev main_v44 : Ref sig .tc := ⟨.hbm, 159, rfl⟩
abbrev main_call7_cst : Ref sig .tc := ⟨.hbm, 160, rfl⟩
abbrev main_call7_v0 : Ref sig .tc := ⟨.hbm, 161, rfl⟩
abbrev main_v45 : Ref sig .tc := ⟨.hbm, 162, rfl⟩
abbrev main_call8_v0 : Ref sig .tc := ⟨.hbm, 163, rfl⟩
abbrev main_call8_v1 : Ref sig .tc := ⟨.hbm, 164, rfl⟩
abbrev main_v46 : Ref sig .tc := ⟨.hbm, 165, rfl⟩
abbrev main_v47 : Ref sig .tc := ⟨.hbm, 166, rfl⟩
abbrev main_call9_v0 : Ref sig .tc := ⟨.hbm, 167, rfl⟩
abbrev main_call9_v1 : Ref sig .tc := ⟨.hbm, 168, rfl⟩
abbrev main_v48 : Ref sig .tc := ⟨.hbm, 169, rfl⟩
abbrev main_v49 : Ref sig .tc := ⟨.hbm, 170, rfl⟩
abbrev main_cst_2 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩
abbrev main_v57 : Ref sig .tc := ⟨.hbm, 179, rfl⟩
abbrev main_v58 : Ref sig .tc := ⟨.hbm, 180, rfl⟩
abbrev main_v59 : Ref sig .tc := ⟨.hbm, 181, rfl⟩
abbrev main_v60 : Ref sig .tc := ⟨.hbm, 182, rfl⟩
abbrev main_v61 : Ref sig .tc := ⟨.hbm, 183, rfl⟩
abbrev main_v62 : Ref sig .tc := ⟨.hbm, 184, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S3x8192x512 : Shape := ⟨3, ![3, 8192, 512]⟩
abbrev S9x8192x512 : Shape := ⟨3, ![9, 8192, 512]⟩
abbrev S8192x512 : Shape := ⟨2, ![8192, 512]⟩
abbrev S1024x7680 : Shape := ⟨2, ![1024, 7680]⟩
abbrev S512x1024 : Shape := ⟨2, ![512, 1024]⟩
abbrev S3x512x512 : Shape := ⟨3, ![3, 512, 512]⟩
abbrev S9x512x512 : Shape := ⟨3, ![9, 512, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1x512x512 : Shape := ⟨3, ![1, 512, 512]⟩
abbrev S_ : Shape := ⟨0, ![]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3x8192x512, .bf16⟩
  | .hbm, ⟨3, _⟩ => ⟨S9x8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x7680, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3x512x512, .bf16⟩
  | .local _ .vmem, ⟨4, _⟩ => ⟨S3x512x512, .bf16⟩
  | .local _ .vmem, ⟨5, _⟩ => ⟨S9x512x512, .bf16⟩
  | .local _ .vmem, ⟨6, _⟩ => ⟨S9x512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x7680, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S9x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8192x1024 : Shape := ⟨2, ![8192, 1024]⟩
abbrev S1x1024 : Shape := ⟨2, ![1, 1024]⟩
abbrev S3x8192x512 : Shape := ⟨3, ![3, 8192, 512]⟩
abbrev S9x8192x512 : Shape := ⟨3, ![9, 8192, 512]⟩
abbrev S8192x512 : Shape := ⟨2, ![8192, 512]⟩
abbrev S1x8192x512 : Shape := ⟨3, ![1, 8192, 512]⟩
abbrev S8192x7680 : Shape := ⟨2, ![8192, 7680]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x7680 : Shape := ⟨2, ![1024, 7680]⟩
abbrev S7680x1024 : Shape := ⟨2, ![7680, 1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3x8192x512, .bf16⟩
  | .hbm, ⟨3, _⟩ => ⟨S9x8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S3x8192x512, .f32⟩
  | .hbm, ⟨8, _⟩ => ⟨S9x8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S1x8192x512, .f32⟩
  | .hbm, ⟨13, _⟩ => ⟨S8192x512, .f32⟩
  | .hbm, ⟨14, _⟩ => ⟨S1x8192x512, .f32⟩
  | .hbm, ⟨15, _⟩ => ⟨S8192x512, .f32⟩
  | .hbm, ⟨16, _⟩ => ⟨S1x8192x512, .f32⟩
  | .hbm, ⟨17, _⟩ => ⟨S8192x512, .f32⟩
  | .hbm, ⟨18, _⟩ => ⟨S1x8192x512, .f32⟩
  | .hbm, ⟨19, _⟩ => ⟨S8192x512, .f32⟩
  | .hbm, ⟨20, _⟩ => ⟨S1x8192x512, .f32⟩
  | .hbm, ⟨21, _⟩ => ⟨S8192x512, .f32⟩
  | .hbm, ⟨22, _⟩ => ⟨S1x8192x512, .f32⟩
  | .hbm, ⟨23, _⟩ => ⟨S8192x512, .f32⟩
  | .hbm, ⟨24, _⟩ => ⟨S1x8192x512, .f32⟩
  | .hbm, ⟨25, _⟩ => ⟨S8192x512, .f32⟩
  | .hbm, ⟨26, _⟩ => ⟨S1x8192x512, .f32⟩
  | .hbm, ⟨27, _⟩ => ⟨S8192x512, .f32⟩
  | .hbm, ⟨28, _⟩ => ⟨S1x8192x512, .f32⟩
  | .hbm, ⟨29, _⟩ => ⟨S8192x512, .f32⟩
  | .hbm, ⟨30, _⟩ => ⟨S1x8192x512, .f32⟩
  | .hbm, ⟨31, _⟩ => ⟨S8192x512, .f32⟩
  | .hbm, ⟨32, _⟩ => ⟨S1x8192x512, .f32⟩
  | .hbm, ⟨33, _⟩ => ⟨S8192x512, .f32⟩
  | .hbm, ⟨34, _⟩ => ⟨S1x8192x512, .f32⟩
  | .hbm, ⟨35, _⟩ => ⟨S8192x512, .f32⟩
  | .hbm, ⟨36, _⟩ => ⟨S8192x7680, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024x7680, .f32⟩
  | .hbm, ⟨56, _⟩ => ⟨S8192x7680, .f32⟩
  | .hbm, ⟨57, _⟩ => ⟨S7680x1024, .f32⟩
  | .hbm, ⟨58, _⟩ => ⟨S1024x7680, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst : Ref sig .tc := ⟨.hbm, 39, rfl⟩
abbrev main_v32 : Ref sig .tc := ⟨.hbm, 40, rfl⟩
abbrev main_v33 : Ref sig .tc := ⟨.hbm, 41, rfl⟩
abbrev main_cst_0 : Ref sig .tc := ⟨.hbm, 42, rfl⟩
abbrev main_v34 : Ref sig .tc := ⟨.hbm, 43, rfl⟩
abbrev main_v35 : Ref sig .tc := ⟨.hbm, 44, rfl⟩
abbrev main_cst_1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S2x1024x7680 : Shape := ⟨3, ![2, 1024, 7680]⟩
abbrev S15x8192x512 : Shape := ⟨3, ![15, 8192, 512]⟩
abbrev S3x8192x512 : Shape := ⟨3, ![3, 8192, 512]⟩
abbrev S512x1024 : Shape := ⟨2, ![512, 1024]⟩
abbrev S1x1024x7680 : Shape := ⟨3, ![1, 1024, 7680]⟩
abbrev S15x512x512 : Shape := ⟨3, ![15, 512, 512]⟩
abbrev S3x512x512 : Shape := ⟨3, ![3, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x7680, .bf16⟩
  | .hbm, ⟨3, _⟩ => ⟨S15x8192x512, .f32⟩
  | .hbm, ⟨4, _⟩ => ⟨S3x8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x7680, .bf16⟩
  | .local _ .vmem, ⟨4, _⟩ => ⟨S15x512x512, .f32⟩
  | .local _ .vmem, ⟨5, _⟩ => ⟨S15x512x512, .f32⟩
  | .local _ .vmem, ⟨6, _⟩ => ⟨S3x512x512, .bf16⟩
  | .local _ .vmem, ⟨7, _⟩ => ⟨S3x512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x1024 : Shape := ⟨2, ![8192, 1024]⟩
abbrev S1x1024 : Shape := ⟨2, ![1, 1024]⟩
abbrev S2x1024x7680 : Shape := ⟨3, ![2, 1024, 7680]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x7680 : Shape := ⟨3, ![1, 1024, 7680]⟩
abbrev S1024x7680 : Shape := ⟨2, ![1024, 7680]⟩
abbrev S8192x7680 : Shape := ⟨2, ![8192, 7680]⟩
abbrev S8192x15x512 : Shape := ⟨3, ![8192, 15, 512]⟩
abbrev S15x8192x512 : Shape := ⟨3, ![15, 8192, 512]⟩
abbrev S3x8192x512 : Shape := ⟨3, ![3, 8192, 512]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x7680, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1x1024x7680, .bf16⟩
  | .hbm, ⟨21, _⟩ => ⟨S1024x7680, .bf16⟩
  | .hbm, ⟨22, _⟩ => ⟨S1024x7680, .f32⟩
  | .hbm, ⟨23, _⟩ => ⟨S8192x7680, .f32⟩
  | .hbm, ⟨24, _⟩ => ⟨S8192x15x512, .f32⟩
  | .hbm, ⟨25, _⟩ => ⟨S15x8192x512, .f32⟩
  | .hbm, ⟨26, _⟩ => ⟨S3x8192x512, .f32⟩
  | .hbm, ⟨27, _⟩ => ⟨S3x8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S2x1024x7680 : Shape := ⟨3, ![2, 1024, 7680]⟩
abbrev S3x8192x512 : Shape := ⟨3, ![3, 8192, 512]⟩
abbrev S9x8192x512 : Shape := ⟨3, ![9, 8192, 512]⟩
abbrev S8192x512 : Shape := ⟨2, ![8192, 512]⟩
abbrev S512x1024 : Shape := ⟨2, ![512, 1024]⟩
abbrev S1x1024x7680 : Shape := ⟨3, ![1, 1024, 7680]⟩
abbrev S3x512x512 : Shape := ⟨3, ![3, 512, 512]⟩
abbrev S9x512x512 : Shape := ⟨3, ![9, 512, 512]⟩
abbrev S512x512 : Shape := ⟨2, ![512, 512]⟩
abbrev S1x512x512 : Shape := ⟨3, ![1, 512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x7680, .bf16⟩
  | .hbm, ⟨3, _⟩ => ⟨S3x8192x512, .bf16⟩
  | .hbm, ⟨4, _⟩ => ⟨S9x8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x7680, .bf16⟩
  | .local _ .vmem, ⟨4, _⟩ => ⟨S3x512x512, .bf16⟩
  | .local _ .vmem, ⟨5, _⟩ => ⟨S3x512x512, .bf16⟩
  | .local _ .vmem, ⟨6, _⟩ => ⟨S9x512x512, .bf16⟩
  | .local _ .vmem, ⟨7, _⟩ => ⟨S9x512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S9x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S8192x1024 : Shape := ⟨2, ![8192, 1024]⟩
abbrev S1x1024 : Shape := ⟨2, ![1, 1024]⟩
abbrev S2x1024x7680 : Shape := ⟨3, ![2, 1024, 7680]⟩
abbrev S3x8192x512 : Shape := ⟨3, ![3, 8192, 512]⟩
abbrev S9x8192x512 : Shape := ⟨3, ![9, 8192, 512]⟩
abbrev S8192x512 : Shape := ⟨2, ![8192, 512]⟩
abbrev S1x8192x512 : Shape := ⟨3, ![1, 8192, 512]⟩
abbrev S8192x7680 : Shape := ⟨2, ![8192, 7680]⟩
abbrev S1x1024x7680 : Shape := ⟨3, ![1, 1024, 7680]⟩
abbrev S1024x7680 : Shape := ⟨2, ![1024, 7680]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x7680, .bf16⟩
  | .hbm, ⟨3, _⟩ => ⟨S3x8192x512, .bf16⟩
  | .hbm, ⟨4, _⟩ => ⟨S9x8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x1024, .f32⟩
  | .hbm, ⟨9, _⟩ => ⟨S3x8192x512, .f32⟩
  | .hbm, ⟨10, _⟩ => ⟨S9x8192x512, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S1x8192x512, .f32⟩
  | .hbm, ⟨15, _⟩ => ⟨S8192x512, .f32⟩
  | .hbm, ⟨16, _⟩ => ⟨S1x8192x512, .f32⟩
  | .hbm, ⟨17, _⟩ => ⟨S8192x512, .f32⟩
  | .hbm, ⟨18, _⟩ => ⟨S1x8192x512, .f32⟩
  | .hbm, ⟨19, _⟩ => ⟨S8192x512, .f32⟩
  | .hbm, ⟨20, _⟩ => ⟨S1x8192x512, .f32⟩
  | .hbm, ⟨21, _⟩ => ⟨S8192x512, .f32⟩
  | .hbm, ⟨22, _⟩ => ⟨S1x8192x512, .f32⟩
  | .hbm, ⟨23, _⟩ => ⟨S8192x512, .f32⟩
  | .hbm, ⟨24, _⟩ => ⟨S1x8192x512, .f32⟩
  | .hbm, ⟨25, _⟩ => ⟨S8192x512, .f32⟩
  | .hbm, ⟨26, _⟩ => ⟨S1x8192x512, .f32⟩
  | .hbm, ⟨27, _⟩ => ⟨S8192x512, .f32⟩
  | .hbm, ⟨28, _⟩ => ⟨S1x8192x512, .f32⟩
  | .hbm, ⟨29, _⟩ => ⟨S8192x512, .f32⟩
  | .hbm, ⟨30, _⟩ => ⟨S1x8192x512, .f32⟩
  | .hbm, ⟨31, _⟩ => ⟨S8192x512, .f32⟩
  | .hbm, ⟨32, _⟩ => ⟨S1x8192x512, .f32⟩
  | .hbm, ⟨33, _⟩ => ⟨S8192x512, .f32⟩
  | .hbm, ⟨34, _⟩ => ⟨S1x8192x512, .f32⟩
  | .hbm, ⟨35, _⟩ => ⟨S8192x512, .f32⟩
  | .hbm, ⟨36, _⟩ => ⟨S1x8192x512, .f32⟩
  | .hbm, ⟨37, _⟩ => ⟨S8192x512, .f32⟩
  | .hbm, ⟨38, _⟩ => ⟨S8192x7680, .f32⟩
  | .hbm, ⟨39, _⟩ => ⟨S1x1024x7680, .bf16⟩
  | .hbm, ⟨40, _⟩ => ⟨S1024x7680, .bf16⟩
  | .hbm, ⟨41, _⟩ => ⟨S1024x7680, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x7680, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst : Ref sig .tc := ⟨.hbm, 44, rfl⟩
abbrev main_v35 : Ref sig .tc := ⟨.hbm, 45, rfl⟩
abbrev main_v36 : Ref sig .tc := ⟨.hbm, 46, rfl⟩
abbrev main_cst_0 : Ref sig .tc := ⟨.hbm, 47, rfl⟩
abbrev main_v37 : Ref sig .tc := ⟨.hbm, 48, rfl⟩
abbrev main_v38 : Ref sig .tc := ⟨.hbm, 49, rfl⟩
abbrev main_cst_1 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Proof.Row.lean ====
module

public import Mathlib.Analysis.SpecialFunctions.Log.Basic
public import Mathlib.Analysis.SpecialFunctions.Exp
public import Mathlib.Data.EReal.Operations

@[expose] public section

noncomputable section

namespace Cert.Attn

open Finset

/-! # One query row over the reals

A row has a logit `z s` for every key `s`, the product `g s` of the output's gradient with the value at `s`, and the
total `B` of its kept log-sigmoids. -/

/-- The softplus. -/
def sp (z : ℝ) : ℝ := max z 0 + Real.log (1 + Real.exp (-|z|))

/-- The weight of key `s`. -/
def wq (z : ℕ → ℝ) (B : ℝ) (s : ℕ) : ℝ := Real.exp (z s - sp (z s) + (B - ∑ i ∈ range (s + 1), -sp (z i)))

/-- The weight times its own gradient. -/
def eq (z g : ℕ → ℝ) (B : ℝ) (s : ℕ) : ℝ := wq z B s * g s

/-- The sum of those before `s`. -/
def pq (z g : ℕ → ℝ) (B : ℝ) (s : ℕ) : ℝ := ∑ i ∈ range s, eq z g B i

/-- The sigmoid. -/
def bq (z : ℕ → ℝ) (s : ℕ) : ℝ := Real.exp (z s - sp (z s))

/-- The gradient of the logit at `s`. -/
def dq (z g : ℕ → ℝ) (B : ℝ) (s : ℕ) : ℝ := eq z g B s * (1 - bq z s) - pq z g B s * bq z s

theorem coe_sum {ι : Type*} (t : Finset ι) (f : ι → ℝ) : ((∑ i ∈ t, f i : ℝ) : EReal) = ∑ i ∈ t, (f i : EReal) := by
  classical
  induction t using Finset.induction_on with
  | empty => simp
  | insert a t h ih => rw [sum_insert h, sum_insert h, EReal.coe_add, ih]

theorem one_add_exp_pos (x : ℝ) : 0 < 1 + Real.exp x := by have := Real.exp_pos x; linarith

theorem sp_neg (z : ℝ) : sp (-z) = sp z - z := by
  unfold sp
  rw [abs_neg]
  rcases le_total 0 z with h | h
  · rw [max_eq_left h, max_eq_right (by linarith)]; ring
  · rw [max_eq_right h, max_eq_left (by linarith)]; ring

theorem exp_sp (z : ℝ) : Real.exp (sp z) = 1 + Real.exp z := by
  unfold sp
  rw [Real.exp_add, Real.exp_log (one_add_exp_pos _)]
  rcases le_total 0 z with h | h
  · rw [max_eq_left h, abs_of_nonneg h, mul_add, ← Real.exp_add]; simp; ring
  · rw [max_eq_right h, abs_of_nonpos h]; simp

/-- The two sigmoids sum to one. -/
theorem one_sub_bq (z : ℕ → ℝ) (s : ℕ) : 1 - bq z s = Real.exp (-z s - sp (-z s)) := by
  unfold bq
  rw [sp_neg, Real.exp_sub, show -z s - (sp (z s) - z s) = -sp (z s) by ring, Real.exp_neg, exp_sp]
  have := one_add_exp_pos (z s)
  field_simp
  ring

/-- A prefix sum is the total less the rest: the sum over the tile's first `c + 1` keys after `n` others. -/
theorem range_add_sum (f : ℕ → ℝ) (n c : ℕ) : ∑ i ∈ range (n + c), f i = ∑ i ∈ range n, f i + ∑ i ∈ range c, f (n + i) := sum_range_add f n c

/-- A sum over a tile's columns that an index condition cuts to the first `k`. -/
theorem sum_cut (f : ℕ → ℝ) (N k : ℕ) (hk : k ≤ N) : ∑ c : Fin N, (if c.val < k then f c.val else 0) = ∑ i ∈ range k, f i := by
  rw [Fin.sum_univ_eq_sum_range (fun i => if i < k then f i else 0) N, ← sum_filter]
  refine sum_congr ?_ fun _ _ => rfl
  ext i; simp only [mem_filter, mem_range]; omega

end Cert.Attn
-- ==== Proof.Bounds.lean ====
/-
  The side condition the kernel's body assumes of the word its first tile is computed from: it holds of every word,
  since the first tile is clipped between zero and the point's own tile. The two counted loops' trips with it: the
  first runs from that tile up to the point's own, the second has none.
-/
module

public import proofs.«01_k».proof.Proof.Gen.KernelIdeal.Frame

@[expose] public section

set_option maxRecDepth 16384

noncomputable section

namespace Cert.Attn

open Cert.KernelIdeal Cert.KernelIdeal.Gen
open Idealize.ShloMosaic

/-- The first tile of the point's row, as a word. -/
abbrev lo (i : grid0.Coords) (v : BitVec 32) : BitVec 32 :=
  Scalar.minsi (BitVec.ofNat 32 (i 1).val) (Scalar.maxsi 0#32 v)

theorem i1_lt (i : grid0.Coords) : (i 1).val < 32 := (i 1).isLt

theorem lo_le (i : grid0.Coords) (v : BitVec 32) : (lo i v).toNat ≤ (i 1).val := by
  have hi := i1_lt i
  have h1 : (0#32).toInt ≤ (Scalar.maxsi 0#32 v).toInt := by
    show _ ≤ (if v.slt 0#32 then (0#32) else v).toInt
    by_cases h : v.slt 0#32
    · rw [if_pos h]
    · rw [if_neg h]; simp only [BitVec.slt, decide_eq_true_eq] at h; omega
  have hn : (BitVec.ofNat 32 (i 1).val).toInt = ((i 1).val : Int) := by
    rw [BitVec.toInt_eq_toNat_of_lt] <;> rw [BitVec.toNat_ofNat, Nat.mod_eq_of_lt (by omega)]; omega
  show (if (BitVec.ofNat 32 (i 1).val).slt (Scalar.maxsi 0#32 v) then BitVec.ofNat 32 (i 1).val
    else Scalar.maxsi 0#32 v).toNat ≤ _
  by_cases h : (BitVec.ofNat 32 (i 1).val).slt (Scalar.maxsi 0#32 v)
  · rw [if_pos h, BitVec.toNat_ofNat, Nat.mod_eq_of_lt (by omega)]
  · rw [if_neg h]
    simp only [BitVec.slt, decide_eq_true_eq, hn] at h
    rw [show (0#32).toInt = 0 from rfl] at h1
    have := BitVec.toInt_eq_toNat_cond (Scalar.maxsi 0#32 v)
    have hlt := (Scalar.maxsi 0#32 v).isLt
    split at this <;> omega

/-- The first tile of the point's row. -/
def lot (i : grid0.Coords) (v : BitVec 32) : ℕ := (lo i v).toNat

theorem lot_le (i : grid0.Coords) (v : BitVec 32) : lot i v ≤ (i 1).val := lo_le i v

theorem lo_eq (i : grid0.Coords) (v : BitVec 32) : lo i v = BitVec.ofNat 32 (lot i v) := by
  unfold lot; rw [BitVec.ofNat_toNat, BitVec.setWidth_eq]

theorem lot_zero (i : grid0.Coords) : lot i 0#32 = 0 := by
  have : ∀ n : Fin 32, (Scalar.minsi (BitVec.ofNat 32 n.val) (Scalar.maxsi 0#32 0#32)).toNat = 0 := by decide +kernel
  exact this ⟨(i 1).val, i1_lt i⟩

theorem up_eq : ∀ n l : Fin 32, l.val ≤ n.val →
    Scalar.addi (BitVec.ofNat 32 l.val) (Scalar.muli (Scalar.divsi (Scalar.subi (BitVec.ofNat 32 n.val) (BitVec.ofNat 32 l.val)) 1#32) 1#32)
      = BitVec.ofNat 32 n.val
    ∧ Scalar.addi (BitVec.ofNat 32 l.val) (Scalar.subi (BitVec.ofNat 32 n.val) (BitVec.ofNat 32 l.val)) = BitVec.ofNat 32 n.val
    ∧ Scf.OK (BitVec.ofNat 32 l.val) (BitVec.ofNat 32 n.val) 1#32
    ∧ Scf.trips (BitVec.ofNat 32 l.val) (BitVec.ofNat 32 n.val) 1#32 = n.val - l.val := by decide +kernel

theorem t1_eq (i : grid0.Coords) (v : BitVec 32) :
    k0_t1_loop i v = ⟨BitVec.ofNat 32 (lot i v), BitVec.ofNat 32 (i 1).val, 1#32⟩ := by
  have h := up_eq ⟨(i 1).val, i1_lt i⟩ ⟨lot i v, lt_of_le_of_lt (lot_le i v) (i1_lt i)⟩ (lot_le i v)
  show (⟨lo i v, Scalar.addi (lo i v) (Scalar.muli (Scalar.divsi (Scalar.subi _ (lo i v)) _) _), 1#32⟩ : Scf.Loop 32) = _
  rw [lo_eq]; exact congrArg (fun u => (⟨_, u, 1#32⟩ : Scf.Loop 32)) h.1

theorem t2_eq (i : grid0.Coords) (v : BitVec 32) :
    k0_t2_loop i v = ⟨BitVec.ofNat 32 (i 1).val, BitVec.ofNat 32 (i 1).val, 1#32⟩ := by
  have h := up_eq ⟨(i 1).val, i1_lt i⟩ ⟨lot i v, lt_of_le_of_lt (lot_le i v) (i1_lt i)⟩ (lot_le i v)
  show (⟨Scalar.addi (lo i v) (Scalar.muli (Scalar.divsi (Scalar.subi _ (lo i v)) _) _), Scalar.addi (lo i v) (Scalar.subi _ (lo i v)), 1#32⟩ : Scf.Loop 32) = _
  rw [lo_eq]; exact (congrArg (fun u => (⟨u, _, 1#32⟩ : Scf.Loop 32)) h.1).trans (congrArg (fun u => (⟨_, u, 1#32⟩ : Scf.Loop 32)) h.2.1)

theorem t1_trips (i : grid0.Coords) (v : BitVec 32) : (k0_t1_loop i v).trips = (i 1).val - lot i v := by
  rw [t1_eq]; exact (up_eq ⟨(i 1).val, i1_lt i⟩ ⟨lot i v, lt_of_le_of_lt (lot_le i v) (i1_lt i)⟩ (lot_le i v)).2.2.2

theorem t2_trips (i : grid0.Coords) (v : BitVec 32) : (k0_t2_loop i v).trips = 0 := by
  rw [t2_eq]; exact ((up_eq ⟨(i 1).val, i1_lt i⟩ ⟨(i 1).val, i1_lt i⟩ le_rfl).2.2.2).trans (Nat.sub_self _)

theorem iv_eq (l k : ℕ) : Scf.iv (BitVec.ofNat 32 l) 1#32 k = BitVec.ofNat 32 (l + k) := by
  show BitVec.ofNat 32 l + BitVec.ofNat 32 k * 1#32 = _
  rw [BitVec.mul_one, ← BitVec.ofNat_add]

theorem mul_eq : ∀ n : Fin 32, (Scalar.muli (BitVec.ofNat 32 n.val) 256#32).toNat = 256 * n.val := by decide +kernel

theorem iv1_eq (i : grid0.Coords) (v : BitVec 32) (k : ℕ) : Scf.iv (lo i v) 1#32 k = BitVec.ofNat 32 (lot i v + k) := by
  rw [lo_eq, iv_eq]

theorem t1_lt (i : grid0.Coords) (v : BitVec 32) (k : Fin (k0_t1_loop i v).trips) : lot i v + k.val < (i 1).val := by
  have := lt_of_lt_of_eq k.isLt (t1_trips i v); omega

theorem off1_eq (i : grid0.Coords) (v : BitVec 32) (k : Fin (k0_t1_loop i v).trips) :
    k0_off1 i v k = ![0, 256 * (lot i v + k.val), 0] := by
  have h := t1_lt i v k
  have hi := i1_lt i
  show ![0, (Scalar.muli (Scf.iv (lo i v) 1#32 k) 256#32).toNat, 0] = _
  rw [iv1_eq, mul_eq ⟨lot i v + k.val, by omega⟩]

theorem off2_eq (i : grid0.Coords) (v : BitVec 32) (k : Fin (k0_t1_loop i v).trips) :
    k0_off2 i v k = ![lot i v + k.val, 0, 0] := by
  have h := t1_lt i v k
  have hi := i1_lt i
  show ![(Scf.iv (lo i v) 1#32 k).toNat, 0, 0] = _
  rw [iv1_eq, BitVec.toNat_ofNat, Nat.mod_eq_of_lt (by omega)]

theorem off5_eq (i : grid0.Coords) : k0_off5 i = ![0, 256 * (i 1).val, 0] := by
  show ![0, (Scalar.muli (BitVec.ofNat 32 (i 1).val) 256#32).toNat, 0] = _
  rw [mul_eq ⟨(i 1).val, i1_lt i⟩]

theorem off6_eq (i : grid0.Coords) : k0_off6 i = ![(i 1).val, 0, 0] := by
  have hi := i1_lt i
  show ![(BitVec.ofNat 32 (i 1).val).toNat, 0, 0] = _
  rw [BitVec.toNat_ofNat, Nat.mod_eq_of_lt (by omega)]

/-- The body's assumed side condition holds of every word. -/
theorem chk1_all (i : grid0.Coords) (v : BitVec 32) : k0_chk1 i v := by
  have hi := i1_lt i
  have no2 : ∀ k : Fin (k0_t2_loop i v).trips, False := fun k => by have := lt_of_lt_of_eq k.isLt (t2_trips i v); omega
  refine ⟨?_, ?_, ?_, ?_, ?_, fun k => (no2 k).elim, fun k => (no2 k).elim, fun k => (no2 k).elim⟩
  · rw [t1_eq]; exact (up_eq ⟨(i 1).val, i1_lt i⟩ ⟨lot i v, lt_of_le_of_lt (lot_le i v) (i1_lt i)⟩ (lot_le i v)).2.2.1
  · intro k
    have h := t1_lt i v k
    show 256 ∣ (Scalar.muli (Scf.iv (lo i v) 1#32 k) 256#32).toNat
    rw [iv1_eq, mul_eq ⟨lot i v + k.val, by omega⟩]; exact Dvd.intro _ rfl
  · intro k a
    have h := t1_lt i v k
    rw [off1_eq]
    match a with
    | ⟨0, _⟩ => show 0 + 1 ≤ 1; omega
    | ⟨1, _⟩ => show 256 * (lot i v + k.val) + 256 ≤ 8192; omega
    | ⟨2, _⟩ => show 0 + 128 ≤ 128; omega
  · intro k a
    have h := t1_lt i v k
    rw [off2_eq]
    match a with
    | ⟨0, _⟩ => show lot i v + k.val + 1 ≤ 32; omega
    | ⟨1, _⟩ => show 0 + 128 ≤ 128; omega
    | ⟨2, _⟩ => show 0 + 256 ≤ 256; omega
  · rw [t2_eq]; exact (up_eq ⟨(i 1).val, i1_lt i⟩ ⟨(i 1).val, i1_lt i⟩ le_rfl).2.2.1

end Cert.Attn

end
-- ==== Proof.Trip.lean ====
module

public import proofs.«01_k».proof.Proof.Bounds
public import proofs.«01_k».proof.Proof.Gen.KernelIdeal.Loops
public import Idealize.ShloMosaic.Lib.VecWindow
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

/-! ## One tile, over its payloads -/

/-- What the tiles of a point carry: the running sum of the log complements, the running sum of the errors, and the
    queries' gradient so far. -/
abbrev Carry (F : FTy → Type) [FloatOps F] := FVec F S512x1 .f32 × FVec F S512x1 .f32 × FVec F S512x128 .f32

/-- What a point computes once from its own rows: the scaled queries and the output's gradient by heads, both
    transposed too, and the rows' totals. -/
structure RowOps (F : FTy → Type) [FloatOps F] where
  q : FVec F S512x128 .bf16
  d : FVec F S512x128 .bf16
  qt : FVec F S128x512 .bf16
  dt : FVec F S128x512 .bf16
  b : FVec F S512x1 .f32

theorem kwin_inb (j : Fin 32) : ∀ a, (![0, 256 * j.val, 0] : Fin 3 → ℕ) a + S1x256x128.size a ≤ S1x8192x128.size a := fun a => by
  have hj := j.isLt
  match a with
  | ⟨0, _⟩ => show 0 + 1 ≤ 1; omega
  | ⟨1, _⟩ => show 256 * j.val + 256 ≤ 8192; omega
  | ⟨2, _⟩ => show 0 + 128 ≤ 128; omega

/-- Tile `j`'s rows of a block of all keys (or values). -/
def kwin (x : Vec F S1x8192x128 .bf16) (j : Fin 32) : Vec F S1x256x128 .bf16 :=
  VecWindow.window x ![0, 256 * j.val, 0] S1x256x128.size (kwin_inb j)

theorem swin_inb (j : Fin 32) : ∀ a, (![j.val, 0, 0] : Fin 3 → ℕ) a + S1x128x256.size a ≤ S32x128x256.size a := fun a => by
  have hj := j.isLt
  match a with
  | ⟨0, _⟩ => show j.val + 1 ≤ 32; omega
  | ⟨1, _⟩ => show 0 + 128 ≤ 128; omega
  | ⟨2, _⟩ => show 0 + 256 ≤ 256; omega

/-- Tile `j`'s slot of an accumulator. -/
def slot (y : Vec F S32x128x256 .f32) (j : Fin 32) : Vec F S1x128x256 .f32 :=
  VecWindow.window y ![j.val, 0, 0] S1x128x256.size (swin_inb j)

/-- An accumulator with tile `j`'s slot replaced. -/
def setSlot (y : Vec F S32x128x256 .f32) (j : Fin 32) (w : Vec F S1x128x256 .f32) : Vec F S32x128x256 .f32 :=
  VecWindow.put y ![j.val, 0, 0] S1x128x256.size w

abbrev one (F : FTy → Type) [FloatOps F] : F .f32 := Scalar.ofBits .f32 0x3F800000#32

/-- A full tile's weights, errors, running error sums and sigmoids. -/
def tW (o : RowOps F) (k : Vec F S1x256x128 .bf16) (a : Carry F) : FVec F S512x256 .f32 := k0_pay11 (k0_pay88 (F := F)) o.q o.b a.1 k
def tE (o : RowOps F) (k v : Vec F S1x256x128 .bf16) (a : Carry F) : FVec F S512x256 .f32 := k0_pay12 (k0_pay88 (F := F)) o.q o.d o.b a.1 k v
def tP (o : RowOps F) (k v : Vec F S1x256x128 .bf16) (a : Carry F) : FVec F S512x256 .f32 := k0_pay13 (k0_pay88 (F := F)) (k0_pay89 (F := F)) o.q o.d o.b a.1 a.2.1 k v
def tB (o : RowOps F) (k : Vec F S1x256x128 .bf16) : FVec F S512x256 .f32 := k0_pay14 o.q k

/-- A full tile's carry. -/
def tC (o : RowOps F) (k v : Vec F S1x256x128 .bf16) (a : Carry F) : Carry F :=
  (k0_pay111 a.1 (k0_pay9 o.q k), k0_pay112 a.2.1 (tE o k v a), k0_pay113 a.2.2 (k0_pay6 k) (tE o k v a) (tP o k v a) (tB o k) (one F))

/-- A full tile's slots of the two accumulators. -/
def tK (o : RowOps F) (k v : Vec F S1x256x128 .bf16) (a : Carry F) (s : Vec F S1x128x256 .f32) : Vec F S1x128x256 .f32 :=
  k0_pay109 o.qt (tE o k v a) (tP o k v a) (tB o k) (one F) s
def tV (o : RowOps F) (k : Vec F S1x256x128 .bf16) (a : Carry F) (s : Vec F S1x128x256 .f32) : Vec F S1x128x256 .f32 :=
  k0_pay110 o.dt (tW o k a) s

/-- The state of a point's tiles: the carry and the two accumulators. -/
abbrev St (F : FTy → Type) [FloatOps F] := Carry F × Vec F S32x128x256 .f32 × Vec F S32x128x256 .f32

/-- One full tile. -/
def tile (o : RowOps F) (x3 x4 : Vec F S1x8192x128 .bf16) (j : Fin 32) (s : St F) : St F :=
  (tC o (kwin x3 j) (kwin x4 j) s.1, setSlot s.2.1 j (tK o (kwin x3 j) (kwin x4 j) s.1 (slot s.2.1 j)),
    setSlot s.2.2 j (tV o (kwin x3 j) s.1 (slot s.2.2 j)))

/-- Full tiles, from tile `l` on. -/
def tiles (o : RowOps F) (x3 x4 : Vec F S1x8192x128 .bf16) (l : ℕ) (s : St F) : ℕ → St F
  | 0 => s
  | n + 1 => if h : l + n < 32 then tile o x3 x4 ⟨l + n, h⟩ (tiles o x3 x4 l s n) else tiles o x3 x4 l s n

/-! ## The generated loop's trips are these tiles -/

section Trips

variable (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole)
  (v16 : IVec S512x256 1) (v33 : BitVec 32) (hw : k0_chk1 i v33) (v35 : BitVec 32) (o : RowOps F) (v83 : FVec F S512x1 .f32) (v84 : FVec F S512x1 .f32)
  (X3 : BufTy.Contents (Elt F) arg3.view.ty) (X4 : BufTy.Contents (Elt F) arg4.view.ty)

theorem tripR (k : Fin (k0_t1_loop i v33).trips) (a : Carry F) (f11 : BufTy.Contents (Elt F) arg11.view.ty) (f12 : BufTy.Contents (Elt F) arg12.view.ty)
    (j : Fin 32) (hj : j.val = lot i v33 + k.val) :
    tripR_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay88 (F := F)) (k0_pay89 (F := F)) v16 v33 hw v35 o.q o.d o.qt o.dt o.b v83 v84 X3 X4 k a f11 f12
      = tC o (kwin (arg3.view.read (Elt F) X3) j) (kwin (arg4.view.read (Elt F) X4) j) a := by
  have e3 : arg3.view.readAt (Elt F) (Rect.unit (s := S1x8192x128) (k0_off1 i v33 k) S1x256x128.size (k0_off1_inb i v33 hw k)).toLoadRect X3 = kwin (arg3.view.read (Elt F) X3) j :=
    View.readAt_unit _ _ _ (by rw [off1_eq, hj]) (kwin_inb j)
  have e4 : arg4.view.readAt (Elt F) (Rect.unit (s := S1x8192x128) (k0_off1 i v33 k) S1x256x128.size (k0_off1_inb i v33 hw k)).toLoadRect X4 = kwin (arg4.view.read (Elt F) X4) j :=
    View.readAt_unit _ _ _ (by rw [off1_eq, hj]) (kwin_inb j)
  rw [← e3, ← e4]
  unfold tripR_k0_t1 trip_k0_t1
  rfl

theorem tripL (k : Fin (k0_t1_loop i v33).trips) (a : Carry F) (f11 : BufTy.Contents (Elt F) arg11.view.ty) (f12 : BufTy.Contents (Elt F) arg12.view.ty)
    (j : Fin 32) (hj : j.val = lot i v33 + k.val) :
    tripL_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay88 (F := F)) (k0_pay89 (F := F)) v16 v33 hw v35 o.q o.d o.qt o.dt o.b v83 v84 X3 X4 k a f11 f12
      = ([⟨Rect.unit (s := S32x128x256) (k0_off2 i v33 k) S1x128x256.size (k0_off2_inb i v33 hw k),
            tK o (kwin (arg3.view.read (Elt F) X3) j) (kwin (arg4.view.read (Elt F) X4) j) a (slot (arg11.view.read (Elt F) f11) j)⟩],
          [⟨Rect.unit (s := S32x128x256) (k0_off2 i v33 k) S1x128x256.size (k0_off2_inb i v33 hw k),
            tV o (kwin (arg3.view.read (Elt F) X3) j) a (slot (arg12.view.read (Elt F) f12) j)⟩]) := by
  have e3 : arg3.view.readAt (Elt F) (Rect.unit (s := S1x8192x128) (k0_off1 i v33 k) S1x256x128.size (k0_off1_inb i v33 hw k)).toLoadRect X3 = kwin (arg3.view.read (Elt F) X3) j :=
    View.readAt_unit _ _ _ (by rw [off1_eq, hj]) (kwin_inb j)
  have e4 : arg4.view.readAt (Elt F) (Rect.unit (s := S1x8192x128) (k0_off1 i v33 k) S1x256x128.size (k0_off1_inb i v33 hw k)).toLoadRect X4 = kwin (arg4.view.read (Elt F) X4) j :=
    View.readAt_unit _ _ _ (by rw [off1_eq, hj]) (kwin_inb j)
  have e11 : arg11.view.readAt (Elt F) (Rect.unit (s := S32x128x256) (k0_off2 i v33 k) S1x128x256.size (k0_off2_inb i v33 hw k)).toLoadRect f11 = slot (arg11.view.read (Elt F) f11) j :=
    View.readAt_unit _ _ _ (by rw [off2_eq, hj]) (swin_inb j)
  have e12 : arg12.view.readAt (Elt F) (Rect.unit (s := S32x128x256) (k0_off2 i v33 k) S1x128x256.size (k0_off2_inb i v33 hw k)).toLoadRect f12 = slot (arg12.view.read (Elt F) f12) j :=
    View.readAt_unit _ _ _ (by rw [off2_eq, hj]) (swin_inb j)
  rw [← e3, ← e4, ← e11, ← e12]
  unfold tripL_k0_t1 trip_k0_t1
  rfl

/-- The loop's state before trip `n`, with what its pieces leave in the two accumulators, is the tiles'. -/
theorem st_eq (G11 : BufTy.Contents (Elt F) arg11.view.ty) (G12 : BufTy.Contents (Elt F) arg12.view.ty) (init : Carry F)
    (n : ℕ) (hn : n ≤ (k0_t1_loop i v33).trips) :
    ((st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay88 (F := F)) (k0_pay89 (F := F)) v16 v33 hw v35 o.q o.d o.qt o.dt o.b v83 v84 X3 X4 G11 G12 init n).1,
      arg11.view.read (Elt F) (arg11.view.writes (Elt F) G11 (st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay88 (F := F)) (k0_pay89 (F := F)) v16 v33 hw v35 o.q o.d o.qt o.dt o.b v83 v84 X3 X4 G11 G12 init n).2.1),
      arg12.view.read (Elt F) (arg12.view.writes (Elt F) G12 (st_k0_t1 (F := F) Variants.none c none i arg2 harg2 arg3 harg3 arg4 harg4 arg5 harg5 arg6 harg6 arg7 harg7 arg8 harg8 arg9 harg9 arg10 harg10 arg11 harg11 arg12 harg12 (BitVec.ofNat 32 (i 1).val) (k0_pay88 (F := F)) (k0_pay89 (F := F)) v16 v33 hw v35 o.q o.d o.qt o.dt o.b v83 v84 X3 X4 G11 G12 init n).2.2))
      = tiles o (arg3.view.read (Elt F) X3) (arg4.view.read (Elt F) X4) (lot i v33) (init, arg11.view.read (Elt F) G11, arg12.view.read (Elt F) G12) n := by
  induction n with
  | zero => rfl
  | succ n ih =>
    have hlt : n < (k0_t1_loop i v33).trips := hn
    have hj := t1_lt i v33 ⟨n, hlt⟩
    have hi := i1_lt i
    have h32 : lot i v33 + n < 32 := by simp only at hj; omega
    have ih := ih (by omega)
    rw [show n + 1 = (⟨n, hlt⟩ : Fin (k0_t1_loop i v33).trips).val + 1 from rfl, st_k0_t1_succ]
    have hR := fun a f g => tripR (F := F) c i arg2 harg2 arg3 harg3 arg4 harg4 arg5 harg5 arg6 harg6 arg7 harg7 arg8 harg8 arg9 harg9 arg10 harg10 arg11 harg11 arg12 harg12 v16 v33 hw v35 o v83 v84 X3 X4 ⟨n, hlt⟩ a f g ⟨lot i v33 + n, h32⟩ rfl
    have hL := fun a f g => tripL (F := F) c i arg2 harg2 arg3 harg3 arg4 harg4 arg5 harg5 arg6 harg6 arg7 harg7 arg8 harg8 arg9 harg9 arg10 harg10 arg11 harg11 arg12 harg12 v16 v33 hw v35 o v83 v84 X3 X4 ⟨n, hlt⟩ a f g ⟨lot i v33 + n, h32⟩ rfl
    show _ = (if h : lot i v33 + n < 32 then tile o _ _ ⟨lot i v33 + n, h⟩ (tiles o _ _ (lot i v33) _ n) else _)
    rw [dif_pos h32, ← ih]
    rw [hR, hL]
    refine Prod.ext rfl (Prod.ext ?_ ?_)
    · dsimp only [List.cons_append, List.nil_append]
      exact View.read_writes_cons_put (s := S32x128x256) (off := k0_off2 i v33 ⟨n, hlt⟩) (off' := ![lot i v33 + n, 0, 0]) (size := S1x128x256.size) _ _ _ _ _ (off2_eq i v33 ⟨n, hlt⟩)
    · dsimp only [List.cons_append, List.nil_append]
      exact View.read_writes_cons_put (s := S32x128x256) (off := k0_off2 i v33 ⟨n, hlt⟩) (off' := ![lot i v33 + n, 0, 0]) (size := S1x128x256.size) _ _ _ _ _ (off2_eq i v33 ⟨n, hlt⟩)

end Trips

end Cert.Attn

end
-- ==== Proof.Body.lean ====
module

public import proofs.«01_k».proof.Proof.Bounds
public import proofs.«01_k».proof.Proof.Gen.KernelIdeal.Loops
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- The condition of the accumulators' clearing, as the body computes it. -/
abbrev cond1 (i : grid0.Coords) : Prop := Scalar.cmpi .ne (Scalar.extui (Scalar.cmpi .eq (BitVec.ofNat 32 (i 1).val) 0#32) : BitVec 32) 0#32 = 1#1

theorem _root_.Cert.KernelIdeal.Gen.k0_chk1_all (i : grid0.Coords) (v : BitVec 32) : k0_chk1 i v := chk1_all i v

set_option maxHeartbeats 2000000 in
/-- A point that clears the accumulators and does not write the gradients of the keys and values out. -/
def runA (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    Σ' (L8 : List (View.Piece (Elt F) S256x128 .bf16)) (Y11 : Vec F S32x128x256 .f32), { Y12 : Vec F S32x128x256 .f32 //
      ∀ (f8 : BufTy.Contents (Elt F) arg8.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} f8) ∗ owns (c : Thread nD τ) arg11 fullShare y11 ∗ owns (c : Thread nD τ) arg12 fullShare y12
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) f8 L8) ∗ owns (c : Thread nD τ) arg11 fullShare Y11 ∗ owns (c : Thread nD τ) arg12 fullShare Y12) -∗ K ⟨⟩))
          ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun f8 E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, H8, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg11.eq_unread hf11
    obtain rfl := harg12.eq_unread hf12
    sl_unfold [cc0_attn_bwd]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H11]
    · iexists _; isplitr; swap; · iexact H11
      ipureintro; rfl
    iexists _; isplitr; swap; · iexact H12
    ipureintro; rfl

set_option maxHeartbeats 2000000 in
/-- A point that neither clears the accumulators nor writes the gradients of the keys and values out. -/
def runB (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    Σ' (L8 : List (View.Piece (Elt F) S256x128 .bf16)) (Y11 : Vec F S32x128x256 .f32), { Y12 : Vec F S32x128x256 .f32 //
      ∀ (f8 : BufTy.Contents (Elt F) arg8.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} f8) ∗ owns (c : Thread nD τ) arg11 fullShare y11 ∗ owns (c : Thread nD τ) arg12 fullShare y12
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) f8 L8) ∗ owns (c : Thread nD τ) arg11 fullShare Y11 ∗ owns (c : Thread nD τ) arg12 fullShare Y12) -∗ K ⟨⟩))
          ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, fun f8 E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, H8, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg11.eq_unread hf11
    obtain rfl := harg12.eq_unread hf12
    sl_unfold [cc0_attn_bwd]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H11]
    · iexists _; isplitr; swap; · iexact H11
      ipureintro; rfl
    iexists _; isplitr; swap; · iexact H12
    ipureintro; rfl

end Cert.Attn

end
-- ==== Proof.BodyC.lean ====
module

public import proofs.«01_k».proof.Proof.Bounds
public import proofs.«01_k».proof.Proof.Body
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

set_option maxHeartbeats 2000000 in
/-- A point that does not clear the accumulators and writes the gradients of the keys and values out. -/
def runC (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    Σ' (L8 : List (View.Piece (Elt F) S256x128 .bf16)) (L9 : List (View.Piece (Elt F) S8192x128 .bf16)) (L10 : List (View.Piece (Elt F) S8192x128 .bf16)) (Y11 : Vec F S32x128x256 .f32), { Y12 : Vec F S32x128x256 .f32 //
      ∀ (f8 : BufTy.Contents (Elt F) arg8.view.ty) (f9 : BufTy.Contents (Elt F) arg9.view.ty) (f10 : BufTy.Contents (Elt F) arg10.view.ty) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ owns (c : Thread nD τ) arg11 fullShare y11 ∗ owns (c : Thread nD τ) arg12 fullShare y12
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg8.view.loc (c : Thread nD τ) ↦[arg8.view.set]{fullShare} arg8.view.writes (Elt F) f8 L8) ∗ (arg9.view.loc (c : Thread nD τ) ↦[arg9.view.set]{fullShare} arg9.view.writes (Elt F) f9 L9) ∗ (arg10.view.loc (c : Thread nD τ) ↦[arg10.view.set]{fullShare} arg10.view.writes (Elt F) f10 L10) ∗ owns (c : Thread nD τ) arg11 fullShare Y11 ∗ owns (c : Thread nD τ) arg12 fullShare Y12) -∗ K ⟨⟩))
          ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun f8 f9 f10 E K => ?run⟩
  case run =>
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, H8, H9, H10, ⟨%f11, %hf11, H11⟩, ⟨%f12, %hf12, H12⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg11.eq_unread hf11
    obtain rfl := harg12.eq_unread hf12
    sl_unfold [cc0_attn_bwd]
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexact H8
    isplitl [H9]
    · iexact H9
    isplitl [H10]
    · iexact H10
    isplitl [H11]
    · iexists _; isplitr; swap; · iexact H11
      ipureintro; rfl
    iexists _; isplitr; swap; · iexact H12
    ipureintro; rfl

end Cert.Attn

end
-- ==== Proof.Spec.lean ====
module

public import proofs.«01_k».proof.Proof.Bounds
public import proofs.«01_k».proof.Proof.Trip
public import proofs.«01_k».proof.Proof.Body
public import proofs.«01_k».proof.Proof.BodyC
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

/-! ## A point, over its blocks -/

/-- The word the first tile is computed from. -/
def kfw (x7 : Vec F S1x1x8x128 .f32) : BitVec 32 := Scalar.fptosi 32 (k0_pay94 x7)

/-- The lane indices. -/
abbrev lanes : IVec S1x128 32 := iota .tc S1x128 32 [1] iota_S1x128_d1_w32

/-- The point's row operands. -/
def rowOps (x2 : Vec F S1x256x128 .bf16) (x5 : Vec F S256x128 .bf16) (x6 : Vec F S1x256x128 .f32) : RowOps F where
  q := k0_pay100 lanes (k0_pay91 x2) k0_pay95
  d := k0_pay101 lanes (k0_pay92 x5) k0_pay95
  qt := k0_pay102 lanes (k0_pay91 x2) k0_pay95
  dt := k0_pay103 lanes (k0_pay92 x5) k0_pay95
  b := k0_pay104 lanes (k0_pay93 x6) k0_pay95

/-- The diagonal tile's weights' argument. -/
def dL (o : RowOps F) (k : Vec F S1x256x128 .bf16) (a : Carry F) : FVec F S512x256 .f32 := k0_pay125 (k0_pay88 (F := F)) k0_pay90 o.q o.b a.1 k

/-- The queries' gradient after the diagonal tile, and the diagonal tile's slots of the two accumulators. -/
def dQ (o : RowOps F) (k v : Vec F S1x256x128 .bf16) (a : Carry F) : FVec F S512x128 .f32 :=
  k0_pay130 (k0_pay89 (F := F)) k0_pay90 o.d a.2.1 a.2.2 (k0_pay120 k) (k0_pay121 v) (k0_pay124 o.q k) (dL o k a)
def dK (o : RowOps F) (k v : Vec F S1x256x128 .bf16) (a : Carry F) (s : Vec F S1x128x256 .f32) : Vec F S1x128x256 .f32 :=
  k0_pay128 (k0_pay89 (F := F)) k0_pay90 o.d o.qt a.2.1 (k0_pay121 v) (k0_pay124 o.q k) (dL o k a) s
def dV (o : RowOps F) (k : Vec F S1x256x128 .bf16) (a : Carry F) (s : Vec F S1x128x256 .f32) : Vec F S1x128x256 .f32 :=
  k0_pay129 k0_pay90 o.dt (dL o k a) s

/-- The carry before the first tile. -/
abbrev carry0 (F : FTy → Type) [FloatOps F] : Carry F := (k0_pay105 (F := F), k0_pay106 (F := F), k0_pay107 (F := F))

abbrev row (i : grid0.Coords) : Fin 32 := ⟨(i 1).val, i1_lt i⟩

/-- The state before the diagonal tile. -/
def full (i : grid0.Coords) (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) : St F :=
  tiles (rowOps x2 x5 x6) x3 x4 (lot i (kfw x7)) (carry0 F, y11, y12) ((i 1).val - lot i (kfw x7))

/-- The block of the queries' gradient a point writes, and the two accumulators after it. -/
def outQ (i : grid0.Coords) (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) : Vec F S256x128 .bf16 :=
  k0_pay1 (k0_pay97 lanes) (dQ (rowOps x2 x5 x6) (kwin x3 (row i)) (kwin x4 (row i)) (full i x2 x3 x4 x5 x6 x7 y11 y12).1)
def outK (i : grid0.Coords) (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) : Vec F S32x128x256 .f32 :=
  setSlot (full i x2 x3 x4 x5 x6 x7 y11 y12).2.1 (row i) (dK (rowOps x2 x5 x6) (kwin x3 (row i)) (kwin x4 (row i)) (full i x2 x3 x4 x5 x6 x7 y11 y12).1 (slot (full i x2 x3 x4 x5 x6 x7 y11 y12).2.1 (row i)))
def outV (i : grid0.Coords) (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) : Vec F S32x128x256 .f32 :=
  setSlot (full i x2 x3 x4 x5 x6 x7 y11 y12).2.2 (row i) (dV (rowOps x2 x5 x6) (kwin x3 (row i)) (full i x2 x3 x4 x5 x6 x7 y11 y12).1 (slot (full i x2 x3 x4 x5 x6 x7 y11 y12).2.2 (row i)))

/-- The copy of the loop that has no trips leaves everything. -/
theorem st2_zero (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (v13 : FVec F S512x256 .bf16) (v14 : FVec F S512x256 .bf16) (v16 : IVec S512x256 1) (v33 : BitVec 32) (hw : k0_chk1 i v33) (v35 : BitVec 32) (v64 : FVec F S512x128 .bf16) (v65 : FVec F S512x128 .bf16) (v67 : FVec F S128x512 .bf16) (v69 : FVec F S128x512 .bf16) (v82 : FVec F S512x1 .f32) (v83 : FVec F S512x1 .f32) (v84 : FVec F S512x1 .f32) (v90 : BitVec 32)
    (X3 : BufTy.Contents (Elt F) arg3.view.ty) (X4 : BufTy.Contents (Elt F) arg4.view.ty) (G11 : BufTy.Contents (Elt F) arg11.view.ty) (G12 : BufTy.Contents (Elt F) arg12.view.ty) (init : Carry F) :
    st_k0_t2 (F := F) Variants.none c none i arg2 harg2 arg3 harg3 arg4 harg4 arg5 harg5 arg6 harg6 arg7 harg7 arg8 harg8 arg9 harg9 arg10 harg10 arg11 harg11 arg12 harg12 (BitVec.ofNat 32 (i 1).val) v13 v14 v16 v33 hw v35 v64 v65 v67 v69 v82 v83 v84 v90 X3 X4 G11 G12 init 0 = (init, [], []) := rfl

theorem trips1 (i : grid0.Coords) (v33 : BitVec 32) :
    Scf.trips (Scalar.minsi (BitVec.ofNat 32 (i 1).val) (Scalar.maxsi 0#32 v33)) (Scalar.addi (Scalar.minsi (BitVec.ofNat 32 (i 1).val) (Scalar.maxsi 0#32 v33)) (Scalar.muli (Scalar.divsi (Scalar.subi (BitVec.ofNat 32 (i 1).val) (Scalar.minsi (BitVec.ofNat 32 (i 1).val) (Scalar.maxsi 0#32 v33))) 1#32) 1#32)) 1#32 = (i 1).val - lot i v33 := t1_trips i v33

theorem trips2 (i : grid0.Coords) (v33 : BitVec 32) :
    Scf.trips (Scalar.addi (Scalar.minsi (BitVec.ofNat 32 (i 1).val) (Scalar.maxsi 0#32 v33)) (Scalar.muli (Scalar.divsi (Scalar.subi (BitVec.ofNat 32 (i 1).val) (Scalar.minsi (BitVec.ofNat 32 (i 1).val) (Scalar.maxsi 0#32 v33))) 1#32) 1#32)) (Scalar.addi (Scalar.minsi (BitVec.ofNat 32 (i 1).val) (Scalar.maxsi 0#32 v33)) (Scalar.subi (BitVec.ofNat 32 (i 1).val) (Scalar.minsi (BitVec.ofNat 32 (i 1).val) (Scalar.maxsi 0#32 v33)))) 1#32 = 0 := t2_trips i v33

theorem ld2 {sp : Space} {e : EltTy} (v : View sig .tc sp S256x128 e) (f : v.ty.Contents (Elt F)) (inb) :
    v.readAt (Elt F) (Rect.unit (s := S256x128) ![0, 0] ![256, 128] inb).toLoadRect f = v.read (Elt F) f := View.readAt_full v f inb
theorem ld3 {sp : Space} {e : EltTy} (v : View sig .tc sp S1x256x128 e) (f : v.ty.Contents (Elt F)) (inb) :
    v.readAt (Elt F) (Rect.unit (s := S1x256x128) ![0, 0, 0] ![1, 256, 128] inb).toLoadRect f = v.read (Elt F) f := View.readAt_full v f inb
theorem ld4 {sp : Space} {e : EltTy} (v : View sig .tc sp S1x1x8x128 e) (f : v.ty.Contents (Elt F)) (inb) :
    v.readAt (Elt F) (Rect.unit (s := S1x1x8x128) ![0, 0, 0, 0] ![1, 1, 8, 128] inb).toLoadRect f = v.read (Elt F) f := View.readAt_full v f inb

theorem readAt_kdiag {sp : Space} (m : Memref sig .tc sp S1x8192x128 .bf16) (i : grid0.Coords) (inb) (f : BufTy.Contents (Elt F) m.view.ty) :
    m.view.readAt (Elt F) (Rect.unit (s := S1x8192x128) (k0_off5 i) ![1, 256, 128] inb).toLoadRect f = kwin (m.view.read (Elt F) f) (row i) :=
  View.readAt_unit _ _ _ (off5_eq i) (kwin_inb (row i))

theorem readAt_sdiag {sp : Space} (m : Memref sig .tc sp S32x128x256 .f32) (i : grid0.Coords) (inb) (f : BufTy.Contents (Elt F) m.view.ty) :
    m.view.readAt (Elt F) (Rect.unit (s := S32x128x256) (k0_off6 i) ![1, 128, 256] inb).toLoadRect f = slot (m.view.read (Elt F) f) (row i) :=
  View.readAt_unit _ _ _ (off6_eq i) (swin_inb (row i))

theorem read_sdiag {sp : Space} (m : Memref sig .tc sp S32x128x256 .f32) (i : grid0.Coords) (inb) (f : BufTy.Contents (Elt F) m.view.ty)
    (w : (Rect.unit (s := S32x128x256) (k0_off6 i) ![1, 128, 256] inb).shape.Idx → Elt F .f32) (L : List (View.Piece (Elt F) S32x128x256 .f32)) :
    m.view.read (Elt F) (m.view.writes (Elt F) f (⟨Rect.unit (s := S32x128x256) (k0_off6 i) ![1, 128, 256] inb, w⟩ :: L))
      = setSlot (m.view.read (Elt F) (m.view.writes (Elt F) f L)) (row i) w :=
  View.read_writes_cons_put (s := S32x128x256) (off := k0_off6 i) (off' := ![(i 1).val, 0, 0]) (size := S1x128x256.size) _ _ _ _ _ (off6_eq i)

theorem rd11 {sp : Space} (v : View sig .tc sp S32x128x256 .f32) (f : v.ty.Contents (Elt F)) (inb) (w : Vec F S32x128x256 .f32) :
    v.read (Elt F) (v.writes (Elt F) f [⟨Rect.unit (s := S32x128x256) ![0, 0, 0] ![32, 128, 256] inb, w⟩]) = w := View.read_writes_full v f inb w []

set_option maxHeartbeats 1000000 in
theorem runB_spec (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    (runB (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).1 = [⟨Rect.unit (s := S256x128) ![0, 0] S256x128.size inb_S256x128_S256x128_0_0, outQ i x2 x3 x4 x5 x6 x7 y11 y12⟩]
    ∧ (runB (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.1 = outK i x2 x3 x4 x5 x6 x7 y11 y12
    ∧ (runB (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.1 = outV i x2 x3 x4 x5 x6 x7 y11 y12 := by
  have h := st_eq (F := F) c i arg2 harg2 arg3 harg3 arg4 harg4 arg5 harg5 arg6 harg6 arg7 harg7 arg8 harg8 arg9 harg9 arg10 harg10 arg11 harg11 arg12 harg12 k0_pay90 (kfw x7) (chk1_all i _) (Scalar.minsi (BitVec.ofNat 32 (i 1).val) (Scalar.maxsi 0#32 (kfw x7))) (rowOps x2 x5 x6)
    (k0_pay105 (F := F)) (k0_pay106 (F := F)) (harg3.unread x3) (harg4.unread x4) (harg11.unread y11) (harg12.unread y12) (carry0 F) ((i 1).val - lot i (kfw x7)) (le_of_eq (t1_trips i _).symm)
  simp only [harg3.read_unread, harg4.read_unread, harg11.read_unread, harg12.read_unread] at h
  obtain ⟨h0, h11, h12⟩ : _ ∧ _ ∧ _ := ⟨congrArg Prod.fst h, congrArg (fun p => p.2.1) h, congrArg (fun p => p.2.2) h⟩
  simp only [rowOps, kfw] at h0 h11 h12
  unfold runB
  dsimp only
  simp only [runB.sl.v34, runB.sl.v0, runB.sl.r_3, runB.sl.r_5, runB.sl.r_7, runB.sl.r_13, runB.sl.r_9, runB.sl.v33, runB.sl.v1, runB.sl.v35, runB.sl.r_11, runB.sl.v160, runB.sl.v151, runB.sl.r_10, runB.sl.r_8, runB.sl.r_12, runB.sl.v90, runB.sl.v89, runB.sl.v2, runB.sl.v88, runB.sl.v17, runB.sl.r, runB.sl.r_4, runB.sl.r_14, runB.sl.r_2, runB.sl.v86, runB.sl.r_6, runB.sl.r_1, ld2, ld3, ld4, harg2.read_unread, harg3.read_unread, harg4.read_unread, harg5.read_unread, harg6.read_unread, harg7.read_unread, harg11.read_unread, harg12.read_unread,
    st2_zero, trips1, trips2, List.nil_append, readAt_kdiag, readAt_sdiag, read_sdiag]
  rw [st2_zero]
  simp only [List.nil_append, read_sdiag]
  simp only [h0, h11, h12]
  exact ⟨rfl, rfl, rfl⟩

set_option maxHeartbeats 1000000 in
theorem runA_spec (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    (runA (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).1 = [⟨Rect.unit (s := S256x128) ![0, 0] S256x128.size inb_S256x128_S256x128_0_0, outQ i x2 x3 x4 x5 x6 x7 k0_pay86 k0_pay87⟩]
    ∧ (runA (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.1 = outK i x2 x3 x4 x5 x6 x7 k0_pay86 k0_pay87
    ∧ (runA (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.1 = outV i x2 x3 x4 x5 x6 x7 k0_pay86 k0_pay87 := by
  have h := fun G11 G12 => st_eq (F := F) c i arg2 harg2 arg3 harg3 arg4 harg4 arg5 harg5 arg6 harg6 arg7 harg7 arg8 harg8 arg9 harg9 arg10 harg10 arg11 harg11 arg12 harg12 k0_pay90 (kfw x7) (chk1_all i _) (Scalar.minsi (BitVec.ofNat 32 (i 1).val) (Scalar.maxsi 0#32 (kfw x7))) (rowOps x2 x5 x6)
    (k0_pay105 (F := F)) (k0_pay106 (F := F)) (harg3.unread x3) (harg4.unread x4) G11 G12 (carry0 F) ((i 1).val - lot i (kfw x7)) (le_of_eq (t1_trips i _).symm)
  simp only [harg3.read_unread, harg4.read_unread] at h
  unfold runA
  dsimp only
  simp only [runA.sl.v34, runA.sl.v0, runA.sl.r_3, runA.sl.r_5, runA.sl.r_7, runA.sl.r_13, runA.sl.r_9, runA.sl.v33, runA.sl.v1, runA.sl.v35, runA.sl.r_11, runA.sl.v160, runA.sl.v151, runA.sl.r_10, runA.sl.r_8, runA.sl.r_12, runA.sl.v90, runA.sl.v89, runA.sl.v2, runA.sl.v88, runA.sl.v17, runA.sl.r, runA.sl.r_4, runA.sl.r_14, runA.sl.r_2, runA.sl.v86, runA.sl.r_6, runA.sl.r_1, runA.sl.H12_1, runA.sl.H11_1, ld2, ld3, ld4, harg2.read_unread, harg3.read_unread, harg4.read_unread, harg5.read_unread, harg6.read_unread, harg7.read_unread,
    trips1, trips2, List.nil_append, readAt_kdiag, readAt_sdiag, read_sdiag]
  rw [st2_zero]
  simp only [List.nil_append, read_sdiag]
  have h := h (arg11.view.writes (Elt F) arg11.view.junk [⟨Rect.unit (s := S32x128x256) ![0, 0, 0] ![32, 128, 256] inb_S32x128x256_S32x128x256_0_0_0, k0_pay86⟩])
    (arg12.view.writes (Elt F) arg12.view.junk [⟨Rect.unit (s := S32x128x256) ![0, 0, 0] ![32, 128, 256] inb_S32x128x256_S32x128x256_0_0_0, k0_pay87⟩])
  obtain ⟨h0, h11, h12⟩ : _ ∧ _ ∧ _ := ⟨congrArg Prod.fst h, congrArg (fun p => p.2.1) h, congrArg (fun p => p.2.2) h⟩
  simp only [rowOps, kfw] at h0 h11 h12
  simp only [View.writes_append, h0, h11, h12, rd11]
  exact ⟨rfl, rfl, rfl⟩

set_option maxHeartbeats 1000000 in
theorem runC_spec (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    (runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).1 = [⟨Rect.unit (s := S256x128) ![0, 0] S256x128.size inb_S256x128_S256x128_0_0, outQ i x2 x3 x4 x5 x6 x7 y11 y12⟩]
    ∧ (runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.2.1 = outK i x2 x3 x4 x5 x6 x7 y11 y12
    ∧ (runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.2.2.1 = outV i x2 x3 x4 x5 x6 x7 y11 y12 := by
  have h := st_eq (F := F) c i arg2 harg2 arg3 harg3 arg4 harg4 arg5 harg5 arg6 harg6 arg7 harg7 arg8 harg8 arg9 harg9 arg10 harg10 arg11 harg11 arg12 harg12 k0_pay90 (kfw x7) (chk1_all i _) (Scalar.minsi (BitVec.ofNat 32 (i 1).val) (Scalar.maxsi 0#32 (kfw x7))) (rowOps x2 x5 x6)
    (k0_pay105 (F := F)) (k0_pay106 (F := F)) (harg3.unread x3) (harg4.unread x4) (harg11.unread y11) (harg12.unread y12) (carry0 F) ((i 1).val - lot i (kfw x7)) (le_of_eq (t1_trips i _).symm)
  simp only [harg3.read_unread, harg4.read_unread, harg11.read_unread, harg12.read_unread] at h
  obtain ⟨h0, h11, h12⟩ : _ ∧ _ ∧ _ := ⟨congrArg Prod.fst h, congrArg (fun p => p.2.1) h, congrArg (fun p => p.2.2) h⟩
  simp only [rowOps, kfw] at h0 h11 h12
  unfold runC
  dsimp only
  simp only [runC.sl.v89, runC.sl.r_10, runC.sl.H12_1, runC.sl.r_4, runC.sl.r_9, runC.sl.r, runC.sl.r_7, runC.sl.v1, runC.sl.r_3, runC.sl.v2, runC.sl.v35, runC.sl.r_15, runC.sl.v160, runC.sl.r_14, runC.sl.r_12, runC.sl.r_21, runC.sl.r_13, runC.sl.v151, runC.sl.r_2, runC.sl.r_8, runC.sl.r_1, runC.sl.r_19, runC.sl.r_11, runC.sl.r_5, runC.sl.r_16, runC.sl.v88, runC.sl.v17, runC.sl.v33, runC.sl.r_6, runC.sl.H11_1, runC.sl.v0, runC.sl.v90, runC.sl.r_18, runC.sl.r_17, runC.sl.v34, runC.sl.v86, runC.sl.r_20, ld2, ld3, ld4, harg2.read_unread, harg3.read_unread, harg4.read_unread, harg5.read_unread, harg6.read_unread, harg7.read_unread, harg11.read_unread, harg12.read_unread,
    st2_zero, trips1, trips2, List.nil_append, readAt_kdiag, readAt_sdiag, read_sdiag]
  rw [st2_zero]
  simp only [List.nil_append, read_sdiag]
  simp only [h0, h11, h12]
  exact ⟨rfl, rfl, rfl⟩

end Cert.Attn

end
-- ==== Proof.Pay.lean ====
module

public import proofs.«01_k».proof.Proof.Row
public import proofs.«01_k».proof.Proof.Spec
public import Idealize.ShloMosaic.Lib.Pointwise

@[expose] public section

set_option maxRecDepth 65536

noncomputable section

namespace Cert.Attn

open Cert.KernelIdeal Cert.KernelIdeal.Gen
open Idealize.ShloMosaic Idealize.ShloMosaic.TcCoe Idealize.SL.Sem

/-- What a point's rows hold over the reals. -/
structure Rows (o : RowOps Ideal) (qs ds : Fin 512 → Fin 128 → ℝ) (B : Fin 512 → ℝ) : Prop where
  q : ∀ r l, o.q (ix2 r l) = ((qs r l : ℝ) : EReal)
  d : ∀ r l, o.d (ix2 r l) = ((ds r l : ℝ) : EReal)
  qt : ∀ l r, o.qt (ix2 l r) = ((qs r l : ℝ) : EReal)
  dt : ∀ l r, o.dt (ix2 l r) = ((ds r l : ℝ) : EReal)
  b : ∀ r, o.b (ix2 r 0) = ((B r : ℝ) : EReal)

/-- A tile's keys or values over the reals: the rows from `n` on. -/
def TileOf (k : Vec Ideal S1x256x128 .bf16) (K : ℕ → Fin 128 → ℝ) (n : ℕ) : Prop := ∀ (c : Fin 256) (l : Fin 128), k (ix3 0 c l) = ((K (n + c.val) l : ℝ) : EReal)

/-- A row's products with the rows of an array. -/
def dotr (qs : Fin 512 → Fin 128 → ℝ) (K : ℕ → Fin 128 → ℝ) (r : Fin 512) (s : ℕ) : ℝ := ∑ l, qs r l * K s l

/-! ## Scalars -/

theorem absE (x : ℝ) : (FloatOps.absf (F := Ideal) (φ := .f32) (x : EReal) : EReal) = ((|x| : ℝ) : EReal) := by
  show max (x : EReal) (-(x : EReal)) = _
  rw [← EReal.coe_neg]; exact (EReal.coe_strictMono.monotone.map_max).symm

theorem sitE (p : Prop) [Decidable p] : (FloatOps.sitofp (F := Ideal) .f32 ((BitVec.ofBool (decide p)).setWidth 32) : EReal) = ((if p then 1 else 0 : ℝ) : EReal) := by
  by_cases h : p
  · simp only [h, decide_true, if_true]
    show (((((BitVec.ofBool true).setWidth 32).toInt : ℤ) : ℝ) : EReal) = _
    rw [show ((BitVec.ofBool true).setWidth 32).toInt = 1 by decide]
    norm_num
  · simp only [h, decide_false, if_false]
    show (((((BitVec.ofBool false).setWidth 32).toInt : ℤ) : ℝ) : EReal) = _
    rw [show ((BitVec.ofBool false).setWidth 32).toInt = 0 by decide]
    norm_num

theorem maxE (x : ℝ) : max (x : EReal) 0 = ((max x 0 : ℝ) : EReal) := by
  rw [← EReal.coe_zero]; exact (EReal.coe_strictMono.monotone.map_max).symm

theorem spE (x : ℝ) : max (x : EReal) 0 + Ideal.log (1 + Ideal.exp (0 - ((|x| : ℝ) : EReal))) = ((sp x : ℝ) : EReal) := by
  rw [maxE, ← EReal.coe_zero, ← EReal.coe_sub, Ideal.exp_coe, ← EReal.coe_one, ← EReal.coe_add, Ideal.log_coe, if_neg (by have := one_add_exp_pos (0 - |x|); linarith), ← EReal.coe_add, zero_sub]
  rfl

theorem subE (x y : ℝ) : (x : EReal) - y = ((x - y : ℝ) : EReal) := (EReal.coe_sub x y).symm

/-- A tile's prefix sums: the tile in its high part and what that leaves, against a matrix of zeros and ones. -/
theorem prefixE (f : ℕ → ℝ) (x u v : Fin 256 → EReal) (k : ℕ) (hk : k ≤ 256) (hx : ∀ i : Fin 256, x i = ((f i.val : ℝ) : EReal))
    (hu : ∀ i : Fin 256, u i = ((if i.val < k then 1 else 0 : ℝ) : EReal)) (hv : ∀ i : Fin 256, v i = ((if i.val < k then 1 else 0 : ℝ) : EReal)) :
    ∑ i, x i * u i + ∑ i, (x i - x i) * v i = ((∑ i ∈ Finset.range k, f i : ℝ) : EReal) := by
  simp only [hx, hu, hv, subE, ← EReal.coe_mul, ← coe_sum, ← EReal.coe_add, sub_self, zero_mul, Finset.sum_const_zero, add_zero]
  rw [← sum_cut f 256 k hk]
  simp only [mul_ite, mul_one, mul_zero]

theorem dotE {n : ℕ} (x y : Fin n → EReal) (f g : Fin n → ℝ) (hx : ∀ i, x i = ((f i : ℝ) : EReal)) (hy : ∀ i, y i = ((g i : ℝ) : EReal)) :
    ∑ i, x i * y i = ((∑ i, f i * g i : ℝ) : EReal) := by
  simp only [hx, hy, ← EReal.coe_mul, ← coe_sum]

/-! ## The matrices of zeros and ones -/

theorem pay88_apply (k : Fin 512) (c : Fin 256) : (k0_pay88 (F := Ideal)) (ix2 k c) = ((if k.val % 256 < c.val + 1 then 1 else 0 : ℝ) : EReal) := by
  have hk := k.isLt
  have hc := c.isLt
  pointwise [k0_pay88]
  by_cases h : k.val < 256
  · rw [dif_pos h, WordCmp.cmpi_sle_ofNat (by omega) (by omega), sitE]
    simp only [Nat.lt_succ_iff, Nat.mod_eq_of_lt h]
  · rw [dif_neg h, WordCmp.cmpi_sle_ofNat (by omega) (by omega), sitE]
    simp only [Nat.lt_succ_iff, show k.val % 256 = k.val - 256 by omega]

theorem pay89_apply (k : Fin 512) (c : Fin 256) : (k0_pay89 (F := Ideal)) (ix2 k c) = ((if k.val % 256 < c.val then 1 else 0 : ℝ) : EReal) := by
  have hk := k.isLt
  have hc := c.isLt
  pointwise [k0_pay89]
  by_cases h : k.val < 256
  · rw [dif_pos h, WordCmp.cmpi_slt_ofNat (by omega) (by omega), sitE]
    simp only [Nat.mod_eq_of_lt h]
  · rw [dif_neg h, WordCmp.cmpi_slt_ofNat (by omega) (by omega), sitE]
    simp only [show k.val % 256 = k.val - 256 by omega]

theorem pay90_apply (k : Fin 512) (c : Fin 256) : (k0_pay90) (ix2 k c) = BitVec.ofBool (decide (c.val < k.val % 256)) := by
  have hk := k.isLt
  have hc := c.isLt
  pointwise [k0_pay90]
  by_cases h : k.val < 256
  · rw [dif_pos h, WordCmp.cmpi_slt_ofNat (by omega) (by omega)]
    simp only [Nat.mod_eq_of_lt h]
  · rw [dif_neg h, WordCmp.cmpi_slt_ofNat (by omega) (by omega)]
    simp only [show k.val % 256 = k.val - 256 by omega]

/-! ## A full tile -/

section Full

variable {o : RowOps Ideal} {qs ds : Fin 512 → Fin 128 → ℝ} {B : Fin 512 → ℝ} (ho : Rows o qs ds B) {k v : Vec Ideal S1x256x128 .bf16} {K V : ℕ → Fin 128 → ℝ}
  {n : ℕ} (hk : TileOf k K n) (hv : TileOf v V n) (r : Fin 512) (c : Fin 256)

include ho hk

theorem pay7_apply : k0_pay7 o.q k (ix2 r c) = ((dotr qs K r (n + c.val) : ℝ) : EReal) := by
  pointwise [k0_pay7, k0_pay6]
  exact dotE _ _ _ _ (fun l => ho.q r l) fun l => hk c l

theorem pay8_apply : k0_pay8 o.q k (ix2 r c) = ((sp (dotr qs K r (n + c.val)) : ℝ) : EReal) := by
  pointwise [k0_pay8, pay7_apply ho hk r c]
  rw [absE, spE]

theorem pay9_apply : k0_pay9 o.q k (ix2 r c) = ((-sp (dotr qs K r (n + c.val)) : ℝ) : EReal) := by
  pointwise [k0_pay9, pay8_apply ho hk r c]
  simp

theorem pay10_apply : k0_pay10 o.q k (ix2 r c) = ((dotr qs K r (n + c.val) - sp (dotr qs K r (n + c.val)) : ℝ) : EReal) := by
  pointwise [k0_pay10, pay7_apply ho hk r c, pay8_apply ho hk r c]
  rw [subE]

theorem tB_apply : tB o k (ix2 r c) = ((bq (dotr qs K r) (n + c.val) : ℝ) : EReal) := by
  pointwise [tB, k0_pay14, pay10_apply ho hk r c]
  rfl

/-- The carry before a tile over the reals. -/
structure CarryOf (a : Carry Ideal) (qs ds : Fin 512 → Fin 128 → ℝ) (B : Fin 512 → ℝ) (K V : ℕ → Fin 128 → ℝ) (n : ℕ) : Prop where
  b : ∀ r, a.1 (ix2 r 0) = ((∑ i ∈ Finset.range n, -sp (dotr qs K r i) : ℝ) : EReal)
  p : ∀ r, a.2.1 (ix2 r 0) = ((∑ i ∈ Finset.range n, eq (dotr qs K r) (dotr ds V r) (B r) i : ℝ) : EReal)
  q : ∀ r l, a.2.2 (ix2 r l) = ((∑ i ∈ Finset.range n, dq (dotr qs K r) (dotr ds V r) (B r) i * K i l : ℝ) : EReal)

variable {a : Carry Ideal} (ha : CarryOf a qs ds B K V n)
include ha

theorem tW_apply : tW o k a (ix2 r c) = ((wq (dotr qs K r) (B r) (n + c.val) : ℝ) : EReal) := by
  pointwise [tW, k0_pay11]
  rw [prefixE (fun i => -sp (dotr qs K r (n + i))) _ _ _ (c.val + 1) c.isLt (fun i => pay9_apply ho hk r i) (fun i => ?_) (fun i => ?_),
    pay10_apply ho hk r c, ho.b r, ha.b r, ← EReal.coe_add, ← EReal.coe_sub, ← EReal.coe_add, Ideal.exp_coe, ← Finset.sum_range_add]
  · rfl
  · rw [pay88_apply]
    have := i.isLt
    simp only [Nat.mod_eq_of_lt this]
  · rw [pay88_apply]
    have := i.isLt
    simp only [show (256 + i.val) % 256 = i.val by omega]

include hv

theorem tE_apply : tE o k v a (ix2 r c) = ((eq (dotr qs K r) (dotr ds V r) (B r) (n + c.val) : ℝ) : EReal) := by
  have hw := tW_apply ho hk r c ha
  unfold tW at hw
  pointwise [tE, k0_pay12, hw]
  rw [dotE _ _ _ _ (fun l => ho.d r l) fun l => hv c l, ← EReal.coe_mul]
  rfl

theorem tP_apply : tP o k v a (ix2 r c) = ((pq (dotr qs K r) (dotr ds V r) (B r) (n + c.val) : ℝ) : EReal) := by
  have he := fun i => tE_apply ho hk hv r i ha
  unfold tE at he
  pointwise [tP, k0_pay13]
  rw [prefixE (fun i => eq (dotr qs K r) (dotr ds V r) (B r) (n + i)) _ _ _ c.val c.isLt.le he (fun i => ?_) (fun i => ?_),
    ha.p r, ← EReal.coe_add, ← Finset.sum_range_add]
  · rfl
  · rw [pay89_apply]
    have := i.isLt
    simp only [Nat.mod_eq_of_lt this]
  · rw [pay89_apply]
    have := i.isLt
    simp only [show (256 + i.val) % 256 = i.val by omega]

theorem pay108_apply : k0_pay108 (tE o k v a) (tP o k v a) (tB o k) (one Ideal) (ix2 r c) = ((dq (dotr qs K r) (dotr ds V r) (B r) (n + c.val) : ℝ) : EReal) := by
  pointwise [k0_pay108, tE_apply ho hk hv r c ha, tP_apply ho hk hv r c ha, tB_apply ho hk r c]
  rw [← EReal.coe_one, ← EReal.coe_sub, ← EReal.coe_mul, ← EReal.coe_mul, ← EReal.coe_sub]
  rfl

omit r c in
theorem tC_carry : CarryOf (tC o k v a) qs ds B K V (n + 256) := by
  constructor
  · intro r
    pointwise [tC, k0_pay111]
    rw [ha.b r, Finset.sum_range_add, EReal.coe_add, Finset.sum_range, coe_sum Finset.univ]
    exact congrArg _ (Finset.sum_congr rfl fun c _ => pay9_apply ho hk r c)
  · intro r
    pointwise [tC, k0_pay112]
    rw [ha.p r, Finset.sum_range_add, EReal.coe_add, Finset.sum_range (fun x => eq (dotr qs K r) (dotr ds V r) (B r) (n + x)), coe_sum Finset.univ]
    exact congrArg _ (Finset.sum_congr rfl fun c _ => tE_apply ho hk hv r c ha)
  · intro r l
    have hd := fun c => pay108_apply ho hk hv r c ha
    pointwise [tC, k0_pay113, k0_pay6]
    pointwise at hd
    rw [ha.q r l, Finset.sum_range_add, EReal.coe_add, Finset.sum_range (fun x => dq (dotr qs K r) (dotr ds V r) (B r) (n + x) * K (n + x) l)]
    exact congrArg _ (dotE _ _ _ _ hd fun c => hk c l)

theorem tK_apply (s : Vec Ideal S1x128x256 .f32) (l : Fin 128) :
    tK o k v a s (ix3 0 l c) = s (ix3 0 l c) + ((∑ r, qs r l * dq (dotr qs K r) (dotr ds V r) (B r) (n + c.val) : ℝ) : EReal) := by
  have hd := fun r => pay108_apply ho hk hv r c ha
  pointwise [tK, k0_pay109]
  pointwise at hd
  exact congrArg _ (dotE _ _ _ _ (fun r => ho.qt l r) hd)

omit hv in
theorem tV_apply (s : Vec Ideal S1x128x256 .f32) (l : Fin 128) :
    tV o k a s (ix3 0 l c) = s (ix3 0 l c) + ((∑ r, ds r l * wq (dotr qs K r) (B r) (n + c.val) : ℝ) : EReal) := by
  pointwise [tV, k0_pay110]
  exact congrArg _ (dotE _ _ _ _ (fun r => ho.dt l r) fun r => tW_apply ho hk r c ha)

end Full

/-! ## The diagonal tile -/

section Diag

variable {o : RowOps Ideal} {qs ds : Fin 512 → Fin 128 → ℝ} {B : Fin 512 → ℝ} (ho : Rows o qs ds B) {k v : Vec Ideal S1x256x128 .bf16} {K V : ℕ → Fin 128 → ℝ}
  {n : ℕ} (hk : TileOf k K n) (hv : TileOf v V n) (r : Fin 512) (c : Fin 256)

include ho hk

theorem pay122_apply : k0_pay122 o.q k (ix2 r c) = ((dotr qs K r (n + c.val) : ℝ) : EReal) := by
  pointwise [k0_pay122, k0_pay120]
  exact dotE _ _ _ _ (fun l => ho.q r l) fun l => hk c l

theorem pay123_apply : k0_pay123 o.q k (ix2 r c) = ((sp (dotr qs K r (n + c.val)) : ℝ) : EReal) := by
  pointwise [k0_pay123, pay122_apply ho hk r c]
  rw [absE, spE]

theorem pay124_apply : k0_pay124 o.q k (ix2 r c) = ((dotr qs K r (n + c.val) - sp (dotr qs K r (n + c.val)) : ℝ) : EReal) := by
  pointwise [k0_pay124, pay122_apply ho hk r c, pay123_apply ho hk r c]
  rw [subE]

variable {a : Carry Ideal} (ha : CarryOf a qs ds B K V n)
include ha

/-- The diagonal tile's weights where they are kept. -/
theorem dL_apply (h : c.val < r.val % 256) : dL o k a (ix2 r c) = ((wq (dotr qs K r) (B r) (n + c.val) : ℝ) : EReal) := by
  pointwise [dL, k0_pay125]
  have hx : ∀ i : Fin 256, Scalar.select (k0_pay90 (ix2 r i)) (0 - k0_pay123 o.q k (ix2 r i)) 0 = ((if i.val < r.val % 256 then -sp (dotr qs K r (n + i.val)) else 0 : ℝ) : EReal) := fun i => by
    rw [pay90_apply, Scalar.select_decide, pay123_apply ho hk r i]
    split_ifs
    · simp
    · simp
  have hy : ∀ (i : Fin 256) (u : EReal), Scalar.select (k0_pay90 (ix2 r i)) ((0 - k0_pay123 o.q k (ix2 r i)) * u) 0 = ((if i.val < r.val % 256 then -sp (dotr qs K r (n + i.val)) else 0 : ℝ) : EReal) * u := fun i u => by
    rw [← hx, pay90_apply, Scalar.select_decide, Scalar.select_decide]
    split_ifs
    · rfl
    · rw [zero_mul]
  simp only [hx, hy]
  rw [prefixE (fun i => if i < r.val % 256 then -sp (dotr qs K r (n + i)) else 0) _ _ _ (c.val + 1) c.isLt (fun i => rfl) (fun i => ?_) (fun i => ?_),
    pay124_apply ho hk r c, ho.b r, ha.b r, ← EReal.coe_add, ← EReal.coe_sub, ← EReal.coe_add, Ideal.exp_coe,
    Finset.sum_congr (g := fun i => -sp (dotr qs K r (n + i))) rfl (fun i hi => if_pos (by have := Finset.mem_range.1 hi; omega)), ← Finset.sum_range_add]
  · rfl
  · rw [pay88_apply]
    have := i.isLt
    simp only [Nat.mod_eq_of_lt this]
  · rw [pay88_apply]
    have := i.isLt
    simp only [show (256 + i.val) % 256 = i.val by omega]

/-- The diagonal tile's weights, zero where they are masked. -/
theorem pay126_apply : k0_pay126 k0_pay90 (dL o k a) (ix2 r c) = ((if c.val < r.val % 256 then wq (dotr qs K r) (B r) (n + c.val) else 0 : ℝ) : EReal) := by
  pointwise [k0_pay126]
  rw [pay90_apply, Scalar.select_decide]
  split_ifs with h
  · exact dL_apply ho hk r c ha h
  · simp

include hv

theorem dE_apply : k0_pay126 k0_pay90 (dL o k a) (ix2 r c) * ∑ l, o.d (ix2 r l) * k0_pay121 v (ix2 c l)
    = ((if c.val < r.val % 256 then eq (dotr qs K r) (dotr ds V r) (B r) (n + c.val) else 0 : ℝ) : EReal) := by
  rw [pay126_apply ho hk r c ha, dotE _ _ (fun l => ds r l) (fun l => V (n + c.val) l) (fun l => ho.d r l) (fun l => ?_), ← EReal.coe_mul]
  · split_ifs
    · rfl
    · rw [zero_mul]
  · pointwise [k0_pay121]
    exact hv c l

/-- The diagonal tile's gradients of the logits, zero where they are masked. -/
theorem pay127_apply : k0_pay127 k0_pay89 k0_pay90 o.d a.2.1 (k0_pay121 v) (k0_pay124 o.q k) (dL o k a) (ix2 r c)
    = ((if c.val < r.val % 256 then dq (dotr qs K r) (dotr ds V r) (B r) (n + c.val) else 0 : ℝ) : EReal) := by
  have he := fun i => dE_apply ho hk hv r i ha
  pointwise [k0_pay127]
  rw [pay90_apply, Scalar.select_decide]
  split_ifs with h
  · rw [prefixE (fun i => if i < r.val % 256 then eq (dotr qs K r) (dotr ds V r) (B r) (n + i) else 0) _ _ _ c.val c.isLt.le he (fun i => ?_) (fun i => ?_),
      pay124_apply ho hk r c, ha.p r, he, Ideal.exp_coe, if_pos h, ← EReal.coe_add,
      Finset.sum_congr (g := fun i => eq (dotr qs K r) (dotr ds V r) (B r) (n + i)) rfl (fun i hi => if_pos (by have := Finset.mem_range.1 hi; omega)), ← Finset.sum_range_add,
      ← EReal.coe_one, ← EReal.coe_sub, ← EReal.coe_mul, ← EReal.coe_mul, ← EReal.coe_sub]
    · rfl
    · rw [pay89_apply]
      have := i.isLt
      simp only [Nat.mod_eq_of_lt this]
    · rw [pay89_apply]
      have := i.isLt
      simp only [show (256 + i.val) % 256 = i.val by omega]
  · simp

omit c in
theorem dQ_apply (l : Fin 128) : dQ o k v a (ix2 r l)
    = ((∑ i ∈ Finset.range (n + r.val % 256), dq (dotr qs K r) (dotr ds V r) (B r) i * K i l : ℝ) : EReal) := by
  have hr : r.val % 256 ≤ 256 := (Nat.mod_lt _ (by norm_num)).le
  pointwise [dQ, k0_pay130]
  rw [ha.q r l, Finset.sum_range_add, EReal.coe_add, ← sum_cut _ 256 _ hr]
  refine congrArg _ ((dotE _ _ _ (fun c => K (n + c.val) l) (fun c => pay127_apply ho hk hv r c ha) (fun c => ?_)).trans
    (congrArg _ (Finset.sum_congr rfl fun c _ => ?_)))
  · pointwise [k0_pay120]
    exact hk c l
  · split_ifs <;> simp

theorem dK_apply (s : Vec Ideal S1x128x256 .f32) (l : Fin 128) :
    dK o k v a s (ix3 0 l c) = s (ix3 0 l c) + ((∑ r, qs r l * (if c.val < r.val % 256 then dq (dotr qs K r) (dotr ds V r) (B r) (n + c.val) else 0) : ℝ) : EReal) := by
  pointwise [dK, k0_pay128]
  exact congrArg _ (dotE _ _ _ _ (fun r => ho.qt l r) fun r => pay127_apply ho hk hv r c ha)

omit hv in
theorem dV_apply (s : Vec Ideal S1x128x256 .f32) (l : Fin 128) :
    dV o k a s (ix3 0 l c) = s (ix3 0 l c) + ((∑ r, ds r l * (if c.val < r.val % 256 then wq (dotr qs K r) (B r) (n + c.val) else 0) : ℝ) : EReal) := by
  pointwise [dV, k0_pay129]
  exact congrArg _ (dotE _ _ _ _ (fun r => ho.dt l r) fun r => pay126_apply ho hk r c ha)

end Diag

end Cert.Attn
-- ==== Proof.Point.lean ====
module

public import proofs.«01_k».proof.Proof.Pay

@[expose] public section

set_option maxRecDepth 65536

noncomputable section

namespace Cert.Attn

open Cert.KernelIdeal Cert.KernelIdeal.Gen
open Idealize.ShloMosaic Idealize.ShloMosaic.TcCoe Idealize.SL.Sem

/-! ## Constants -/

theorem eighthE : Ideal.ofBits .f32 0x3E000000#32 = ((1 / 8 : ℝ) : EReal) := by
  simp [Ideal.ofBits, Ideal.ieee, -EReal.coe_mul]; norm_num

theorem botE : Ideal.ofBits .f32 0xFF800000#32 = ⊥ := by
  simp [Ideal.ofBits, Ideal.ieee]

/-- A maximum over lanes that are the same number or minus infinity. -/
theorem fold_max_const {n : ℕ} (f : Fin n → EReal) (b : EReal) (h : ∀ i, f i ≤ b) (j : Fin n) (hj : f j = b) : Finset.univ.fold max ⊥ f = b := by
  refine le_antisymm (Finset.fold_max_le b |>.2 ⟨bot_le (α := EReal), fun i _ => h i⟩) (Finset.le_fold_max b |>.2 (Or.inr ⟨j, Finset.mem_univ _, hj.ge⟩))

/-! ## Windows and slots -/

theorem kwin_apply (x : Vec Ideal S1x8192x128 .bf16) (j : Fin 32) (c : Fin 256) (l : Fin 128) :
    kwin x j (ix3 0 c l) = x (ix3 0 ⟨256 * j.val + c.val, by omega⟩ l) := by
  unfold kwin VecWindow.window
  congr 1
  funext a
  apply Fin.ext
  match a with
  | 0 => rfl
  | 1 => show 256 * j.val + 1 * c.val = _; simp
  | 2 => show 0 + 1 * l.val = _; simp

theorem slot_apply (y : Vec Ideal S32x128x256 .f32) (j : Fin 32) (l : Fin 128) (c : Fin 256) :
    slot y j (ix3 0 l c) = y (ix3 j l c) := by
  unfold slot VecWindow.window
  congr 1
  funext a
  apply Fin.ext
  match a with
  | 0 => show j.val + 1 * 0 = _; simp
  | 1 => show 0 + 1 * l.val = _; simp
  | 2 => show 0 + 1 * c.val = _; simp

theorem setSlot_same (y : Vec Ideal S32x128x256 .f32) (j : Fin 32) (w : Vec Ideal S1x128x256 .f32) (l : Fin 128) (c : Fin 256) :
    setSlot y j w (ix3 j l c) = w (ix3 0 l c) := by
  rw [← slot_apply (setSlot y j w)]
  unfold slot setSlot
  rw [VecWindow.window_put_same]

theorem setSlot_other (y : Vec Ideal S32x128x256 .f32) (j j' : Fin 32) (hj : j' ≠ j) (w : Vec Ideal S1x128x256 .f32) (l : Fin 128) (c : Fin 256) :
    setSlot y j w (ix3 j' l c) = y (ix3 j' l c) := by
  unfold setSlot VecWindow.put
  refine dif_neg fun h => hj ?_
  have h0 : j.val ≤ j'.val ∧ j'.val < j.val + 1 := h 0
  exact Fin.ext (by omega)

/-! ## The rows -/

/-- Rows stacked by the two heads of a pair: each half of the stack keeps the lanes of its own head. -/
def stk (X : Fin 256 → Fin 128 → ℝ) (r : Fin 512) (l : Fin 128) : ℝ := if l.val / 64 = r.val / 256 then X ⟨r.val % 256, Nat.mod_lt _ (by norm_num)⟩ l else 0

section

variable {x2 : Vec Ideal S1x256x128 .bf16} {x5 : Vec Ideal S256x128 .bf16} {x6 : Vec Ideal S1x256x128 .f32} {Q D : Fin 256 → Fin 128 → ℝ} {B : Fin 256 → ℕ → ℝ}
  (h2 : ∀ (r : Fin 256) (l : Fin 128), x2 (ix3 0 r l) = ((Q r l : ℝ) : EReal)) (h5 : ∀ (r : Fin 256) (l : Fin 128), x5 (ix2 r l) = ((D r l : ℝ) : EReal))
  (h6 : ∀ (r : Fin 256) (l : Fin 128), x6 (ix3 0 r l) = ((B r (l.val / 64) : ℝ) : EReal))

omit h2 h5 h6 in
theorem and_decide (p q : Prop) [Decidable p] [Decidable q] : IntOp.andi (BitVec.ofBool (decide p)) (BitVec.ofBool (decide q)) = BitVec.ofBool (decide (p ∧ q)) := by
  by_cases hp : p <;> by_cases hq : q <;> simp only [hp, hq, decide_true, decide_false, and_true, and_false, true_and, false_and] <;> decide

theorem stack_apply (x : FVec Ideal S256x128 .f32) (X : Fin 256 → Fin 128 → ℝ) (hx : ∀ (r : Fin 256) (l : Fin 128), x (ix2 r l) = ((X r l : ℝ) : EReal)) (r : Fin 512) (l : Fin 128) :
    k0_pay98 lanes x k0_pay95 (ix2 r l) = ((stk X r l : ℝ) : EReal) := by
  have hr := r.isLt
  have hl := l.isLt
  pointwise [k0_pay98, k0_pay96, k0_pay97, k0_pay95, hx]
  unfold stk
  by_cases h : r.val < 256
  · rw [dif_pos h, WordCmp.cmpi_sge_ofNat (by omega) (by omega), WordCmp.cmpi_slt_ofNat (by omega) (by omega), and_decide, Scalar.select_decide]
    by_cases h' : l.val < 64
    · rw [if_pos ⟨Nat.zero_le _, h'⟩, if_pos (by omega)]
      simp only [Nat.mod_eq_of_lt h]
    · rw [if_neg (fun h => h' h.2), if_neg (by omega), EReal.coe_zero]
  · rw [dif_neg h, WordCmp.cmpi_sge_ofNat (by omega) (by omega), WordCmp.cmpi_slt_ofNat (by omega) (by omega), and_decide, Scalar.select_decide]
    by_cases h' : 64 ≤ l.val
    · rw [if_pos ⟨h', hl⟩]
      refine Eq.trans ?_ (congrArg (fun x : ℝ => (x : EReal)) (if_pos (show l.val / 64 = r.val / 256 by omega)).symm)
      exact congrArg (fun z => ((X z l : ℝ) : EReal)) (Fin.ext (by show r.val - 256 = r.val % 256; omega))
    · rw [if_neg (fun h => h' h.1), if_neg (by omega), EReal.coe_zero]

theorem stack99 (x : FVec Ideal S256x128 .f32) : k0_pay99 lanes x k0_pay95 = k0_pay98 lanes x k0_pay95 := rfl

/-- The scaled queries. -/
def q8 (Q : Fin 256 → Fin 128 → ℝ) (r : Fin 256) (l : Fin 128) : ℝ := Q r l * (1 / 8)

include h2 in
theorem pay91_apply (r : Fin 256) (l : Fin 128) : k0_pay91 x2 (ix2 r l) = ((q8 Q r l : ℝ) : EReal) := by
  pointwise [k0_pay91, h2]
  rw [eighthE, ← EReal.coe_mul]
  rfl

include h6 in
theorem pay104_apply (r : Fin 512) :
    k0_pay104 lanes (k0_pay93 x6) k0_pay95 (ix2 r 0) = ((B ⟨r.val % 256, Nat.mod_lt _ (by norm_num)⟩ (r.val / 256) : ℝ) : EReal) := by
  have hr := r.isLt
  pointwise [k0_pay104, k0_pay96, k0_pay97, k0_pay95, k0_pay93]
  rw [botE]
  by_cases h : r.val < 256
  · rw [dif_pos h]
    have hm : r.val % 256 = r.val := Nat.mod_eq_of_lt h
    have hd : r.val / 256 = 0 := by omega
    simp only [hm, hd]
    refine fold_max_const _ _ (fun l => ?_) 0 ?_
    · have hl := l.isLt
      rw [WordCmp.cmpi_sge_ofNat (by omega) (by omega), WordCmp.cmpi_slt_ofNat (by omega) (by omega), and_decide, Scalar.select_decide]
      split_ifs with h'
      · rw [h6, show l.val / 64 = 0 by omega]
      · exact bot_le (α := EReal)
    · rw [WordCmp.cmpi_sge_ofNat (by decide) (by decide), WordCmp.cmpi_slt_ofNat (by decide) (by decide), and_decide, Scalar.select_decide, if_pos (by decide), h6]
      rfl
  · rw [dif_neg h]
    have hm : r.val % 256 = r.val - 256 := by omega
    have hd : r.val / 256 = 1 := by omega
    simp only [hm, hd]
    refine fold_max_const _ _ (fun l => ?_) 64 ?_
    · have hl := l.isLt
      rw [WordCmp.cmpi_sge_ofNat (by omega) (by omega), WordCmp.cmpi_slt_ofNat (by omega) (by omega), and_decide, Scalar.select_decide]
      by_cases h' : 64 ≤ l.val ∧ l.val < 128
      · exact le_of_eq ((if_pos h').trans ((h6 _ _).trans (by rw [show l.val / 64 = 1 by omega])))
      · exact (if_neg h').trans_le (bot_le (α := EReal))
    · rw [WordCmp.cmpi_sge_ofNat (by decide) (by decide), WordCmp.cmpi_slt_ofNat (by decide) (by decide), and_decide, Scalar.select_decide, if_pos (by decide), h6]
      rfl

include h2 h5 h6 in
theorem rows_rowOps : Rows (rowOps x2 x5 x6) (stk (q8 Q)) (stk D) (fun r => B ⟨r.val % 256, Nat.mod_lt _ (by norm_num)⟩ (r.val / 256)) where
  q r l := by
    have := stack_apply _ _ (pay91_apply h2) r l
    pointwise [rowOps, k0_pay100]
    exact this
  d r l := by
    have := stack_apply (k0_pay92 x5) D (fun r l => h5 r l) r l
    pointwise [rowOps, k0_pay101, stack99]
    exact this
  qt l r := by
    have := stack_apply _ _ (pay91_apply h2) r l
    pointwise [rowOps, k0_pay102]
    exact this
  dt l r := by
    have := stack_apply (k0_pay92 x5) D (fun r l => h5 r l) r l
    pointwise [rowOps, k0_pay103, stack99]
    exact this
  b r := pay104_apply h6 r

end

/-! ## The tiles of a point -/

section

variable {o : RowOps Ideal} {qs ds : Fin 512 → Fin 128 → ℝ} {B : Fin 512 → ℝ} (ho : Rows o qs ds B) {x3 x4 : Vec Ideal S1x8192x128 .bf16} {K V : ℕ → Fin 128 → ℝ}
  (h3 : ∀ (s : Fin 8192) (l : Fin 128), x3 (ix3 0 s l) = ((K s.val l : ℝ) : EReal)) (h4 : ∀ (s : Fin 8192) (l : Fin 128), x4 (ix3 0 s l) = ((V s.val l : ℝ) : EReal))

omit ho h3 h4 in
theorem tileOf_kwin {x : Vec Ideal S1x8192x128 .bf16} {K : ℕ → Fin 128 → ℝ} (h : ∀ (s : Fin 8192) (l : Fin 128), x (ix3 0 s l) = ((K s.val l : ℝ) : EReal)) (j : Fin 32) :
    TileOf (kwin x j) K (256 * j.val) := fun c l => (kwin_apply x j c l).trans (h _ l)

omit ho h3 h4 in
theorem carry0_of : CarryOf (carry0 Ideal) qs ds B K V 0 := by
  constructor
  · intro r; pointwise [carry0, k0_pay105]; simp
  · intro r; pointwise [carry0, k0_pay106]; simp
  · intro r l; pointwise [carry0, k0_pay107]; simp

include ho h3 h4

theorem tiles_apply (y11 y12 : Vec Ideal S32x128x256 .f32) (n : ℕ) (hn : n ≤ 32) :
    CarryOf (tiles o x3 x4 0 (carry0 Ideal, y11, y12) n).1 qs ds B K V (256 * n)
    ∧ (∀ (j : Fin 32) (l : Fin 128) (c : Fin 256), (tiles o x3 x4 0 (carry0 Ideal, y11, y12) n).2.1 (ix3 j l c)
        = y11 (ix3 j l c) + ((if j.val < n then ∑ r, qs r l * dq (dotr qs K r) (dotr ds V r) (B r) (256 * j.val + c.val) else 0 : ℝ) : EReal))
    ∧ (∀ (j : Fin 32) (l : Fin 128) (c : Fin 256), (tiles o x3 x4 0 (carry0 Ideal, y11, y12) n).2.2 (ix3 j l c)
        = y12 (ix3 j l c) + ((if j.val < n then ∑ r, ds r l * wq (dotr qs K r) (B r) (256 * j.val + c.val) else 0 : ℝ) : EReal)) := by
  induction n with
  | zero =>
    refine ⟨carry0_of, fun j l c => ?_, fun j l c => ?_⟩
    · rw [if_neg (Nat.not_lt_zero _), EReal.coe_zero, add_zero]; rfl
    · rw [if_neg (Nat.not_lt_zero _), EReal.coe_zero, add_zero]; rfl
  | succ n ih =>
    obtain ⟨ha, h11, h12⟩ := ih (by omega)
    have hlt : 0 + n < 32 := by omega
    have hk := tileOf_kwin h3 (⟨0 + n, hlt⟩ : Fin 32)
    have hv := tileOf_kwin h4 (⟨0 + n, hlt⟩ : Fin 32)
    simp only [zero_add] at hk hv
    rw [tiles, dif_pos hlt]
    generalize tiles o x3 x4 0 (carry0 Ideal, y11, y12) n = s at ha h11 h12
    unfold tile
    refine ⟨?_, fun j l c => ?_, fun j l c => ?_⟩
    · have := tC_carry ho hk hv ha
      simpa only [zero_add, Nat.mul_add, mul_one] using this
    · by_cases hj : j = ⟨0 + n, hlt⟩
      · subst hj
        refine (setSlot_same _ _ _ _ _).trans ?_
        simp only [zero_add] at h11 ⊢
        rw [tK_apply ho hk hv c ha, slot_apply, h11, if_neg (lt_irrefl _), if_pos (Nat.lt_succ_self _), EReal.coe_zero, add_zero]
      · refine (setSlot_other _ _ _ hj _ _ _).trans ((h11 _ _ _).trans ?_)
        have hne : j.val ≠ n := fun h => hj (Fin.ext (by simp [h]))
        simp only [show (j.val < n + 1) = (j.val < n) from propext (by omega)]
    · by_cases hj : j = ⟨0 + n, hlt⟩
      · subst hj
        refine (setSlot_same _ _ _ _ _).trans ?_
        simp only [zero_add] at h12 ⊢
        rw [tV_apply ho hk c ha, slot_apply, h12, if_neg (lt_irrefl _), if_pos (Nat.lt_succ_self _), EReal.coe_zero, add_zero]
      · refine (setSlot_other _ _ _ hj _ _ _).trans ((h12 _ _ _).trans ?_)
        have hne : j.val ≠ n := fun h => hj (Fin.ext (by simp [h]))
        simp only [show (j.val < n + 1) = (j.val < n) from propext (by omega)]

end

/-! ## A point -/

section

variable {i : grid0.Coords} {x2 : Vec Ideal S1x256x128 .bf16} {x3 x4 : Vec Ideal S1x8192x128 .bf16} {x5 : Vec Ideal S256x128 .bf16} {x6 : Vec Ideal S1x256x128 .f32} {x7 : Vec Ideal S1x1x8x128 .f32}
  {qs ds : Fin 512 → Fin 128 → ℝ} {B : Fin 512 → ℝ} {K V : ℕ → Fin 128 → ℝ}
  (ho : Rows (rowOps x2 x5 x6) qs ds B)
  (h3 : ∀ (s : Fin 8192) (l : Fin 128), x3 (ix3 0 s l) = ((K s.val l : ℝ) : EReal)) (h4 : ∀ (s : Fin 8192) (l : Fin 128), x4 (ix3 0 s l) = ((V s.val l : ℝ) : EReal))
  (h7 : ∀ (a : Fin 8) (l : Fin 128), x7 (ix4 0 0 a l) = 0)
  (y11 y12 : Vec Ideal S32x128x256 .f32)

include h7 in
theorem kfw_zero : kfw x7 = 0#32 := by
  have : k0_pay94 x7 = (0 : EReal) := by
    pointwise [k0_pay94, h7]
    rw [botE]
    exact fold_max_const _ _ (fun _ => le_rfl) (0 : Fin 1024) rfl
  unfold kfw
  rw [this]
  rw [Ideal.scalar_fptosi_def, Ideal.fptosi, ← EReal.coe_zero, Ideal.toIntClamped_coe]
  norm_num

include h7 in
theorem full_eq : full i x2 x3 x4 x5 x6 x7 y11 y12 = tiles (rowOps x2 x5 x6) x3 x4 0 (carry0 Ideal, y11, y12) (i 1).val := by
  unfold full
  rw [kfw_zero h7, lot_zero]
  rfl

include ho h3 h4 h7

theorem outQ_apply (r : Fin 256) (l : Fin 128) (R : Fin 512) (hR : R.val = 256 * (l.val / 64) + r.val) : outQ i x2 x3 x4 x5 x6 x7 y11 y12 (ix2 r l)
    = (((∑ s ∈ Finset.range (256 * (i 1).val + r.val), dq (dotr qs K R) (dotr ds V R) (B R) s * K s l) * (1 / 8) : ℝ) : EReal) := by
  have hr := r.isLt
  have hl := l.isLt
  have hi : (i 1).val ≤ 32 := (i1_lt i).le
  have hd := fun R => dQ_apply ho (tileOf_kwin h3 (row i)) (tileOf_kwin h4 (row i)) R (tiles_apply ho h3 h4 y11 y12 _ hi).1 l
  unfold outQ
  rw [full_eq h7]
  pointwise [k0_pay1, k0_pay97]
  rw [WordCmp.cmpi_sge_ofNat (by omega) (by omega), WordCmp.cmpi_slt_ofNat (by omega) (by omega), and_decide, Scalar.select_decide, eighthE, EReal.coe_mul]
  refine congrArg (· * _) ?_
  split_ifs with h'
  · have e : R = ⟨256 + r.val, by omega⟩ := Fin.ext (by simp only; omega)
    have := hd R
    rw [show R.val % 256 = r.val by omega] at this
    rw [← this, e]
  · have e : R = ⟨r.val, by omega⟩ := Fin.ext (by simp only; omega)
    have := hd R
    rw [show R.val % 256 = r.val by omega] at this
    rw [← this, e]

theorem outK_apply (j : Fin 32) (l : Fin 128) (c : Fin 256) : outK i x2 x3 x4 x5 x6 x7 y11 y12 (ix3 j l c)
    = y11 (ix3 j l c) + ((∑ r, qs r l * (if 256 * j.val + c.val < 256 * (i 1).val + r.val % 256 then dq (dotr qs K r) (dotr ds V r) (B r) (256 * j.val + c.val) else 0) : ℝ) : EReal) := by
  have hi : (i 1).val ≤ 32 := (i1_lt i).le
  obtain ⟨ha, h11, -⟩ := tiles_apply ho h3 h4 y11 y12 _ hi
  unfold outK
  rw [full_eq h7]
  by_cases hj : j = row i
  · subst hj
    rw [setSlot_same, dK_apply ho (tileOf_kwin h3 (row i)) (tileOf_kwin h4 (row i)) c ha, slot_apply, h11, if_neg (lt_irrefl _), EReal.coe_zero, add_zero]
    simp only [Nat.add_lt_add_iff_left]
  · have hne : j.val ≠ (i 1).val := fun h => hj (Fin.ext h)
    rw [setSlot_other _ _ _ hj, h11]
    refine congrArg (fun x : ℝ => _ + (x : EReal)) ?_
    split_ifs with h
    · exact Finset.sum_congr rfl fun r _ => by rw [if_pos (by omega)]
    · exact (Finset.sum_eq_zero fun r _ => by rw [if_neg (by have := Nat.mod_lt r.val (show 256 > 0 by norm_num); omega), mul_zero]).symm

theorem outV_apply (j : Fin 32) (l : Fin 128) (c : Fin 256) : outV i x2 x3 x4 x5 x6 x7 y11 y12 (ix3 j l c)
    = y12 (ix3 j l c) + ((∑ r, ds r l * (if 256 * j.val + c.val < 256 * (i 1).val + r.val % 256 then wq (dotr qs K r) (B r) (256 * j.val + c.val) else 0) : ℝ) : EReal) := by
  have hi : (i 1).val ≤ 32 := (i1_lt i).le
  obtain ⟨ha, -, h12⟩ := tiles_apply ho h3 h4 y11 y12 _ hi
  unfold outV
  rw [full_eq h7]
  by_cases hj : j = row i
  · subst hj
    rw [setSlot_same, dV_apply ho (tileOf_kwin h3 (row i)) c ha, slot_apply, h12, if_neg (lt_irrefl _), EReal.coe_zero, add_zero]
    simp only [Nat.add_lt_add_iff_left]
  · have hne : j.val ≠ (i 1).val := fun h => hj (Fin.ext h)
    rw [setSlot_other _ _ _ hj, h12]
    refine congrArg (fun x : ℝ => _ + (x : EReal)) ?_
    split_ifs with h
    · exact Finset.sum_congr rfl fun r _ => by rw [if_pos (by omega)]
    · exact (Finset.sum_eq_zero fun r _ => by rw [if_neg (by have := Nat.mod_lt r.val (show 256 > 0 by norm_num); omega), mul_zero]).symm

end

end Cert.Attn
-- ==== Proof.Flush.lean ====
module

public import proofs.«01_k».proof.Proof.Bounds
public import Idealize.ShloMosaic.Lib.Pipeline.ValueKit
public import proofs.«01_k».proof.Proof.Trip
public import proofs.«01_k».proof.Proof.BodyC
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

/-! ## The last point of a pair of heads: both accumulators stored, transposed and narrowed, tile by tile -/

theorem pieceInb (k : Fin 32) : ∀ a, (![256 * (31 - k.val), 0] : Fin 2 → Nat) a + S256x128.size a ≤ S8192x128.size a := fun a => by
  fin_cases a
  · show 256 * (31 - k.val) + 256 ≤ 8192; omega
  · show 0 + 128 ≤ 128; omega

/-- The accumulator's rows of one tile, as the outputs hold them. -/
def flushPieces (P : Vec F S1x128x256 .f32 → FVec F S256x128 .bf16) (y : Vec F S32x128x256 .f32) : List (View.Piece (Elt F) S8192x128 .bf16) :=
  List.ofFn fun k : Fin 32 => ⟨Rect.unit (s := S8192x128) ![256 * (31 - k.val), 0] S256x128.size (pieceInb k), P (slot y ⟨31 - k.val, by omega⟩)⟩

set_option maxHeartbeats 1000000 in
theorem runC_L9 (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    (runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.1 = flushPieces k0_pay2 ((runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.2.1) := by
  unfold runC
  dsimp only
  simp only [runC.sl.r_15, runC.sl.r_16, runC.sl.r_17, runC.sl.r_18, runC.sl.r_19, runC.sl.r_20, runC.sl.r_21]
  generalize arg11.view.writes (Elt F) (harg11.unread y11) (runC.sl.H11_1 c i arg2 harg2 arg3 harg3 arg4 harg4 arg5 harg5 arg6 harg6 arg7 harg7 arg8 harg8 arg9 harg9 arg10 harg10 arg11 harg11 arg12 harg12 x2 x3 x4 x5 x6 x7 y11 y12) = g
  rfl

set_option maxHeartbeats 1000000 in
theorem runC_L10 (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) :
    (runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.1 = flushPieces k0_pay2 ((runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12).2.2.2.2.1) := by
  unfold runC
  dsimp only
  simp only [runC.sl.r_15, runC.sl.r_16, runC.sl.r_17, runC.sl.r_18, runC.sl.r_19, runC.sl.r_20, runC.sl.r_21]
  generalize arg12.view.writes (Elt F) (harg12.unread y12) (runC.sl.H12_1 c i arg2 harg2 arg3 harg3 arg4 harg4 arg5 harg5 arg6 harg6 arg7 harg7 arg8 harg8 arg9 harg9 arg10 harg10 arg11 harg11 arg12 harg12 x2 x3 x4 x5 x6 x7 y11 y12) = g
  rfl

/-- The output the pieces leave, whatever was there: row `256 k + r` is row `r` of the tile `k`'s slot. -/
def flush (P : Vec F S1x128x256 .f32 → FVec F S256x128 .bf16) (y : Vec F S32x128x256 .f32) : Vec F S8192x128 .bf16 :=
  fun x => P (slot y ⟨(x 0).val / 256, by have : (x 0).val < 8192 := (x 0).isLt; omega⟩) (ValueIdx.ix2 ⟨(x 0).val % 256, by omega⟩ (x 1))

theorem read_flush {sp : Space} (v : View sig .tc sp S8192x128 .bf16) (f : v.ty.Contents (Elt F)) (P : Vec F S1x128x256 .f32 → FVec F S256x128 .bf16) (y : Vec F S32x128x256 .f32) :
    v.read (Elt F) (v.writes (Elt F) f (flushPieces P y)) = flush P y := by
  have hc : ∀ z : S8192x128.Idx, ∃ k : Fin 32, ∀ a, (![256 * (31 - k.val), 0] : Fin 2 → Nat) a ≤ z a ∧ (z a : Nat) < (![256 * (31 - k.val), 0] : Fin 2 → Nat) a + S256x128.size a := by
    intro z
    have h0 : (z 0).val < 8192 := (z 0).isLt
    have h1 : (z 1).val < 128 := (z 1).isLt
    refine ⟨⟨31 - (z 0).val / 256, by omega⟩, fun a => ?_⟩
    fin_cases a
    · show 256 * (31 - (31 - (z 0).val / 256)) ≤ (z 0).val ∧ (z 0).val < 256 * (31 - (31 - (z 0).val / 256)) + 256; omega
    · show 0 ≤ (z 1).val ∧ (z 1).val < 0 + 128; omega
  rw [View.read_writes_eq_canon]
  · funext z
    refine View.canon_ofFn_unit_eq_of_forall _ _ _ _ _ _ (hc z) fun k => ?_
    tile_intro x h
    show _ = P (slot y ⟨(z 0).val / 256, _⟩) (ValueIdx.ix2 ⟨(z 0).val % 256, _⟩ (z 1))
    have e : (⟨31 - k.val, by omega⟩ : Fin 32) = ⟨(z 0).val / 256, by omega⟩ := Fin.ext (by show 31 - k.val = (z 0).val / 256; omega)
    rw [e]
    refine congrArg _ (funext fun a => Fin.ext ?_)
    fin_cases a
    · show (x 0).val = (z 0).val % 256; omega
    · exact h1.symm
  · intro z
    obtain ⟨k, hk⟩ := hc z
    refine ⟨_, (List.mem_ofFn).2 ⟨k, rfl⟩, ?_⟩
    exact (Rect.mem_set_unit (s := S8192x128) (off := ![256 * (31 - k.val), 0]) (size := S256x128.size) (inb := pieceInb k)).mpr hk

end Cert.Attn

end
-- ==== Proof.Triple.lean ====
module

public import proofs.«01_k».proof.Proof.Bounds
public import proofs.«01_k».proof.Proof.Spec
public import proofs.«01_k».proof.Proof.Flush
public import proofs.«01_k».proof.Proof.Body
public import proofs.«01_k».proof.Proof.BodyC
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

theorem owns_ex (c : Dev nD) {sh : Shape} {e : EltTy} (a : Memref sig .tc .vmem sh e) (d : sh.Idx → Elt F e) :
    (owns (c : Thread nD τ) a fullShare d : sProp 𝕄) ⊢ iprop(∃ f, (a.view.loc (c : Thread nD τ) ↦[a.view.set]{fullShare} f)) := by
  unfold owns
  iintro ⟨%f, -, H⟩
  iexists f; iexact H

set_option maxHeartbeats 1000000 in
theorem runA_triple (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outQ i x2 x3 x4 x5 x6 x7 k0_pay86 k0_pay87) ∗ owns (c : Thread nD τ) arg11 fullShare (outK i x2 x3 x4 x5 x6 x7 k0_pay86 k0_pay87) ∗ owns (c : Thread nD τ) arg12 fullShare (outV i x2 x3 x4 x5 x6 x7 k0_pay86 k0_pay87)) -∗ K ⟨⟩))
      ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K := by
  iintro ⟨H2, H3, H4, H5, H6, H7, ⟨%d8, H8⟩, ⟨%y11, H11⟩, ⟨%y12, H12⟩, Hk⟩
  have S := runA_spec (F := F) c i arg2 harg2 arg3 harg3 arg4 harg4 arg5 harg5 arg6 harg6 arg7 harg7 arg8 harg8 arg9 harg9 arg10 harg10 arg11 harg11 arg12 harg12 h1 h2 x2 x3 x4 x5 x6 x7 y11 y12
  revert S
  generalize runA (F := F) c i arg2 harg2 arg3 harg3 arg4 harg4 arg5 harg5 arg6 harg6 arg7 harg7 arg8 harg8 arg9 harg9 arg10 harg10 arg11 harg11 arg12 harg12 h1 h2 x2 x3 x4 x5 x6 x7 y11 y12 = R
  obtain ⟨L8, Y11, Y12, key⟩ := R
  rintro ⟨h8, h11, h12⟩
  dsimp only at h8 h11 h12
  subst h8 h11 h12
  have hq : ∀ f8, arg8.view.read (Elt F) (arg8.view.writes (Elt F) f8 [⟨Rect.unit (s := S256x128) ![0, 0] S256x128.size inb_S256x128_S256x128_0_0, outQ i x2 x3 x4 x5 x6 x7 k0_pay86 k0_pay87⟩]) = outQ i x2 x3 x4 x5 x6 x7 k0_pay86 k0_pay87 := fun f8 => View.read_writes_full _ _ _ _ _
  ihave H8 := (owns_ex c arg8 d8) $$ H8
  icases H8 with ⟨%f8, H8⟩
  iapply (key f8 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  iintro ⟨H2, H3, H4, H5, H6, H7, H8, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact hq _
  isplitl [H11]; · iexact H11
  iexact H12

set_option maxHeartbeats 1000000 in
theorem runB_triple (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : ¬ k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg11 fullShare y11 ∗ owns (c : Thread nD τ) arg12 fullShare y12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outQ i x2 x3 x4 x5 x6 x7 y11 y12) ∗ owns (c : Thread nD τ) arg11 fullShare (outK i x2 x3 x4 x5 x6 x7 y11 y12) ∗ owns (c : Thread nD τ) arg12 fullShare (outV i x2 x3 x4 x5 x6 x7 y11 y12)) -∗ K ⟨⟩))
      ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K := by
  iintro ⟨H2, H3, H4, H5, H6, H7, ⟨%d8, H8⟩, H11, H12, Hk⟩
  have S := runB_spec (F := F) c i arg2 harg2 arg3 harg3 arg4 harg4 arg5 harg5 arg6 harg6 arg7 harg7 arg8 harg8 arg9 harg9 arg10 harg10 arg11 harg11 arg12 harg12 h1 h2 x2 x3 x4 x5 x6 x7 y11 y12
  revert S
  generalize runB (F := F) c i arg2 harg2 arg3 harg3 arg4 harg4 arg5 harg5 arg6 harg6 arg7 harg7 arg8 harg8 arg9 harg9 arg10 harg10 arg11 harg11 arg12 harg12 h1 h2 x2 x3 x4 x5 x6 x7 y11 y12 = R
  obtain ⟨L8, Y11, Y12, key⟩ := R
  rintro ⟨h8, h11, h12⟩
  dsimp only at h8 h11 h12
  subst h8 h11 h12
  have hq : ∀ f8, arg8.view.read (Elt F) (arg8.view.writes (Elt F) f8 [⟨Rect.unit (s := S256x128) ![0, 0] S256x128.size inb_S256x128_S256x128_0_0, outQ i x2 x3 x4 x5 x6 x7 y11 y12⟩]) = outQ i x2 x3 x4 x5 x6 x7 y11 y12 := fun f8 => View.read_writes_full _ _ _ _ _
  ihave H8 := (owns_ex c arg8 d8) $$ H8
  icases H8 with ⟨%f8, H8⟩
  iapply (key f8 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H11]; · iexact H11
  isplitl [H12]; · iexact H12
  iintro ⟨H2, H3, H4, H5, H6, H7, H8, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact hq _
  isplitl [H11]; · iexact H11
  iexact H12

set_option maxHeartbeats 1000000 in
theorem runC_triple (c : Dev nD) (i : grid0.Coords) (arg2 : Memref sig .tc .vmem S1x256x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S256x128 .bf16) (harg5 : arg5.IsWhole) (arg6 : Memref sig .tc .vmem S1x256x128 .f32) (harg6 : arg6.IsWhole) (arg7 : Memref sig .tc .vmem S1x1x8x128 .f32) (harg7 : arg7.IsWhole) (arg8 : Memref sig .tc .vmem S256x128 .bf16) (harg8 : arg8.IsWhole) (arg9 : Memref sig .tc .vmem S8192x128 .bf16) (harg9 : arg9.IsWhole) (arg10 : Memref sig .tc .vmem S8192x128 .bf16) (harg10 : arg10.IsWhole) (arg11 : Memref sig .tc .vmem S32x128x256 .f32) (harg11 : arg11.IsWhole) (arg12 : Memref sig .tc .vmem S32x128x256 .f32) (harg12 : arg12.IsWhole) (h1 : ¬ cond1 i) (h2 : k0_cond2 i = 1#1)
    (x2 : Vec F S1x256x128 .bf16) (x3 : Vec F S1x8192x128 .bf16) (x4 : Vec F S1x8192x128 .bf16) (x5 : Vec F S256x128 .bf16) (x6 : Vec F S1x256x128 .f32) (x7 : Vec F S1x1x8x128 .f32) (y11 y12 : Vec F S32x128x256 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare y11 ∗ owns (c : Thread nD τ) arg12 fullShare y12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outQ i x2 x3 x4 x5 x6 x7 y11 y12) ∗ owns (c : Thread nD τ) arg9 fullShare (flush k0_pay2 (outK i x2 x3 x4 x5 x6 x7 y11 y12)) ∗ owns (c : Thread nD τ) arg10 fullShare (flush k0_pay3 (outV i x2 x3 x4 x5 x6 x7 y11 y12)) ∗ owns (c : Thread nD τ) arg11 fullShare (outK i x2 x3 x4 x5 x6 x7 y11 y12) ∗ owns (c : Thread nD τ) arg12 fullShare (outV i x2 x3 x4 x5 x6 x7 y11 y12)) -∗ K ⟨⟩))
      ⊢ wp frame (wpE (defs₀ (F := F)) 𝒱₀ c none) E (cc0_attn_bwd i arg2 harg2 arg3 harg3 arg4 harg4 arg5 harg5 arg6 harg6 arg7 harg7 arg8 harg8 arg9 harg9 arg10 harg10 arg11 harg11 arg12 harg12) K := by
  iintro ⟨H2, H3, H4, H5, H6, H7, ⟨%d8, H8⟩, ⟨%d9, H9⟩, ⟨%d10, H10⟩, H11, H12, Hk⟩
  have S := runC_spec (F := F) c i arg2 harg2 arg3 harg3 arg4 harg4 arg5 harg5 arg6 harg6 arg7 harg7 arg8 harg8 arg9 harg9 arg10 harg10 arg11 harg11 arg12 harg12 h1 h2 x2 x3 x4 x5 x6 x7 y11 y12
  have S9 := runC_L9 (F := F) c i arg2 harg2 arg3 harg3 arg4 harg4 arg5 harg5 arg6 harg6 arg7 harg7 arg8 harg8 arg9 harg9 arg10 harg10 arg11 harg11 arg12 harg12 h1 h2 x2 x3 x4 x5 x6 x7 y11 y12
  have S10 := runC_L10 (F := F) c i arg2 harg2 arg3 harg3 arg4 harg4 arg5 harg5 arg6 harg6 arg7 harg7 arg8 harg8 arg9 harg9 arg10 harg10 arg11 harg11 arg12 harg12 h1 h2 x2 x3 x4 x5 x6 x7 y11 y12
  revert S S9 S10
  generalize runC (F := F) c i arg2 harg2 arg3 harg3 arg4 harg4 arg5 harg5 arg6 harg6 arg7 harg7 arg8 harg8 arg9 harg9 arg10 harg10 arg11 harg11 arg12 harg12 h1 h2 x2 x3 x4 x5 x6 x7 y11 y12 = R
  obtain ⟨L8, L9, L10, Y11, Y12, key⟩ := R
  rintro ⟨h8, h11, h12⟩ h9 h10
  dsimp only at h8 h9 h10 h11 h12
  subst h8 h9 h10 h11 h12
  have hq : ∀ f8, arg8.view.read (Elt F) (arg8.view.writes (Elt F) f8 [⟨Rect.unit (s := S256x128) ![0, 0] S256x128.size inb_S256x128_S256x128_0_0, outQ i x2 x3 x4 x5 x6 x7 y11 y12⟩]) = outQ i x2 x3 x4 x5 x6 x7 y11 y12 := fun f8 => View.read_writes_full _ _ _ _ _
  ihave H8 := (owns_ex c arg8 d8) $$ H8
  icases H8 with ⟨%f8, H8⟩
  ihave H9 := (owns_ex c arg9 d9) $$ H9
  icases H9 with ⟨%f9, H9⟩
  ihave H10 := (owns_ex c arg10 d10) $$ H10
  icases H10 with ⟨%f10, H10⟩
  iapply (key f8 f9 f10 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H2, H3, H4, H5, H6, H7, H8, H9, H10, H11, H12⟩
  iapply Hk
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact hq _
  isplitl [H9]
  · unfold owns; iexists _; isplitr
    swap; · iexact H9
    ipureintro; exact read_flush _ _ _ _
  isplitl [H10]
  · unfold owns; iexists _; isplitr
    swap; · iexact H10
    ipureintro; exact read_flush _ _ _ _
  isplitl [H11]; · iexact H11
  iexact H12

end Cert.Attn

end
-- ==== Proof.Run.lean ====
module

public import proofs.«01_k».proof.Proof.Bounds
public import proofs.«01_k».proof.Proof.Triple
public import Idealize.ShloMosaic.Lib.Tactic
public import Idealize.ShloMosaic.Lib.Claim

@[expose] public section

set_option maxRecDepth 65536

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

/-- The proof's resource algebra: the frame kit's. -/
local notation "𝕄" => MT nD τ sig Unit (Elt F) ℕ (UR sig nD τ) ℕ

variable (m : (ℓ : Loc nD τ sig) → Buf (Elt F) ℓ) (ρ : Dev nD → PrngReg)

/-! ## The grid's points: position `t` is row tile `t % 32` of the pair of heads `t / 32` -/

theorem coords1 : ∀ t : Fin cfg0.N, (grid0.coords t 1).val = t.val % 32 := by decide +kernel
theorem coords0 : ∀ t : Fin cfg0.N, (grid0.coords t 0).val = t.val / 32 := by decide +kernel
theorem cond1_iff : ∀ t : Fin cfg0.N, cond1 (grid0.coords t) ↔ t.val % 32 = 0 := by decide +kernel
theorem cond2_iff : ∀ t : Fin cfg0.N, k0_cond2 (grid0.coords t) = 1#1 ↔ t.val % 32 = 31 := by decide +kernel

/-! ## The blocks the body finds, and the accumulators -/

abbrev b0 (c : Dev nD) (t : Fin cfg0.N) : Vec F S1x256x128 .bf16 := iblk m c 0 t
abbrev b1 (c : Dev nD) (t : Fin cfg0.N) : Vec F S1x8192x128 .bf16 := iblk m c 1 t
abbrev b2 (c : Dev nD) (t : Fin cfg0.N) : Vec F S1x8192x128 .bf16 := iblk m c 2 t
abbrev b3 (c : Dev nD) (t : Fin cfg0.N) : Vec F S256x128 .bf16 := iblk m c 3 t
abbrev b4 (c : Dev nD) (t : Fin cfg0.N) : Vec F S1x256x128 .f32 := iblk m c 4 t
abbrev b5 (c : Dev nD) (t : Fin cfg0.N) : Vec F S1x1x8x128 .f32 := iblk m c 5 t

/-- The accumulators a point's tiles start from: cleared at the first row tile of a pair of heads, else what the point before left. -/
def acc (c : Dev nD) : ℕ → Vec F S32x128x256 .f32 × Vec F S32x128x256 .f32
  | 0 => (k0_pay86, k0_pay87)
  | n + 1 => if h : (n + 1) % 32 ≠ 0 ∧ n < cfg0.N then
      (outK (grid0.coords ⟨n, h.2⟩) (b0 m c ⟨n, h.2⟩) (b1 m c ⟨n, h.2⟩) (b2 m c ⟨n, h.2⟩) (b3 m c ⟨n, h.2⟩) (b4 m c ⟨n, h.2⟩) (b5 m c ⟨n, h.2⟩) (acc c n).1 (acc c n).2, outV (grid0.coords ⟨n, h.2⟩) (b0 m c ⟨n, h.2⟩) (b1 m c ⟨n, h.2⟩) (b2 m c ⟨n, h.2⟩) (b3 m c ⟨n, h.2⟩) (b4 m c ⟨n, h.2⟩) (b5 m c ⟨n, h.2⟩) (acc c n).1 (acc c n).2)
    else (k0_pay86, k0_pay87)

theorem acc_reset (c : Dev nD) (n : ℕ) (h : n % 32 = 0) : acc m c n = (k0_pay86, k0_pay87) := by
  cases n with
  | zero => rfl
  | succ n => exact dif_neg fun h' => h'.1 h

theorem acc_succ (c : Dev nD) (t : Fin cfg0.N) (h : (t.val + 1) % 32 ≠ 0) :
    acc m c (t.val + 1) = (outK (grid0.coords t) (b0 m c t) (b1 m c t) (b2 m c t) (b3 m c t) (b4 m c t) (b5 m c t) (acc m c t.val).1 (acc m c t.val).2, outV (grid0.coords t) (b0 m c t) (b1 m c t) (b2 m c t) (b3 m c t) (b4 m c t) (b5 m c t) (acc m c t.val).1 (acc m c t.val).2) :=
  dif_pos ⟨h, t.isLt⟩

abbrev mK : Memref sig .tc .vmem S32x128x256 .f32 := Memref.whole cc0_scratch0
abbrev mV : Memref sig .tc .vmem S32x128x256 .f32 := Memref.whole cc0_scratch1

/-- The invariant before point `n`: within a pair of heads the two accumulators at `acc`, between two pairs at anything. -/
def PhiS (c : Dev nD) (n : ℕ) (h : n ≤ cfg0.N) : sProp 𝕄 :=
  if n % 32 = 0 then ΦA spec0 c else
    iprop((owns (c : Thread nD τ) mK fullShare (acc m c n).1 ∗ owns (c : Thread nD τ) mV fullShare (acc m c n).2) ∗ ∃ r, prngReg c r)

/-! ## The pipeline's proof data -/

/-- The arrays as the region finds them; after the body each input's buffer at its block, the queries' gradient at the point's
    block of it, the keys' and the values' at the accumulators transposed and narrowed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (grid0.coords t) (b0 m c t) (b1 m c t) (b2 m c t) (b3 m c t) (b4 m c t) (b5 m c t) (acc m c t.val).1 (acc m c t.val).2
    | ⟨7, _⟩ => flush k0_pay2 (outK (grid0.coords t) (b0 m c t) (b1 m c t) (b2 m c t) (b3 m c t) (b4 m c t) (b5 m c t) (acc m c t.val).1 (acc m c t.val).2)
    | ⟨8, _⟩ => flush k0_pay3 (outV (grid0.coords t) (b0 m c t) (b1 m c t) (b2 m c t) (b3 m c t) (b4 m c t) (b5 m c t) (acc m c t.val).1 (acc m c t.val).2)
  Φ t := PhiS m c t.val (Nat.le_of_lt_succ t.isLt)
  q := Pipeline.shareOf spec0
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ (grid0.coords t) (b0 m c t) (b1 m c t) (b2 m c t) (b3 m c t) (b4 m c t) (b5 m c t) (acc m c t.val).1 (acc m c t.val).2 := by dsimp only [dats]
theorem after0_7 (c : Dev nD) (t : Fin cfg0.N) : (dats m 0 c).after 7 t = flush k0_pay2 (outK (grid0.coords t) (b0 m c t) (b1 m c t) (b2 m c t) (b3 m c t) (b4 m c t) (b5 m c t) (acc m c t.val).1 (acc m c t.val).2) := by dsimp only [dats]
theorem after0_8 (c : Dev nD) (t : Fin cfg0.N) : (dats m 0 c).after 8 t = flush k0_pay3 (outV (grid0.coords t) (b0 m c t) (b1 m c t) (b2 m c t) (b3 m c t) (b4 m c t) (b5 m c t) (acc m c t.val).1 (acc m c t.val).2) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

theorem Φ_start (c : Dev nD) (t : Fin cfg0.N) : (dats m 0 c).Φ t.castSucc = PhiS m c t.val (Nat.le_of_lt t.isLt) := by
  dsimp only [dats]; exact Pipeline.Dat.Φ_castSucc (PhiS m c) t
theorem Φ_end (c : Dev nD) (t : Fin cfg0.N) : (dats m 0 c).Φ t.succ = PhiS m c (t.val + 1) t.isLt := by
  dsimp only [dats]; rfl

/-- Between two pairs of heads the accumulators are held at anything. -/
theorem ΦA_eq (c : Dev nD) : (ΦA spec0 c : sProp 𝕄)
    = iprop(((∃ d, owns (c : Thread nD τ) mK fullShare d) ∗ (∃ d, owns (c : Thread nD τ) mV fullShare d)) ∗ ∃ r, prngReg c r) := by
  unfold Pipeline.ΦA
  rw [scopedRest0_eq]
  simp only [mK, mV, owns_whole]
  rfl

theorem step_end (c : Dev nD) (t : Fin cfg0.N) :
    iprop((owns (c : Thread nD τ) mK fullShare (outK (grid0.coords t) (b0 m c t) (b1 m c t) (b2 m c t) (b3 m c t) (b4 m c t) (b5 m c t) (acc m c t.val).1 (acc m c t.val).2)
      ∗ owns (c : Thread nD τ) mV fullShare (outV (grid0.coords t) (b0 m c t) (b1 m c t) (b2 m c t) (b3 m c t) (b4 m c t) (b5 m c t) (acc m c t.val).1 (acc m c t.val).2)) ∗ ∃ r, prngReg c r)
      ⊢ PhiS m c (t.val + 1) t.isLt := by
  unfold PhiS
  by_cases h : (t.val + 1) % 32 = 0
  · rw [if_pos h, ΦA_eq]
    iintro ⟨⟨H, H'⟩, Hr⟩
    isplitl [H H']
    · isplitl [H]
      · iexists _; iexact H
      · iexists _; iexact H'
    iexact Hr
  · rw [if_neg h, acc_succ m c t h]

theorem idle7 (t : Fin cfg0.N) (h : ¬ k0_cond2 (grid0.coords t) = 1#1) : idle0 7 (grid0.coords t) = true := by
  show (!(k0_cond2 (grid0.coords t) == 1#1)) = true
  simpa using h
theorem idle8 (t : Fin cfg0.N) (h : ¬ k0_cond2 (grid0.coords t) = 1#1) : idle0 8 (grid0.coords t) = true := by
  show (!(k0_cond2 (grid0.coords t) == 1#1)) = true
  simpa using h
theorem busy7 (t : Fin cfg0.N) (h : k0_cond2 (grid0.coords t) = 1#1) : idle0 7 (grid0.coords t) = false := by
  show (!(k0_cond2 (grid0.coords t) == 1#1)) = false
  simpa using h
theorem busy8 (t : Fin cfg0.N) (h : k0_cond2 (grid0.coords t) = 1#1) : idle0 8 (grid0.coords t) = false := by
  show (!(k0_cond2 (grid0.coords t) == 1#1)) = false
  simpa using h
theorem noflush7 (t : Fin cfg0.N) (h : ¬ k0_cond2 (grid0.coords t) = 1#1) : (win0 7).flush t = false :=
  Bool.eq_false_iff.mpr fun h' => h ((cond2_iff t).mpr ((flush0_7 t).mp h'))
theorem noflush8 (t : Fin cfg0.N) (h : ¬ k0_cond2 (grid0.coords t) = 1#1) : (win0 8).flush t = false :=
  Bool.eq_false_iff.mpr fun h' => h ((cond2_iff t).mpr ((flush0_8 t).mp h'))

theorem defs₀_row (t : Fin cfg0.N) :
    defs₀ (F := F) .tc cfg0.body (cfg0.bodyArgs t (cfg0.slots t)) = bodyAt0 t := by
  unfold defs₀; rw [Defs.onTc_tc]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
/-- What a point that stores no keys' and values' gradients returns, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((dats m 0 c).before 7 t d))
    ∗ (∃ d, owns (c : Thread nD τ) (st0_8 t) fullShare ((dats m 0 c).before 8 t d)))
/-- and what the last point of a pair of heads returns. -/
def bodyPostC (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
theorem soundA (c : Dev nD) (t : Fin cfg0.N) (h1 : t.val % 32 = 0) (h2 : ¬ k0_cond2 (grid0.coords t) = 1#1) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [Φ_start, Φ_end, show (dats m 0 c).owesAt () t.succ = (dats m 0 c).owesAt () t.castSucc from rfl, after0_0, after0_1, after0_2, after0_3, after0_4, after0_5, after0_6]
  have hstep := step_end m c t
  rw [acc_reset m c t.val h1] at hstep ⊢
  rw [show PhiS m c t.val (Nat.le_of_lt t.isLt) = ΦA spec0 c from if_pos h1, ΦA_eq]
  iintro ⟨⟨⟨HK, HV⟩, Hr⟩, Ho, ⟨%d0, H0⟩, ⟨%d1, H1⟩, ⟨%d2, H2⟩, ⟨%d3, H3⟩, ⟨%d4, H4⟩, ⟨%d5, H5⟩, ⟨%d6, H6⟩, H7, H8⟩
  iapply (runA_triple c (grid0.coords t) _ _ _ _ _ _ _ _ _ _ _ _ _ _ _ _ _ _ _ _ _ _ ((cond1_iff t).mpr h1) h2 (b0 m c t) (b1 m c t) (b2 m c t) (b3 m c t) (b4 m c t) (b5 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HK]; · iexact HK
  isplitl [HV]; · iexact HV
  iintro ⟨H0, H1, H2, H3, H4, H5, H6, HK, HV⟩
  isplitl [HK HV Hr]
  · iapply hstep
    isplitl [HK HV]
    · isplitl [HK]; · iexact HK
      iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
theorem soundB (c : Dev nD) (t : Fin cfg0.N) (h1 : ¬ t.val % 32 = 0) (h2 : ¬ k0_cond2 (grid0.coords t) = 1#1) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [Φ_start, Φ_end, show (dats m 0 c).owesAt () t.succ = (dats m 0 c).owesAt () t.castSucc from rfl, after0_0, after0_1, after0_2, after0_3, after0_4, after0_5, after0_6]
  have hstep := step_end m c t
  rw [show PhiS m c t.val (Nat.le_of_lt t.isLt) = _ from if_neg h1]
  iintro ⟨⟨⟨HK, HV⟩, Hr⟩, Ho, ⟨%d0, H0⟩, ⟨%d1, H1⟩, ⟨%d2, H2⟩, ⟨%d3, H3⟩, ⟨%d4, H4⟩, ⟨%d5, H5⟩, ⟨%d6, H6⟩, H7, H8⟩
  iapply (runB_triple c (grid0.coords t) _ _ _ _ _ _ _ _ _ _ _ _ _ _ _ _ _ _ _ _ _ _ (fun h => h1 ((cond1_iff t).mp h)) h2 (b0 m c t) (b1 m c t) (b2 m c t) (b3 m c t) (b4 m c t) (b5 m c t) (acc m c t.val).1 (acc m c t.val).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HK]; · iexact HK
  isplitl [HV]; · iexact HV
  iintro ⟨H0, H1, H2, H3, H4, H5, H6, HK, HV⟩
  isplitl [HK HV Hr]
  · iapply hstep
    isplitl [HK HV]
    · isplitl [HK]; · iexact HK
      iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 1000000 in
theorem soundC (c : Dev nD) (t : Fin cfg0.N) (h1 : ¬ t.val % 32 = 0) (h2 : k0_cond2 (grid0.coords t) = 1#1) :
    bodyPre m c t ⊢ wp frame (wpE (defs₀ (F := F)) 𝒱₀ c none) Set.univ (bodyAt0 t) (fun _ => bodyPostC m c t) := by
  unfold bodyPre bodyPostC bodyAt0
  simp only [before0_0, before0_1, before0_2, before0_3, before0_4, before0_5]
  rw [Φ_start, Φ_end, show (dats m 0 c).owesAt () t.succ = (dats m 0 c).owesAt () t.castSucc from rfl, after0_0, after0_1, after0_2, after0_3, after0_4, after0_5, after0_6, after0_7, after0_8]
  have hstep := step_end m c t
  rw [show PhiS m c t.val (Nat.le_of_lt t.isLt) = _ from if_neg h1]
  iintro ⟨⟨⟨HK, HV⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runC_triple c (grid0.coords t) _ _ _ _ _ _ _ _ _ _ _ _ _ _ _ _ _ _ _ _ _ _ (fun h => h1 ((cond1_iff t).mp h)) h2 (b0 m c t) (b1 m c t) (b2 m c t) (b3 m c t) (b4 m c t) (b5 m c t) (acc m c t.val).1 (acc m c t.val).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HK]; · iexact HK
  isplitl [HV]; · iexact HV
  iintro ⟨H0, H1, H2, H3, H4, H5, H6, H7, H8, HK, HV⟩
  isplitl [HK HV Hr]
  · iapply hstep
    isplitl [HK HV]
    · isplitl [HK]; · iexact HK
      iexact HV
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2000000 in
/-- The library's body obligation, at every point. -/
theorem body_obligation (c : Dev nD) : BodyObligation (dats (F := F) m 0 c) (defs₀ (F := F)) 𝒱₀ () Set.univ := fun t => by
  rw [bigSep_W0, bigSep_W0, defs₀_row]
  by_cases h2 : k0_cond2 (grid0.coords t) = 1#1
  · have h1 : ¬ t.val % 32 = 0 := by have := (cond2_iff t).mp h2; omega
    simp only [busy7 t h2, busy8 t h2]
    exact triple_restated (soundC m c t h1 h2) rfl .rfl fun _ => .rfl
  · simp only [idle7 t h2, idle8 t h2, noflush7 t h2, noflush8 t h2]
    by_cases h1 : t.val % 32 = 0
    · exact triple_restated (soundA m c t h1 h2) rfl .rfl fun _ => .rfl
    · exact triple_restated (soundB m c t h1 h2) rfl .rfl fun _ => .rfl

/-! ## The run -/

theorem hin (c : Dev nD) : ΦA spec0 c ⊢ (dats m 0 c).Φ 0 := by
  dsimp only [dats]; exact Entails.of_eq (if_pos (Nat.zero_mod 32)).symm

theorem hout (c : Dev nD) : (dats m 0 c).Φ (Fin.last cfg0.N) ⊢ ΦA spec0 c := by
  dsimp only [dats]; exact Entails.of_eq (if_pos (by rw [Fin.val_last]; decide +kernel))

set_option backward.isDefEq.respectTransparency.types false in
/-- At the compiled mesh, for any values, from any memory with zero counters: every weakly fair execution of @main terminates,
    every array of the pipeline at what the library computes from the proof data, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hin := hin m) (hout := hout m)

/-- THE FRAME, for any values: the arguments end unchanged and every counter is zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_with_sems (frame_of m ρ (dats m) (A_eq m)) (run_main m ρ)

end Cert.Attn

end
-- ==== Proof.Blocks.lean ====
module

public import proofs.«01_k».proof.Proof.Point
public import proofs.«01_k».proof.Proof.Run
public import Idealize.ShloMosaic.Lib.Claim

@[expose] public section

set_option maxRecDepth 65536
set_option maxHeartbeats 1600000

noncomputable section

namespace Cert.Attn

open Cert.KernelIdeal Cert.KernelIdeal.Gen
open Idealize.ShloMosaic Idealize.ShloMosaic.TcCoe Idealize.SL.Sem

/-- The scaled product of a query and a key of the head `h`. -/
def Z (Q K : ℕ → ℕ → ℝ) (h t s : ℕ) : ℝ := (∑ e : Fin 64, Q t (64 * h + e.val) * K s (64 * h + e.val)) * (1 / 8)

/-- The product of an output gradient and a value of the head `h`. -/
def G (D V : ℕ → ℕ → ℝ) (h t s : ℕ) : ℝ := ∑ e : Fin 64, D t (64 * h + e.val) * V s (64 * h + e.val)

/-- A query's sum of the logarithms over the keys before it. -/
def Bt (Q K : ℕ → ℕ → ℝ) (h t : ℕ) : ℝ := ∑ s ∈ Finset.range t, -sp (Z Q K h t s)

/-- What the two arguments hold over the reals. -/
structure Args (x : Vec Ideal S3x8192x512 .bf16) (y : Vec Ideal S8192x512 .bf16) (Q K V D : ℕ → ℕ → ℝ) : Prop where
  q : ∀ (t : Fin 8192) (l : Fin 512), x (ix3 0 t l) = ((Q t.val l.val : ℝ) : EReal)
  k : ∀ (t : Fin 8192) (l : Fin 512), x (ix3 1 t l) = ((K t.val l.val : ℝ) : EReal)
  v : ∀ (t : Fin 8192) (l : Fin 512), x (ix3 2 t l) = ((V t.val l.val : ℝ) : EReal)
  d : ∀ (t : Fin 8192) (l : Fin 512), y (ix2 t l) = ((D t.val l.val : ℝ) : EReal)

theorem lsE (x : ℝ) : max (x : EReal) 0 + Ideal.log1p (Ideal.exp (-FloatOps.absf (F := Ideal) (φ := .f32) (x : EReal))) = ((sp x : ℝ) : EReal) := by
  rw [absE, Ideal.log1p, ← spE, zero_sub]

/-- A score as the host computes it. -/
theorem host_score {X : Vec Ideal S3x8192x512 .bf16} {Q K : ℕ → ℕ → ℝ} (hq : ∀ (t : Fin 8192) (l : Fin 512), X (ix3 0 t l) = ((Q t.val l.val : ℝ) : EReal)) (hk : ∀ (t : Fin 8192) (l : Fin 512), X (ix3 1 t l) = ((K t.val l.val : ℝ) : EReal))
    (h : ℕ) (n : Fin 64 → Fin 512) (hn : ∀ e, (n e).val = 64 * h + e.val) (t x : Fin 8192) :
    (∑ e : Fin 64, X (ix3 0 t (n e)) * X (ix3 1 x (n e)) : EReal) * Ideal.ofBits FTy.f32 1040187392#32 = ((Z Q K h t.val x.val : ℝ) : EReal) := by
  rw [eighthE]
  unfold Z
  rw [EReal.coe_mul, coe_sum]
  refine congrArg (· * _) (Finset.sum_congr rfl fun e _ => ?_)
  rw [EReal.coe_mul, hq, hk, hn]

/-- The sum of the logarithms as the host computes it. -/
theorem host_sum {X : Vec Ideal S3x8192x512 .bf16} {Q K : ℕ → ℕ → ℝ} (hq : ∀ (t : Fin 8192) (l : Fin 512), X (ix3 0 t l) = ((Q t.val l.val : ℝ) : EReal)) (hk : ∀ (t : Fin 8192) (l : Fin 512), X (ix3 1 t l) = ((K t.val l.val : ℝ) : EReal))
    (p : Fin 4) (t : Fin 8192) (l : Fin 128) (z : Fin 8192 → EReal) (hz : ∀ x, z x = ((Z Q K (2 * p.val + l.val / 64) t.val x.val : ℝ) : EReal)) :
    (∑ x : Fin 8192, Scalar.select (IntOp.cmpi CmpIPredicate.slt (BitVec.ofNat 32 x.val) (BitVec.ofNat 32 t.val))
      (-if - -(z x) ≠ - -(z x) then - -(z x) else max (- -(z x)) 0 + Ideal.log1p (Ideal.exp (-FloatOps.absf (F := Ideal) (φ := .f32) (- -(z x))))) (0 : EReal)) = ((Bt Q K (2 * p.val + l.val / 64) t.val : ℝ) : EReal) := by
  unfold Bt
  have ht := t.isLt
  rw [← sum_cut (fun s => -sp (Z Q K (2 * p.val + l.val / 64) t.val s)) 8192 t.val ht.le, coe_sum]
  refine Finset.sum_congr rfl fun x _ => ?_
  have hx := x.isLt
  rw [hz x, neg_neg, if_neg (fun h => h rfl), lsE, WordCmp.cmpi_slt_ofNat (by omega) (by omega), Scalar.select_decide]
  by_cases h : x.val < t.val
  · rw [if_pos h, if_pos h, EReal.coe_neg]
  · rw [if_neg h, if_neg h, EReal.coe_zero]

section
variable (m : (ℓ : Loc nD τ sig) → Buf (Elt Ideal) ℓ) (c : Dev nD) {Q K V D : ℕ → ℕ → ℝ}
  (hA : Args (m ((c.tc : Thread nD τ).loc main_arg0)) (m ((c.tc : Thread nD τ).loc main_arg1)) Q K V D)

theorem v26_eq : (Gen.V m c main_v26 : Vec Ideal S4x32x8x128 .f32) = fun _ => (0 : EReal) := by
  show StableHlo.after _ _ _ = _
  simp only [hostOps0, hostOps0_1, hostOps0_2, hostOps0_3, hostOps0_4, List.flatten_cons, List.flatten_nil, List.cons_append, List.nil_append, List.append_nil]
  entry_read
  funext x
  rw [eq_ix4 x]
  pointwise []

include hA in
theorem v25_apply (p : Fin 4) (t : Fin 8192) (l : Fin 128) : Gen.V m c main_v25 (ix3 p t l) = ((Bt Q K (2 * p.val + l.val / 64) t.val : ℝ) : EReal) := by
  show StableHlo.after _ _ _ _ = _
  simp only [hostOps0, hostOps0_1, hostOps0_2, hostOps0_3, hostOps0_4, List.flatten_cons, List.flatten_nil, List.cons_append, List.nil_append, List.append_nil]
  entry_read
  simp only [StableHlo.TRef.ofBuf_toBuf]
  simp -implicitDefEqProofs only [StableHlo.TRef.toBuf, StableHlo.TRef.ofBuf, cast_cast, cast_eq]
  pointwise []
  exact host_sum hA.q hA.k p t l _ fun x => host_score hA.q hA.k _ _ (fun e => by show (p.val * 2 + l.val / 64) * 64 + e.val = _; omega) t x
end

end Cert.Attn
end
-- ==== Proof.Fin.lean ====
module

public import proofs.«01_k».proof.Pre_finite
public import proofs.«01_k».proof.Proof.Blocks
public import Idealize.ShloMosaic.Lib.ReduceAll
public import Idealize.ShloMosaic.Lib.Pointwise

@[expose] public section

set_option maxRecDepth 65536

noncomputable section

namespace Cert.Attn

open Idealize.ShloMosaic

/-! ## Finite arguments are real numbers -/

theorem fin_facts : Cert.Pre_finite.Facts where
  bitsLt_bf16_f32 := by decide
  bcast_S_S3x8192x512 := by decide
  reducesTo_S3x8192x512_S_d0_1_2 := by decide
  h_S_ := by decide
  bcast_S_S8192x512 := by decide
  reducesTo_S8192x512_S_d0_1 := by decide

/-- A number smaller in size than infinity is real. -/
theorem real_of_abs (x : EReal) (h : BitVec.ofBool (decide (FloatOps.absf (F := Ideal) (φ := .f32) x < Ideal.ofBits .f32 0x7F800000#32)) = 1#1) : x = ((x.toReal : ℝ) : EReal) := by
  have h1 : FloatOps.absf (F := Ideal) (φ := .f32) x < Ideal.ofBits .f32 0x7F800000#32 := by
    by_contra hn
    rw [decide_eq_false hn] at h
    exact absurd h (by decide)
  induction x using EReal.rec with
  | bot =>
    exfalso
    revert h1
    simp [FloatOps.absf, Ideal.ofBits, Ideal.ieee]
  | coe r => rfl
  | top =>
    exfalso
    revert h1
    simp [FloatOps.absf, Ideal.ofBits, Ideal.ieee]

section
variable (x : Vec Ideal ⟨3, ![3, 8192, 512]⟩ .bf16) (y : Vec Ideal ⟨2, ![8192, 512]⟩ .bf16) [Cert.Pre_finite.Facts]

theorem real0 (h : (Cert.Pre_finite.fn (F := Ideal) x y).1 = fun _ => 1#1) (i : Fin 3) (t : Fin 8192) (l : Fin 512) :
    x (ix3 i t l) = (((x (ix3 i t l) : EReal).toReal : ℝ) : EReal) := by
  haveI : Subsingleton Cert.Pre_finite.S_.Idx := ⟨fun a b => funext fun k => k.elim0⟩
  have h2 := congrFun h ix0
  unfold Cert.Pre_finite.fn at h2
  dsimp only at h2
  have e := Host.reduce_andi_all _ _ _ _ ix0 h2 (ix3 i t l)
  clear h2 h
  refine real_of_abs _ (Eq.trans ?_ e)
  pointwise []

theorem real1 (h : (Cert.Pre_finite.fn (F := Ideal) x y).2 = fun _ => 1#1) (t : Fin 8192) (l : Fin 512) :
    y (ix2 t l) = (((y (ix2 t l) : EReal).toReal : ℝ) : EReal) := by
  haveI : Subsingleton Cert.Pre_finite.S_.Idx := ⟨fun a b => funext fun k => k.elim0⟩
  have h2 := congrFun h ix0
  unfold Cert.Pre_finite.fn at h2
  dsimp only at h2
  have e := Host.reduce_andi_all _ _ _ _ ix0 h2 (ix2 t l)
  clear h2 h
  refine real_of_abs _ (Eq.trans ?_ e)
  pointwise []

/-- One of the three stacked arguments, by row and column. -/
def qkvR (i : Fin 3) (t l : ℕ) : ℝ := if h : t < 8192 ∧ l < 512 then (x (ix3 i ⟨t, h.1⟩ ⟨l, h.2⟩) : EReal).toReal else 0

/-- The other argument, by row and column. -/
def doR (t l : ℕ) : ℝ := if h : t < 8192 ∧ l < 512 then (y (ix2 ⟨t, h.1⟩ ⟨l, h.2⟩) : EReal).toReal else 0

theorem args_real (h : (Cert.Pre_finite.fn (F := Ideal) x y).1 = fun _ => 1#1) (h' : (Cert.Pre_finite.fn (F := Ideal) x y).2 = fun _ => 1#1) :
    Args x y (qkvR x 0) (qkvR x 1) (qkvR x 2) (doR y) := by
  have e : ∀ (i : Fin 3) (t : Fin 8192) (l : Fin 512), x (ix3 i t l) = ((qkvR x i t.val l.val : ℝ) : EReal) := fun i t l => by
    unfold qkvR
    rw [dif_pos ⟨t.isLt, l.isLt⟩]
    exact real0 x y h i t l
  refine ⟨e 0, e 1, e 2, fun t l => ?_⟩
  unfold doR
  rw [dif_pos ⟨t.isLt, l.isLt⟩]
  exact real1 x y h' t l
end

end Cert.Attn
end
-- ==== Proof.Idx.lean ====
module

public import proofs.«01_k».proof.Proof.Run

@[expose] public section

set_option maxRecDepth 65536

noncomputable section

namespace Cert.Attn

open Cert.KernelIdeal Cert.KernelIdeal.Gen
open Idealize.ShloMosaic Idealize.ShloMosaic.TcCoe Idealize.SL.Sem

/-! ## Which blocks a point names -/

theorem idx : ∀ t : Fin cfg0.N, win0_0.index t = ![0, t.val % 32, t.val / 32] ∧ win0_1.index t = ![1, 0, t.val / 32] ∧ win0_2.index t = ![2, 0, t.val / 32] ∧ win0_3.index t = ![t.val % 32, t.val / 32]
    ∧ win0_4.index t = ![t.val / 32, t.val % 32, 0] ∧ win0_5.index t = ![t.val / 32, t.val % 32, 0, 0] ∧ win0_6.index t = ![t.val % 32, t.val / 32] ∧ win0_7.index t = ![0, t.val / 32] ∧ win0_8.index t = ![0, t.val / 32] :=
  (by decide +kernel : ∀ t : Fin grid0.N, _)

end Cert.Attn
end
-- ==== Proof.Reads.lean ====
module

public import proofs.«01_k».proof.Proof.Blocks
public import proofs.«01_k».proof.Proof.Idx

@[expose] public section

set_option maxRecDepth 65536

noncomputable section

namespace Cert.Attn

open Cert.KernelIdeal Cert.KernelIdeal.Gen
open Idealize.ShloMosaic Idealize.ShloMosaic.TcCoe Idealize.SL.Sem

/-! ## The blocks of a point -/

theorem t_lt (t : Fin cfg0.N) : t.val < 128 := t.isLt

section
variable (m : (ℓ : Loc nD τ sig) → Buf (Elt Ideal) ℓ) (c : Dev nD) {Q K V D : ℕ → ℕ → ℝ}
  (hA : Args (m ((c.tc : Thread nD τ).loc main_arg0)) (m ((c.tc : Thread nD τ).loc main_arg1)) Q K V D)
  (t : Fin cfg0.N)

include hA in
theorem b0_read (r : Fin 256) (l : Fin 128) : b0 m c t (ix3 0 r l) = ((Q (256 * (t.val % 32) + r.val) (128 * (t.val / 32) + l.val) : ℝ) : EReal) := by
  have ht := t_lt t
  refine Eq.trans ?_ (hA.q ⟨256 * (t.val % 32) + r.val, by omega⟩ ⟨128 * (t.val / 32) + l.val, by omega⟩)
  show Gen.V m c main_arg0 ((win0_0.blk t).view.emb (ix3 0 r l)) = _
  rw [Gen.V_main_arg0]
  blk_ext [idx t]

include hA in
theorem b1_read (r : Fin 8192) (l : Fin 128) : b1 m c t (ix3 0 r l) = ((K (r.val) (128 * (t.val / 32) + l.val) : ℝ) : EReal) := by
  have ht := t_lt t
  refine Eq.trans ?_ (hA.k r ⟨128 * (t.val / 32) + l.val, by omega⟩)
  show Gen.V m c main_arg0 ((win0_1.blk t).view.emb (ix3 0 r l)) = _
  rw [Gen.V_main_arg0]
  blk_ext [idx t]

include hA in
theorem b2_read (r : Fin 8192) (l : Fin 128) : b2 m c t (ix3 0 r l) = ((V (r.val) (128 * (t.val / 32) + l.val) : ℝ) : EReal) := by
  have ht := t_lt t
  refine Eq.trans ?_ (hA.v r ⟨128 * (t.val / 32) + l.val, by omega⟩)
  show Gen.V m c main_arg0 ((win0_2.blk t).view.emb (ix3 0 r l)) = _
  rw [Gen.V_main_arg0]
  blk_ext [idx t]

include hA in
theorem b3_read (r : Fin 256) (l : Fin 128) : b3 m c t (ix2 r l) = ((D (256 * (t.val % 32) + r.val) (128 * (t.val / 32) + l.val) : ℝ) : EReal) := by
  have ht := t_lt t
  refine Eq.trans ?_ (hA.d ⟨256 * (t.val % 32) + r.val, by omega⟩ ⟨128 * (t.val / 32) + l.val, by omega⟩)
  show Gen.V m c main_arg1 ((win0_3.blk t).view.emb (ix2 r l)) = _
  rw [Gen.V_main_arg1]
  blk_ext [idx t]

theorem emb4 (W : Vec Ideal S4x8192x128 .f32) (r : Fin 256) (l : Fin 128) (p : Fin 4) (n : Fin 8192) (hp : p.val = t.val / 32) (hn : n.val = 256 * (t.val % 32) + r.val) :
    W ((win0_4.blk t).view.emb (ix3 0 r l)) = W (ix3 p n l) := by
  have ht := t_lt t
  blk_ext [idx t, hp, hn]

theorem b4_blk (r : Fin 256) (l : Fin 128) : b4 m c t (ix3 0 r l) = (Gen.V m c main_v25 : Vec Ideal S4x8192x128 .f32) ((win0_4.blk t).view.emb (ix3 0 r l)) := rfl

include hA in
theorem b4_read (r : Fin 256) (l : Fin 128) : b4 m c t (ix3 0 r l) = ((Bt Q K (2 * (t.val / 32) + l.val / 64) (256 * (t.val % 32) + r.val) : ℝ) : EReal) := by
  have ht := t_lt t
  have h1 := v25_apply m c hA ⟨t.val / 32, by omega⟩ ⟨256 * (t.val % 32) + r.val, by omega⟩ l
  have h2 := emb4 t (Gen.V m c main_v25) r l ⟨t.val / 32, by omega⟩ ⟨256 * (t.val % 32) + r.val, by omega⟩ rfl rfl
  exact (b4_blk m c t r l).trans (h2.trans h1)

theorem b5_blk (a : Fin 8) (l : Fin 128) : b5 m c t (ix4 0 0 a l) = (Gen.V m c main_v26 : Vec Ideal S4x32x8x128 .f32) ((win0_5.blk t).view.emb (ix4 0 0 a l)) := rfl

theorem b5_read (a : Fin 8) (l : Fin 128) : b5 m c t (ix4 0 0 a l) = (0 : EReal) := by
  rw [b5_blk]
  generalize hW : (Gen.V m c main_v26 : Vec Ideal S4x32x8x128 .f32) = W
  have h := (v26_eq m c).symm.trans hW
  subst h
  rfl
end

end Cert.Attn
end
-- ==== Proof.Acc.lean ====
module

public import proofs.«01_k».proof.Proof.Reads

@[expose] public section

set_option maxRecDepth 65536

noncomputable section

namespace Cert.Attn

open Cert.KernelIdeal Cert.KernelIdeal.Gen
open Idealize.ShloMosaic Idealize.ShloMosaic.TcCoe Idealize.SL.Sem

/-! ## The results over the reals -/

/-- The gradient of a logit of the head a column lies in. -/
def dz (Q K V D : ℕ → ℕ → ℝ) (col t s : ℕ) : ℝ := dq (Z Q K (col / 64) t) (G D V (col / 64) t) (Bt Q K (col / 64) t) s
/-- A weight of the head a column lies in. -/
def wt (Q K : ℕ → ℕ → ℝ) (col t s : ℕ) : ℝ := wq (Z Q K (col / 64) t) (Bt Q K (col / 64) t) s

def resQ (Q K V D : ℕ → ℕ → ℝ) (t col : ℕ) : ℝ := (∑ s ∈ Finset.range t, dz Q K V D col t s * K s col) * (1 / 8)
def termK (Q K V D : ℕ → ℕ → ℝ) (s col t : ℕ) : ℝ := Q t col * (1 / 8) * (if s < t then dz Q K V D col t s else 0)
def termV (Q K D : ℕ → ℕ → ℝ) (s col t : ℕ) : ℝ := D t col * (if s < t then wt Q K col t s else 0)
def resK (Q K V D : ℕ → ℕ → ℝ) (s col : ℕ) : ℝ := ∑ t ∈ Finset.range 8192, termK Q K V D s col t
def resV (Q K D : ℕ → ℕ → ℝ) (s col : ℕ) : ℝ := ∑ t ∈ Finset.range 8192, termV Q K D s col t

/-! ## A point's rows, head by head -/

theorem sum_half (f : ℕ → ℝ) (h : ℕ) (hh : h < 2) : ∑ l : Fin 128, (if l.val / 64 = h then f l.val else 0) = ∑ e : Fin 64, f (64 * h + e.val) := by
  rw [Fin.sum_univ_eq_sum_range (fun l => if l / 64 = h then f l else 0) 128, Fin.sum_univ_eq_sum_range (fun e => f (64 * h + e)) 64, show 128 = 64 + 64 from rfl, range_add_sum]
  have e1 : ∀ i ∈ Finset.range 64, (if i / 64 = h then f i else 0) = if h = 0 then f i else 0 := fun i hi => by
    have := Finset.mem_range.1 hi; rw [show i / 64 = 0 by omega]; simp only [eq_comm]
  have e2 : ∀ i ∈ Finset.range 64, (if (64 + i) / 64 = h then f (64 + i) else 0) = if h = 1 then f (64 + i) else 0 := fun i hi => by
    have := Finset.mem_range.1 hi; rw [show (64 + i) / 64 = 1 by omega]; simp only [eq_comm]
  rw [Finset.sum_congr rfl e1, Finset.sum_congr rfl e2]
  obtain rfl | rfl : h = 0 ∨ h = 1 := by omega
  · simp
  · simp

theorem sum_rows (f : ℕ → ℕ → ℝ) (h : ℕ) (hh : h < 2) : ∑ r : Fin 512, (if h = r.val / 256 then f (r.val % 256) r.val else 0) = ∑ r ∈ Finset.range 256, f r (256 * h + r) := by
  rw [Fin.sum_univ_eq_sum_range (fun r => if h = r / 256 then f (r % 256) r else 0) 512, show 512 = 256 + 256 from rfl, range_add_sum]
  have e1 : ∀ i ∈ Finset.range 256, (if h = i / 256 then f (i % 256) i else 0) = if h = 0 then f i i else 0 := fun i hi => by
    have := Finset.mem_range.1 hi; rw [show i / 256 = 0 by omega, show i % 256 = i by omega]
  have e2 : ∀ i ∈ Finset.range 256, (if h = (256 + i) / 256 then f ((256 + i) % 256) (256 + i) else 0) = if h = 1 then f i (256 + i) else 0 := fun i hi => by
    have := Finset.mem_range.1 hi; rw [show (256 + i) / 256 = 1 by omega, show (256 + i) % 256 = i by omega]
  rw [Finset.sum_congr rfl e1, Finset.sum_congr rfl e2]
  obtain rfl | rfl : h = 0 ∨ h = 1 := by omega
  · simp
  · simp

section
variable (Q K V D : ℕ → ℕ → ℝ) (p i : ℕ)

/-- The rows of a tile of queries. -/
abbrev tileQ (r : Fin 256) (l : Fin 128) : ℝ := Q (256 * i + r.val) (128 * p + l.val)
/-- The columns of a pair of heads. -/
abbrev pairK (s : ℕ) (l : Fin 128) : ℝ := K s (128 * p + l.val)

theorem dotr_q (R : Fin 512) : dotr (stk (q8 (tileQ Q p i))) (pairK K p) R = Z Q K (2 * p + R.val / 256) (256 * i + R.val % 256) := by
  funext s
  have hR := R.isLt
  unfold dotr stk q8 Z
  let f : ℕ → ℝ := fun l => Q (256 * i + R.val % 256) (128 * p + l) * (1 / 8) * K s (128 * p + l)
  have : ∀ l : Fin 128, (if l.val / 64 = R.val / 256 then tileQ Q p i ⟨R.val % 256, Nat.mod_lt _ (by norm_num)⟩ l * (1 / 8) else 0) * pairK K p s l
      = if l.val / 64 = R.val / 256 then f l.val else 0 := fun l => by
    rw [ite_mul, zero_mul]
  rw [Finset.sum_congr rfl fun l _ => this l, sum_half f _ (by omega), Finset.sum_mul]
  refine Finset.sum_congr rfl fun e _ => ?_
  simp only [f]
  rw [show 128 * p + (64 * (R.val / 256) + e.val) = 64 * (2 * p + R.val / 256) + e.val by ring]
  ring

theorem dotr_d (R : Fin 512) : dotr (stk (tileQ D p i)) (pairK V p) R = G D V (2 * p + R.val / 256) (256 * i + R.val % 256) := by
  funext s
  have hR := R.isLt
  unfold dotr stk G
  let f : ℕ → ℝ := fun l => D (256 * i + R.val % 256) (128 * p + l) * V s (128 * p + l)
  have : ∀ l : Fin 128, (if l.val / 64 = R.val / 256 then tileQ D p i ⟨R.val % 256, Nat.mod_lt _ (by norm_num)⟩ l else 0) * pairK V p s l
      = if l.val / 64 = R.val / 256 then f l.val else 0 := fun l => by
    rw [ite_mul, zero_mul]
  rw [Finset.sum_congr rfl fun l _ => this l, sum_half f _ (by omega)]
  refine Finset.sum_congr rfl fun e _ => ?_
  simp only [f]
  rw [show 128 * p + (64 * (R.val / 256) + e.val) = 64 * (2 * p + R.val / 256) + e.val by ring]

/-- What a tile of rows adds to the keys' gradient. -/
theorem stepK (j : ℕ) (l : Fin 128) : (∑ r : Fin 512, stk (q8 (tileQ Q p i)) r l * (if j < 256 * i + r.val % 256 then dq (Z Q K (2 * p + r.val / 256) (256 * i + r.val % 256)) (G D V (2 * p + r.val / 256) (256 * i + r.val % 256)) (Bt Q K (2 * p + r.val / 256) (256 * i + r.val % 256)) j else 0))
    = ∑ r ∈ Finset.range 256, termK Q K V D j (128 * p + l.val) (256 * i + r) := by
  let f : ℕ → ℕ → ℝ := fun a _ => termK Q K V D j (128 * p + l.val) (256 * i + a)
  have hl := l.isLt
  have : ∀ r : Fin 512, stk (q8 (tileQ Q p i)) r l * (if j < 256 * i + r.val % 256 then dq (Z Q K (2 * p + r.val / 256) (256 * i + r.val % 256)) (G D V (2 * p + r.val / 256) (256 * i + r.val % 256)) (Bt Q K (2 * p + r.val / 256) (256 * i + r.val % 256)) j else 0)
      = if l.val / 64 = r.val / 256 then f (r.val % 256) r.val else 0 := fun r => by
    unfold stk
    by_cases h : l.val / 64 = r.val / 256
    · rw [if_pos h, if_pos h]
      simp only [f]
      unfold termK dz q8
      rw [show (128 * p + l.val) / 64 = 2 * p + r.val / 256 by omega]
    · rw [if_neg h, if_neg h, zero_mul]
  rw [Finset.sum_congr rfl fun r _ => this r, sum_rows f _ (by omega)]

/-- What a tile of rows adds to the values' gradient. -/
theorem stepV (j : ℕ) (l : Fin 128) : (∑ r : Fin 512, stk (tileQ D p i) r l * (if j < 256 * i + r.val % 256 then wq (Z Q K (2 * p + r.val / 256) (256 * i + r.val % 256)) (Bt Q K (2 * p + r.val / 256) (256 * i + r.val % 256)) j else 0))
    = ∑ r ∈ Finset.range 256, termV Q K D j (128 * p + l.val) (256 * i + r) := by
  let f : ℕ → ℕ → ℝ := fun a _ => termV Q K D j (128 * p + l.val) (256 * i + a)
  have hl := l.isLt
  have : ∀ r : Fin 512, stk (tileQ D p i) r l * (if j < 256 * i + r.val % 256 then wq (Z Q K (2 * p + r.val / 256) (256 * i + r.val % 256)) (Bt Q K (2 * p + r.val / 256) (256 * i + r.val % 256)) j else 0)
      = if l.val / 64 = r.val / 256 then f (r.val % 256) r.val else 0 := fun r => by
    unfold stk
    by_cases h : l.val / 64 = r.val / 256
    · rw [if_pos h, if_pos h]
      simp only [f]
      unfold termV wt
      rw [show (128 * p + l.val) / 64 = 2 * p + r.val / 256 by omega]
    · rw [if_neg h, if_neg h, zero_mul]
  rw [Finset.sum_congr rfl fun r _ => this r, sum_rows f _ (by omega)]
end

/-! ## A point's results -/

section
variable (m : (ℓ : Loc nD τ sig) → Buf (Elt Ideal) ℓ) (c : Dev nD) {Q K V D : ℕ → ℕ → ℝ}
  (hA : Args (m ((c.tc : Thread nD τ).loc main_arg0)) (m ((c.tc : Thread nD τ).loc main_arg1)) Q K V D)
  (t : Fin cfg0.N)

include hA

theorem rows_at : Rows (rowOps (b0 m c t) (b3 m c t) (b4 m c t)) (stk (q8 (tileQ Q (t.val / 32) (t.val % 32)))) (stk (tileQ D (t.val / 32) (t.val % 32)))
    (fun r => Bt Q K (2 * (t.val / 32) + r.val / 256) (256 * (t.val % 32) + r.val % 256)) :=
  rows_rowOps (B := fun r h => Bt Q K (2 * (t.val / 32) + h) (256 * (t.val % 32) + r.val)) (b0_read m c hA t) (b3_read m c hA t) (b4_read m c hA t)

theorem outQ_at (r : Fin 256) (l : Fin 128) : outQ (grid0.coords t) (b0 m c t) (b1 m c t) (b2 m c t) (b3 m c t) (b4 m c t) (b5 m c t) (acc m c t.val).1 (acc m c t.val).2 (ix2 r l)
    = ((resQ Q K V D (256 * (t.val % 32) + r.val) (128 * (t.val / 32) + l.val) : ℝ) : EReal) := by
  have hl := l.isLt
  have hr := r.isLt
  have h := outQ_apply (i := grid0.coords t) (K := pairK K (t.val / 32)) (V := pairK V (t.val / 32)) (rows_at m c hA t) (b1_read m c hA t) (b2_read m c hA t) (b5_read m c t) (acc m c t.val).1 (acc m c t.val).2 r l ⟨256 * (l.val / 64) + r.val, by omega⟩ rfl
  refine h.trans (congrArg _ ?_)
  rw [dotr_q, dotr_d, coords1]
  unfold resQ dz
  rw [show (256 * (l.val / 64) + r.val) / 256 = l.val / 64 by omega, show (256 * (l.val / 64) + r.val) % 256 = r.val by omega, show (128 * (t.val / 32) + l.val) / 64 = 2 * (t.val / 32) + l.val / 64 by omega]

theorem outK_at (j : Fin 32) (l : Fin 128) (k : Fin 256) : outK (grid0.coords t) (b0 m c t) (b1 m c t) (b2 m c t) (b3 m c t) (b4 m c t) (b5 m c t) (acc m c t.val).1 (acc m c t.val).2 (ix3 j l k)
    = (acc m c t.val).1 (ix3 j l k) + ((∑ r ∈ Finset.range 256, termK Q K V D (256 * j.val + k.val) (128 * (t.val / 32) + l.val) (256 * (t.val % 32) + r) : ℝ) : EReal) := by
  refine (outK_apply (i := grid0.coords t) (K := pairK K (t.val / 32)) (V := pairK V (t.val / 32)) (rows_at m c hA t) (b1_read m c hA t) (b2_read m c hA t) (b5_read m c t) (acc m c t.val).1 (acc m c t.val).2 j l k).trans ?_
  refine congrArg (fun x : ℝ => _ + (x : EReal)) ?_
  simp only [dotr_q, dotr_d, coords1]
  exact stepK Q K V D _ _ _ l

theorem outV_at (j : Fin 32) (l : Fin 128) (k : Fin 256) : outV (grid0.coords t) (b0 m c t) (b1 m c t) (b2 m c t) (b3 m c t) (b4 m c t) (b5 m c t) (acc m c t.val).1 (acc m c t.val).2 (ix3 j l k)
    = (acc m c t.val).2 (ix3 j l k) + ((∑ r ∈ Finset.range 256, termV Q K D (256 * j.val + k.val) (128 * (t.val / 32) + l.val) (256 * (t.val % 32) + r) : ℝ) : EReal) := by
  refine (outV_apply (i := grid0.coords t) (K := pairK K (t.val / 32)) (V := pairK V (t.val / 32)) (rows_at m c hA t) (b1_read m c hA t) (b2_read m c hA t) (b5_read m c t) (acc m c t.val).1 (acc m c t.val).2 j l k).trans ?_
  refine congrArg (fun x : ℝ => _ + (x : EReal)) ?_
  simp only [dotr_q, coords1]
  exact stepV Q K D _ _ _ l

/-- The accumulators before a point hold the rows before its tile. -/
theorem acc_at (p : ℕ) (hp : p < 4) : ∀ i, i < 32 → ∀ (j : Fin 32) (l : Fin 128) (k : Fin 256),
    (acc m c (32 * p + i)).1 (ix3 j l k) = ((∑ t ∈ Finset.range (256 * i), termK Q K V D (256 * j.val + k.val) (128 * p + l.val) t : ℝ) : EReal)
    ∧ (acc m c (32 * p + i)).2 (ix3 j l k) = ((∑ t ∈ Finset.range (256 * i), termV Q K D (256 * j.val + k.val) (128 * p + l.val) t : ℝ) : EReal) := by
  intro i
  induction i with
  | zero =>
    intro _ j l k
    rw [acc_reset m c _ (by omega)]
    simp only [Nat.mul_zero, Finset.range_zero, Finset.sum_empty, EReal.coe_zero]
    constructor
    · pointwise [k0_pay86]
    · pointwise [k0_pay87]
  | succ i ih =>
    intro hi j l k
    have ht : 32 * p + i < cfg0.N := by show _ < 128; omega
    have hs := acc_succ m c ⟨32 * p + i, ht⟩ (by simp only; omega)
    have hK := outK_at m c hA ⟨32 * p + i, ht⟩ j l k
    have hV := outV_at m c hA ⟨32 * p + i, ht⟩ j l k
    obtain ⟨ih1, ih2⟩ := ih (by omega) j l k
    simp only [show (32 * p + i) / 32 = p by omega, show (32 * p + i) % 32 = i by omega] at hK hV hs
    rw [← Nat.add_assoc, hs]
    constructor
    · refine hK.trans ?_
      rw [ih1, ← EReal.coe_add, show 256 * (i + 1) = 256 * i + 256 by ring, range_add_sum]
    · refine hV.trans ?_
      rw [ih2, ← EReal.coe_add, show 256 * (i + 1) = 256 * i + 256 by ring, range_add_sum]

theorem outK_last (h31 : t.val % 32 = 31) (j : Fin 32) (l : Fin 128) (k : Fin 256) : outK (grid0.coords t) (b0 m c t) (b1 m c t) (b2 m c t) (b3 m c t) (b4 m c t) (b5 m c t) (acc m c t.val).1 (acc m c t.val).2 (ix3 j l k)
    = ((resK Q K V D (256 * j.val + k.val) (128 * (t.val / 32) + l.val) : ℝ) : EReal) := by
  have ht := t_lt t
  have h := (acc_at m c hA (t.val / 32) (by omega) 31 (by omega) j l k).1
  rw [show 32 * (t.val / 32) + 31 = t.val by omega] at h
  rw [outK_at m c hA t, h, h31, ← EReal.coe_add, ← range_add_sum]
  rfl

theorem outV_last (h31 : t.val % 32 = 31) (j : Fin 32) (l : Fin 128) (k : Fin 256) : outV (grid0.coords t) (b0 m c t) (b1 m c t) (b2 m c t) (b3 m c t) (b4 m c t) (b5 m c t) (acc m c t.val).1 (acc m c t.val).2 (ix3 j l k)
    = ((resV Q K D (256 * j.val + k.val) (128 * (t.val / 32) + l.val) : ℝ) : EReal) := by
  have ht := t_lt t
  have h := (acc_at m c hA (t.val / 32) (by omega) 31 (by omega) j l k).2
  rw [show 32 * (t.val / 32) + 31 = t.val by omega] at h
  rw [outV_at m c hA t, h, h31, ← EReal.coe_add, ← range_add_sum]
  rfl
end

end Cert.Attn
end
-- ==== Proof.Window.lean ====
module

public import proofs.«01_k».proof.Proof.Row
public import Idealize.ShloMosaic.Lib.Pointwise

@[expose] public section

noncomputable section

namespace Cert.Attn

open Idealize.ShloMosaic

/-! ## A running sum along the last axis, printed as a sum over windows -/

/-- The positions of a window of one row are its columns. -/
def winIdx (N : ℕ) : (⟨3, ![1, 1, N]⟩ : Shape).Idx ≃ Fin N where
  toFun i := i 2
  invFun w := ix3 (0 : Fin 1) (0 : Fin 1) w
  left_inv i := by
    funext a
    match a with
    | ⟨0, _⟩ => exact Subsingleton.elim (α := Fin 1) _ _
    | ⟨1, _⟩ => exact Subsingleton.elim (α := Fin 1) _ _
    | ⟨2, _⟩ => rfl
  right_inv w := rfl

theorem foldl_add {ι : Type} (step : EReal → ι → EReal) (g : ι → EReal) (hs : ∀ r n, step r n = r + g n) (l : List ι) (v : EReal) :
    l.foldl step v = v + (l.map g).sum := by
  induction l generalizing v with
  | nil => simp
  | cons a l ih => rw [List.foldl_cons, ih, hs, List.map_cons, List.sum_cons, add_assoc]

theorem window_sum (N : ℕ) (step : EReal → Fin (⟨3, ![1, 1, N]⟩ : Shape).numel → EReal) (g : ℕ → ℝ)
    (hs : ∀ r n, step r n = r + ((g ((⟨3, ![1, 1, N]⟩ : Shape).rowMajor.symm n 2).val : ℝ) : EReal)) :
    (List.finRange (⟨3, ![1, 1, N]⟩ : Shape).numel).foldl step 0 = ((∑ w : Fin N, g w.val : ℝ) : EReal) := by
  rw [foldl_add step _ hs, zero_add, ← Fin.sum_univ_def, coe_sum]
  exact (Equiv.sum_comp (⟨3, ![1, 1, N]⟩ : Shape).rowMajor.symm fun p => ((g (p 2).val : ℝ) : EReal)).trans
    (Equiv.sum_comp (winIdx N).symm fun p => ((g (p 2).val : ℝ) : EReal)).symm

theorem win0 {N : ℕ} (p : (⟨3, ![1, 1, N]⟩ : Shape).Idx) : (p 0).val = 0 := Nat.lt_one_iff.mp (p 0).isLt
theorem win1 {N : ℕ} (p : (⟨3, ![1, 1, N]⟩ : Shape).Idx) : (p 1).val = 0 := Nat.lt_one_iff.mp (p 1).isLt

variable {A B N M : ℕ}

/-- From the end: position `s` holds the sum of the entries from `s` on. -/
theorem sum_from (x : Vec Ideal ⟨3, ![A, B, N]⟩ .f32) (v : EReal) (hv : v = 0) (f : ℕ → ℝ) (h : Fin A) (t : Fin B)
    (hx : ∀ s : Fin N, x (ix3 h t s) = ((f s.val : ℝ) : EReal))
    (hw : (⟨3, ![A, B, N]⟩ : Shape).ReduceWindows ![1, 1, N] ![1, 1, 1] ![0, 0, 0] ![0, 0, M] ⟨3, ![A, B, N]⟩) (s : Fin N) :
    Ideal.hostReduceWindowAdd ![1, 1, N] ![1, 1, 1] ![0, 0, 0] ![0, 0, M] hw x v (ix3 h t s)
      = ((∑ i ∈ Finset.range (N - s.val), f (s.val + i) : ℝ) : EReal) := by
  subst hv
  unfold Ideal.hostReduceWindowAdd Host.reduceWindow
  refine (window_sum N _ (fun w => if w < N - s.val then f (s.val + w) else 0) fun r n => ?_).trans ?_
  · dsimp only
    have hs := s.isLt
    have h0 := win0 ((⟨3, ![1, 1, N]⟩ : Shape).rowMajor.symm n)
    have h1 := win1 ((⟨3, ![1, 1, N]⟩ : Shape).rowMajor.symm n)
    have h2 := ((⟨3, ![1, 1, N]⟩ : Shape).rowMajor.symm n 2).isLt
    change _ < N at h2
    refine congrArg (r + ·) ?_
    split
    · next hin =>
      have h3 := hin 2
      change 0 ≤ s.val * 1 + ((⟨3, ![1, 1, N]⟩ : Shape).rowMajor.symm n 2).val ∧ s.val * 1 + ((⟨3, ![1, 1, N]⟩ : Shape).rowMajor.symm n 2).val - 0 < N at h3
      rw [if_pos (by omega)]
      refine (congrArg x (funext fun a => Fin.ext ?_)).trans (hx ⟨s.val + ((⟨3, ![1, 1, N]⟩ : Shape).rowMajor.symm n 2).val, by omega⟩)
      match a with
      | ⟨0, _⟩ =>
        show h.val * 1 + ((⟨3, ![1, 1, N]⟩ : Shape).rowMajor.symm n 0).val - 0 = h.val
        omega
      | ⟨1, _⟩ =>
        show t.val * 1 + ((⟨3, ![1, 1, N]⟩ : Shape).rowMajor.symm n 1).val - 0 = t.val
        omega
      | ⟨2, _⟩ =>
        show s.val * 1 + ((⟨3, ![1, 1, N]⟩ : Shape).rowMajor.symm n 2).val - 0 = s.val + ((⟨3, ![1, 1, N]⟩ : Shape).rowMajor.symm n 2).val
        omega
    · next hin =>
      rw [if_neg fun hle => hin fun a => by
        match a with
        | ⟨0, _⟩ =>
          show 0 ≤ h.val * 1 + ((⟨3, ![1, 1, N]⟩ : Shape).rowMajor.symm n 0).val ∧ h.val * 1 + ((⟨3, ![1, 1, N]⟩ : Shape).rowMajor.symm n 0).val - 0 < A
          have := h.isLt
          omega
        | ⟨1, _⟩ =>
          show 0 ≤ t.val * 1 + ((⟨3, ![1, 1, N]⟩ : Shape).rowMajor.symm n 1).val ∧ t.val * 1 + ((⟨3, ![1, 1, N]⟩ : Shape).rowMajor.symm n 1).val - 0 < B
          have := t.isLt
          omega
        | ⟨2, _⟩ =>
          show 0 ≤ s.val * 1 + ((⟨3, ![1, 1, N]⟩ : Shape).rowMajor.symm n 2).val ∧ s.val * 1 + ((⟨3, ![1, 1, N]⟩ : Shape).rowMajor.symm n 2).val - 0 < N
          omega]
      rfl
  refine congrArg _ ?_
  exact sum_cut (fun i => f (s.val + i)) N (N - s.val) (by omega)

/-- From the start: position `s` holds the sum of the entries up to `s`. -/
theorem sum_upto (hM : M + 1 = N) (x : Vec Ideal ⟨3, ![A, B, N]⟩ .f32) (v : EReal) (hv : v = 0) (f : ℕ → ℝ) (h : Fin A) (t : Fin B)
    (hx : ∀ s : Fin N, x (ix3 h t s) = ((f s.val : ℝ) : EReal))
    (hw : (⟨3, ![A, B, N]⟩ : Shape).ReduceWindows ![1, 1, N] ![1, 1, 1] ![0, 0, M] ![0, 0, 0] ⟨3, ![A, B, N]⟩) (s : Fin N) :
    Ideal.hostReduceWindowAdd ![1, 1, N] ![1, 1, 1] ![0, 0, M] ![0, 0, 0] hw x v (ix3 h t s)
      = ((∑ i ∈ Finset.range (s.val + 1), f i : ℝ) : EReal) := by
  subst hv
  unfold Ideal.hostReduceWindowAdd Host.reduceWindow
  refine (window_sum N _ (fun w => if M ≤ s.val + w then f (s.val + w - M) else 0) fun r n => ?_).trans ?_
  · dsimp only
    have hs := s.isLt
    have h0 := win0 ((⟨3, ![1, 1, N]⟩ : Shape).rowMajor.symm n)
    have h1 := win1 ((⟨3, ![1, 1, N]⟩ : Shape).rowMajor.symm n)
    have h2 := ((⟨3, ![1, 1, N]⟩ : Shape).rowMajor.symm n 2).isLt
    change _ < N at h2
    refine congrArg (r + ·) ?_
    split
    · next hin =>
      have h3 := hin 2
      change M ≤ s.val * 1 + ((⟨3, ![1, 1, N]⟩ : Shape).rowMajor.symm n 2).val ∧ s.val * 1 + ((⟨3, ![1, 1, N]⟩ : Shape).rowMajor.symm n 2).val - M < N at h3
      rw [if_pos (by omega)]
      refine (congrArg x (funext fun a => Fin.ext ?_)).trans (hx ⟨s.val + ((⟨3, ![1, 1, N]⟩ : Shape).rowMajor.symm n 2).val - M, by omega⟩)
      match a with
      | ⟨0, _⟩ =>
        show h.val * 1 + ((⟨3, ![1, 1, N]⟩ : Shape).rowMajor.symm n 0).val - 0 = h.val
        omega
      | ⟨1, _⟩ =>
        show t.val * 1 + ((⟨3, ![1, 1, N]⟩ : Shape).rowMajor.symm n 1).val - 0 = t.val
        omega
      | ⟨2, _⟩ =>
        show s.val * 1 + ((⟨3, ![1, 1, N]⟩ : Shape).rowMajor.symm n 2).val - M = s.val + ((⟨3, ![1, 1, N]⟩ : Shape).rowMajor.symm n 2).val - M
        omega
    · next hin =>
      rw [if_neg fun hle => hin fun a => by
        match a with
        | ⟨0, _⟩ =>
          show 0 ≤ h.val * 1 + ((⟨3, ![1, 1, N]⟩ : Shape).rowMajor.symm n 0).val ∧ h.val * 1 + ((⟨3, ![1, 1, N]⟩ : Shape).rowMajor.symm n 0).val - 0 < A
          have := h.isLt
          omega
        | ⟨1, _⟩ =>
          show 0 ≤ t.val * 1 + ((⟨3, ![1, 1, N]⟩ : Shape).rowMajor.symm n 1).val ∧ t.val * 1 + ((⟨3, ![1, 1, N]⟩ : Shape).rowMajor.symm n 1).val - 0 < B
          have := t.isLt
          omega
        | ⟨2, _⟩ =>
          show M ≤ s.val * 1 + ((⟨3, ![1, 1, N]⟩ : Shape).rowMajor.symm n 2).val ∧ s.val * 1 + ((⟨3, ![1, 1, N]⟩ : Shape).rowMajor.symm n 2).val - M < N
          omega]
      rfl
  refine congrArg _ ?_
  rw [Fin.sum_univ_eq_sum_range (fun w => if M ≤ s.val + w then f (s.val + w - M) else 0) N]
  have hs := s.isLt
  have hN : Finset.range N = Finset.range ((M - s.val) + (s.val + 1)) := congrArg _ (by omega)
  rw [hN, Finset.sum_range_add, Finset.sum_eq_zero, zero_add]
  · refine Finset.sum_congr rfl fun i hi => ?_
    rw [if_pos (by omega)]
    exact congrArg f (by omega)
  · intro i hi
    rw [Finset.mem_range] at hi
    exact if_neg (by omega)

theorem host_from {u : Shape} (x : Vec Ideal ⟨3, ![A, B, N]⟩ .f32) (v : FVec Ideal u .f32) (hu : 0 < u.numel) (hv : v (Shape.Idx.first hu) = 0) (f : ℕ → ℝ) (h : Fin A) (t : Fin B)
    (hx : ∀ s : Fin N, x (ix3 h t s) = ((f s.val : ℝ) : EReal))
    (hw : (⟨3, ![A, B, N]⟩ : Shape).ReduceWindows ![1, 1, N] ![1, 1, 1] ![0, 0, 0] ![0, 0, M] ⟨3, ![A, B, N]⟩) (s : Fin N) :
    (Host.reduceWindowAdd (F := Ideal) (φ := .f32) ![1, 1, N] ![1, 1, 1] ![0, 0, 0] ![0, 0, M] x v hw hu : FVec Ideal ⟨3, ![A, B, N]⟩ .f32) (ix3 h t s)
      = ((∑ i ∈ Finset.range (N - s.val), f (s.val + i) : ℝ) : EReal) :=
  sum_from x (v (Shape.Idx.first hu)) hv f h t hx hw s

theorem host_upto {u : Shape} (hM : M + 1 = N) (x : Vec Ideal ⟨3, ![A, B, N]⟩ .f32) (v : FVec Ideal u .f32) (hu : 0 < u.numel) (hv : v (Shape.Idx.first hu) = 0) (f : ℕ → ℝ) (h : Fin A) (t : Fin B)
    (hx : ∀ s : Fin N, x (ix3 h t s) = ((f s.val : ℝ) : EReal))
    (hw : (⟨3, ![A, B, N]⟩ : Shape).ReduceWindows ![1, 1, N] ![1, 1, 1] ![0, 0, M] ![0, 0, 0] ⟨3, ![A, B, N]⟩) (s : Fin N) :
    (Host.reduceWindowAdd (F := Ideal) (φ := .f32) ![1, 1, N] ![1, 1, 1] ![0, 0, M] ![0, 0, 0] x v hw hu : FVec Ideal ⟨3, ![A, B, N]⟩ .f32) (ix3 h t s)
      = ((∑ i ∈ Finset.range (s.val + 1), f i : ℝ) : EReal) :=
  sum_upto hM x (v (Shape.Idx.first hu)) hv f h t hx hw s

end Cert.Attn
end
-- ==== Proof.RefA.lean ====
module

public import proofs.«01_k».proof.Proof.Gen.ReferenceIdeal.Run
public import proofs.«01_k».proof.Proof.Acc
public import proofs.«01_k».proof.Proof.Window

@[expose] public section

set_option maxRecDepth 65536

noncomputable section

namespace Cert.Attn

open Cert.ReferenceIdeal Cert.ReferenceIdeal.Gen Cert.ReferenceIdeal.Value
open Idealize.ShloMosaic Idealize.ShloMosaic.TcCoe Idealize.SL.Sem Idealize.ShloMosaic.StableHlo

/-! ## The reference, operation by operation -/

theorem ref_zero : id (constant (F := Ideal) S_ .f32 0x00000000#32) ix0 = ((0 : ℝ) : EReal) := by
  rw [id_eq]
  pointwise []
  rfl

section
variable (W : Valuation τ sig (Elt Ideal)) {Q K V D : ℕ → ℕ → ℝ}
  (hA : Args (W (Proc.devRef .tc main_arg0)) (W (Proc.devRef .tc main_arg1)) Q K V D)
  (h : Fin 8) (t s : Fin 8192) (e : Fin 64)

include hA

theorem ref_q : (res_main_v8 W : Vec Ideal S8x8192x64 .f32) (ix3 h t e) = ((Q t.val (64 * h.val + e.val) : ℝ) : EReal) := by
  unfold res_main_v8 res_main_v0
  pointwise []
  exact (hA.q t _).trans (by simp only [Nat.mul_comm])

theorem ref_k : (res_main_v10 W : Vec Ideal S8x8192x64 .f32) (ix3 h t e) = ((K t.val (64 * h.val + e.val) : ℝ) : EReal) := by
  unfold res_main_v10 res_main_v0
  pointwise []
  exact (hA.k t _).trans (by simp only [Nat.mul_comm])

theorem ref_v : (res_main_v12 W : Vec Ideal S8x8192x64 .f32) (ix3 h t e) = ((V t.val (64 * h.val + e.val) : ℝ) : EReal) := by
  unfold res_main_v12 res_main_v0
  pointwise []
  exact (hA.v t _).trans (by simp only [Nat.mul_comm])

theorem ref_d : (res_main_v36 W : Vec Ideal S8x8192x64 .f32) (ix3 h t e) = ((D t.val (64 * h.val + e.val) : ℝ) : EReal) := by
  unfold res_main_v36
  pointwise []
  exact (hA.d t _).trans (by simp only [Nat.mul_comm])

omit hA

theorem ref_mask : (res_main_v18 W : IVec S8192x8192 1) (ix2 t s) = BitVec.ofBool (decide (s.val < t.val)) := by
  unfold res_main_v18 res_main_v13
  pointwise []
  exact WordCmp.cmpi_slt_ofNat (by omega) (by omega)

theorem ref_mask3 : (res_main_v25_1 W : IVec S8x8192x8192 1) (ix3 h t s) = BitVec.ofBool (decide (s.val < t.val)) := by
  unfold res_main_v25_1
  pointwise []
  exact ref_mask W t s

theorem ref_mask4 : (res_main_v30_1 W : IVec S8x8192x8192 1) (ix3 h t s) = BitVec.ofBool (decide (s.val < t.val)) := by
  unfold res_main_v30_1
  pointwise []
  exact ref_mask W t s

include hA

theorem ref_z : (res_main_v21 W : Vec Ideal S8x8192x8192 .f32) (ix3 h t s) = ((Z Q K h.val t.val s.val : ℝ) : EReal) := by
  unfold res_main_v21
  pointwise []
  rw [eighthE, Finset.sum_congr rfl fun x _ => by rw [ref_q W hA h t x, ref_k W hA h s x, ← EReal.coe_mul], ← coe_sum, ← EReal.coe_mul]
  rfl

theorem ref_nz : (res_main_call0_v0 W : Vec Ideal S8x8192x8192 .f32) (ix3 h t s) = ((-Z Q K h.val t.val s.val : ℝ) : EReal) := by
  unfold res_main_call0_v0
  pointwise []
  rw [ref_z W hA h t s, ← EReal.coe_neg]

theorem ref_nnz : (res_main_call1_v0 W : Vec Ideal S8x8192x8192 .f32) (ix3 h t s) = ((Z Q K h.val t.val s.val : ℝ) : EReal) := by
  unfold res_main_call1_v0
  pointwise []
  rw [ref_z W hA h t s, ← EReal.coe_neg, ← EReal.coe_neg, neg_neg]

theorem ref_sn : (res_main_call0_v1_0 W : Vec Ideal S8x8192x8192 .f32) (ix3 h t s) = ((sp (-Z Q K h.val t.val s.val) : ℝ) : EReal) := by
  unfold res_main_call0_v1_0 res_main_call0_call0_v3 res_main_call0_call0_cst
  have e := ref_nz W hA h t s
  generalize res_main_call0_v0 W = Y at e ⊢
  pointwise []
  simp only [e, ne_eq, not_true_eq_false, if_false]
  exact lsE _

theorem ref_sz : (res_main_call1_v1_0 W : Vec Ideal S8x8192x8192 .f32) (ix3 h t s) = ((sp (Z Q K h.val t.val s.val) : ℝ) : EReal) := by
  unfold res_main_call1_v1_0 res_main_call1_call0_v3 res_main_call1_call0_cst
  have e := ref_nnz W hA h t s
  generalize res_main_call1_v0 W = Y at e ⊢
  pointwise []
  simp only [e, ne_eq, not_true_eq_false, if_false]
  exact lsE _

/-- The logarithm of one less the sigmoid, where it is kept. -/
def kept (Q K : ℕ → ℕ → ℝ) (h t s : ℕ) : ℝ := if s < t then -sp (Z Q K h t s) else 0

theorem ref_kept : (res_main_v25_0 W : Vec Ideal S8x8192x8192 .f32) (ix3 h t s) = ((kept Q K h.val t.val s.val : ℝ) : EReal) := by
  unfold res_main_v25_0
  have e := ref_sz W hA h t s
  have e' := ref_mask3 W h t s
  generalize res_main_call1_v1_0 W = Y at e ⊢
  generalize res_main_v25_1 W = Y' at e' ⊢
  pointwise []
  rw [e, e', Scalar.select_decide, kept]
  split
  · rw [← EReal.coe_neg]
  · exact ref_zero
end

end Cert.Attn
end
-- ==== Proof.RefB.lean ====
module

public import proofs.«01_k».proof.Proof.RefA

@[expose] public section

set_option maxRecDepth 65536

noncomputable section

namespace Cert.Attn

open Cert.ReferenceIdeal Cert.ReferenceIdeal.Gen Cert.ReferenceIdeal.Value
open Idealize.ShloMosaic Idealize.ShloMosaic.TcCoe Idealize.SL.Sem Idealize.ShloMosaic.StableHlo

/-! ## The reference's weights and gradients of the scores -/

section
variable (W : Valuation τ sig (Elt Ideal)) {Q K V D : ℕ → ℕ → ℝ}
  (hA : Args (W (Proc.devRef .tc main_arg0)) (W (Proc.devRef .tc main_arg1)) Q K V D)
  (h : Fin 8) (t s : Fin 8192) (e : Fin 64)

/-- A weight as the reference computes it, also where it is not kept. -/
def wr (Q K : ℕ → ℕ → ℝ) (h t s : ℕ) : ℝ :=
  Real.exp (-sp (-Z Q K h t s) + ((∑ i ∈ Finset.range (8192 - s), kept Q K h t (s + i)) - kept Q K h t s))

theorem kept_sum (Q K : ℕ → ℕ → ℝ) (h : ℕ) {t s : ℕ} (ht : t ≤ 8192) (hs : s < t) :
    (∑ i ∈ Finset.range (8192 - s), kept Q K h t (s + i)) - kept Q K h t s = Bt Q K h t - ∑ i ∈ Finset.range (s + 1), -sp (Z Q K h t i) := by
  have e1 : ∑ i ∈ Finset.range 8192, kept Q K h t i = Bt Q K h t := by
    rw [← Fin.sum_univ_eq_sum_range (fun i => kept Q K h t i) 8192]
    exact sum_cut (fun i => -sp (Z Q K h t i)) 8192 t ht
  have e2 := range_add_sum (kept Q K h t) s (8192 - s)
  rw [show s + (8192 - s) = 8192 by omega] at e2
  have e3 : ∑ i ∈ Finset.range s, kept Q K h t i = ∑ i ∈ Finset.range s, -sp (Z Q K h t i) :=
    Finset.sum_congr rfl fun i hi => if_pos ((Finset.mem_range.mp hi).trans hs)
  have e4 : kept Q K h t s = -sp (Z Q K h t s) := if_pos hs
  rw [Finset.sum_range_succ]
  linarith

theorem wr_eq (Q K : ℕ → ℕ → ℝ) (h : ℕ) {t s : ℕ} (ht : t ≤ 8192) (hs : s < t) : wr Q K h t s = wq (Z Q K h t) (Bt Q K h t) s := by
  unfold wr wq
  rw [kept_sum Q K h ht hs, sp_neg, neg_sub]

/-- The weight times its own gradient, where it is kept. -/
def er (Q K V D : ℕ → ℕ → ℝ) (h t s : ℕ) : ℝ := if s < t then eq (Z Q K h t) (G D V h t) (Bt Q K h t) s else 0

theorem er_sum (Q K V D : ℕ → ℕ → ℝ) (h : ℕ) {t s : ℕ} (hs : s < t) :
    -er Q K V D h t s + ∑ i ∈ Finset.range (s + 1), er Q K V D h t i = pq (Z Q K h t) (G D V h t) (Bt Q K h t) s := by
  rw [Finset.sum_range_succ, pq]
  have e3 : ∑ i ∈ Finset.range s, er Q K V D h t i = ∑ i ∈ Finset.range s, eq (Z Q K h t) (G D V h t) (Bt Q K h t) i :=
    Finset.sum_congr rfl fun i hi => if_pos ((Finset.mem_range.mp hi).trans hs)
  rw [e3]
  ring

theorem topE : Ideal.ofBits .f32 0x7F800000#32 = (⊤ : EReal) := by
  simp [Ideal.ofBits, Ideal.ieee]

theorem zero_init (i : S_.Idx) : broadcastInDim S_ ![] bcast_S_S_ (constant (F := Ideal) S_ .f32 0x00000000#32) i = (0 : EReal) := by
  obtain rfl : i = ix0 := funext fun a => a.elim0
  pointwise []

include hA

theorem ref_w : (res_main_v29 W : Vec Ideal S8x8192x8192 .f32) (ix3 h t s) = ((wr Q K h.val t.val s.val : ℝ) : EReal) := by
  unfold res_main_v29
  have e1 := ref_sn W hA h t s
  have e2 := fun s => ref_kept W hA h t s
  generalize res_main_call0_v1_0 W = Y at e1 ⊢
  generalize res_main_v25_0 W = Y' at e2 ⊢
  have e3 := host_from Y' (broadcastInDim S_ ![] bcast_S_S_ (constant (F := Ideal) S_ .f32 0x00000000#32)) h_S_ (zero_init (Shape.Idx.first h_S_)) (kept Q K h.val t.val) h t e2
    reduceWindows_S8x8192x8192_S8x8192x8192_w1s1p0_0_w1s1p0_0_w8192s1p0_8191 s
  pointwise []
  rw [e1, e2, e3, ← EReal.coe_sub, ← EReal.coe_neg, ← EReal.coe_add, Ideal.exp_coe]
  rfl

theorem ref_a : (res_main_v30_0 W : Vec Ideal S8x8192x8192 .f32) (ix3 h t s) = ((if s.val < t.val then wq (Z Q K h.val t.val) (Bt Q K h.val t.val) s.val else 0 : ℝ) : EReal) := by
  unfold res_main_v30_0
  have e := ref_w W hA h t s
  have e' := ref_mask4 W h t s
  generalize res_main_v29 W = Y at e ⊢
  generalize res_main_v30_1 W = Y' at e' ⊢
  pointwise []
  rw [e, e', Scalar.select_decide]
  split
  · next hs => rw [wr_eq Q K h.val t.isLt.le hs]
  · exact ref_zero

theorem ref_e : (res_main_v41 W : Vec Ideal S8x8192x8192 .f32) (ix3 h t s) = ((er Q K V D h.val t.val s.val : ℝ) : EReal) := by
  unfold res_main_v41
  have e := ref_w W hA h t s
  have e' := ref_mask4 W h t s
  generalize res_main_v29 W = Y at e ⊢
  generalize res_main_v30_1 W = Y' at e' ⊢
  pointwise []
  rw [e, e', Scalar.select_decide, Finset.sum_congr rfl fun x _ => by rw [ref_d W hA h t x, ref_v W hA h s x, ← EReal.coe_mul], ← coe_sum, er]
  split
  · next hs =>
    rw [wr_eq Q K h.val t.isLt.le hs, ← EReal.coe_mul, mul_comm]
    rfl
  · rfl

theorem ref_dz : (res_main_v51 W : Vec Ideal S8x8192x8192 .f32) (ix3 h t s)
    = (((if s.val < t.val then dq (Z Q K h.val t.val) (G D V h.val t.val) (Bt Q K h.val t.val) s.val else 0) * (1 / 8) : ℝ) : EReal) := by
  unfold res_main_v51
  have e1 := ref_sn W hA h t s
  have e2 := ref_sz W hA h t s
  have e3 := ref_nz W hA h t s
  have e4 := ref_nnz W hA h t s
  have e5 := fun s => ref_e W hA h t s
  have e6 := ref_mask3 W h t s
  generalize res_main_call0_v1_0 W = Y1 at e1 ⊢
  generalize res_main_call1_v1_0 W = Y2 at e2 ⊢
  generalize res_main_call0_v0 W = Y3 at e3 ⊢
  generalize res_main_call1_v0 W = Y4 at e4 ⊢
  generalize res_main_v41 W = Y5 at e5 ⊢
  generalize res_main_v25_1 W = Y6 at e6 ⊢
  have e7 := host_upto (M := 8191) (N := 8192) (by norm_num) Y5 (broadcastInDim S_ ![] bcast_S_S_ (constant (F := Ideal) S_ .f32 0x00000000#32)) h_S_ (zero_init (Shape.Idx.first h_S_)) (er Q K V D h.val t.val) h t e5
    reduceWindows_S8x8192x8192_S8x8192x8192_w1s1p0_0_w1s1p0_0_w8192s1p8191_0 s
  have e8 := e5 s
  pointwise []
  rw [e1, e2, e3, e4, e6, e7, e8, Scalar.select_decide, eighthE, topE, if_neg (EReal.coe_ne_top _), if_neg (EReal.coe_ne_top _), if_neg (EReal.coe_ne_top _), if_neg (EReal.coe_ne_top _)]
  rw [← EReal.coe_neg, ← EReal.coe_add, ← EReal.coe_sub, ← EReal.coe_sub, Ideal.exp_coe, Ideal.exp_coe, ← one_sub_bq (Z Q K h.val t.val)]
  by_cases hs : s.val < t.val
  · rw [if_pos hs, if_pos hs, er_sum Q K V D h.val hs, er, if_pos hs, ← EReal.coe_neg, ← EReal.coe_mul, ← EReal.coe_neg, ← EReal.coe_neg, ← EReal.coe_mul, ← EReal.coe_neg, ← EReal.coe_add, ← EReal.coe_mul]
    refine congrArg Real.toEReal ?_
    unfold dq bq
    ring
  · rw [if_neg hs, if_neg hs, er, if_neg hs]
    simp only [neg_zero, zero_mul, EReal.coe_zero, add_zero]
end

end Cert.Attn
end
-- ==== Proof.Out.lean ====
module

public import proofs.«01_k».proof.Proof.Acc

@[expose] public section

set_option maxRecDepth 65536

noncomputable section

namespace Cert.Attn

open Cert.KernelIdeal Cert.KernelIdeal.Gen
open Idealize.ShloMosaic Idealize.ShloMosaic.TcCoe Idealize.SL.Sem

/-! ## The arrays the pipeline leaves -/

section
variable (m : (ℓ : Loc nD τ sig) → Buf (Elt Ideal) ℓ) (c : Dev nD) {Q K V D : ℕ → ℕ → ℝ}
  (hA : Args (m ((c.tc : Thread nD τ).loc main_arg0)) (m ((c.tc : Thread nD τ).loc main_arg1)) Q K V D)
  (t : Fin cfg0.N)

/-- An array of real numbers, by row and column. -/
def arr (f : ℕ → ℕ → ℝ) : Vec Ideal S8192x512 .bf16 := fun x => ((f (x 0).val (x 1).val : ℝ) : EReal)

theorem emb6 (f : ℕ → ℕ → ℝ) (r : Fin 256) (l : Fin 128) : arr f ((win0_6.blk t).view.emb (ix2 r l)) = ((f (256 * (t.val % 32) + r.val) (128 * (t.val / 32) + l.val) : ℝ) : EReal) := by
  have ht := t_lt t
  have h : (arr f) ((win0_6.blk t).view.emb (ix2 r l)) = arr f (ix2 ⟨256 * (t.val % 32) + r.val, by omega⟩ ⟨128 * (t.val / 32) + l.val, by omega⟩) := by
    blk_ext [idx t]
  exact h

theorem emb7 (f : ℕ → ℕ → ℝ) (r : Fin 8192) (l : Fin 128) : arr f ((win0_7.blk t).view.emb (ix2 r l)) = ((f r.val (128 * (t.val / 32) + l.val) : ℝ) : EReal) := by
  have ht := t_lt t
  have h : (arr f) ((win0_7.blk t).view.emb (ix2 r l)) = arr f (ix2 r ⟨128 * (t.val / 32) + l.val, by omega⟩) := by
    blk_ext [idx t]
  exact h

theorem emb8 (f : ℕ → ℕ → ℝ) (r : Fin 8192) (l : Fin 128) : arr f ((win0_8.blk t).view.emb (ix2 r l)) = ((f r.val (128 * (t.val / 32) + l.val) : ℝ) : EReal) := by
  have ht := t_lt t
  have h : (arr f) ((win0_8.blk t).view.emb (ix2 r l)) = arr f (ix2 r ⟨128 * (t.val / 32) + l.val, by omega⟩) := by
    blk_ext [idx t]
  exact h

theorem flush2 (y : Vec Ideal S32x128x256 .f32) (s : Fin 8192) (l : Fin 128) : flush k0_pay2 y (ix2 s l) = y (ix3 ⟨s.val / 256, by omega⟩ l ⟨s.val % 256, by omega⟩) := by
  unfold flush
  show k0_pay2 (slot y ⟨s.val / 256, by omega⟩) (ix2 ⟨s.val % 256, by omega⟩ l) = _
  pointwise [k0_pay2]
  rw [slot_apply]

theorem flush3 (y : Vec Ideal S32x128x256 .f32) (s : Fin 8192) (l : Fin 128) : flush k0_pay3 y (ix2 s l) = y (ix3 ⟨s.val / 256, by omega⟩ l ⟨s.val % 256, by omega⟩) := by
  unfold flush
  show k0_pay3 (slot y ⟨s.val / 256, by omega⟩) (ix2 ⟨s.val % 256, by omega⟩ l) = _
  pointwise [k0_pay3]
  rw [slot_apply]

include hA

theorem arrQ : (dats m 0 c).arrAt 6 cfg0.N = arr (resQ Q K V D) := by
  refine (dats m 0 c).arrAt_eq_of_covers 6 _ (by decide +kernel) fun t _ y => ?_
  blk_simp
  rw [after0_6]
  obtain ⟨r, l, rfl⟩ : ∃ (r : Fin 256) (l : Fin 128), y = ix2 r l := ⟨_, _, eq_ix2 y⟩
  exact (outQ_at m c hA t r l).trans (emb6 t _ r l).symm

theorem arrK : (dats m 0 c).arrAt 7 cfg0.N = arr (resK Q K V D) := by
  refine (dats m 0 c).arrAt_eq_of_covers 7 _ (by decide +kernel) fun t hf y => ?_
  blk_simp
  rw [after0_7]
  obtain ⟨r, l, rfl⟩ : ∃ (r : Fin 8192) (l : Fin 128), y = ix2 r l := ⟨_, _, eq_ix2 y⟩
  refine (flush2 _ r l).trans ((outK_last m c hA t ((flush0_7 t).mp hf) _ l _).trans (Eq.trans ?_ (emb7 t _ r l).symm))
  simp only [Nat.div_add_mod]

theorem arrV : (dats m 0 c).arrAt 8 cfg0.N = arr (resV Q K D) := by
  refine (dats m 0 c).arrAt_eq_of_covers 8 _ (by decide +kernel) fun t hf y => ?_
  blk_simp
  rw [after0_8]
  obtain ⟨r, l, rfl⟩ : ∃ (r : Fin 8192) (l : Fin 128), y = ix2 r l := ⟨_, _, eq_ix2 y⟩
  refine (flush3 _ r l).trans ((outV_last m c hA t ((flush0_8 t).mp hf) _ l _).trans (Eq.trans ?_ (emb8 t _ r l).symm))
  simp only [Nat.div_add_mod]
end

end Cert.Attn
end
-- ==== Proof.RefC.lean ====
module

public import proofs.«01_k».proof.Proof.RefB
public import proofs.«01_k».proof.Proof.Out

@[expose] public section

set_option maxRecDepth 65536

noncomputable section

namespace Cert.Attn

open Cert.ReferenceIdeal Cert.ReferenceIdeal.Gen Cert.ReferenceIdeal.Value
open Idealize.ShloMosaic Idealize.ShloMosaic.TcCoe Idealize.SL.Sem Idealize.ShloMosaic.StableHlo

/-! ## The reference's results -/

section
variable (W : Valuation τ sig (Elt Ideal)) {Q K V D : ℕ → ℕ → ℝ}
  (hA : Args (W (Proc.devRef .tc main_arg0)) (W (Proc.devRef .tc main_arg1)) Q K V D)

theorem col_eq (l : Fin 512) : 64 * (l.val / 64) + l.val % 64 = l.val := Nat.div_add_mod _ _

include hA

theorem ref_resQ : (truncf .bf16 (shapeCast S8192x512 (transpose S8192x8x64 [1, 0, 2] (Host.dotGeneral (φ₁ := .f32) (φ₂ := .f32) dot_S8x8192x8192_S8x8192x64_S8x8192x64_2_1_1_2_0_0 none (res_main_v51 W) (res_main_v10 W)) transposes_S8x8192x64_S8192x8x64_1_0_2) shapeCasts_S8192x8x64_S8192x512) bitsLt_bf16_f32 : Vec Ideal S8192x512 .bf16) = arr (resQ Q K V D) := by
  funext x
  obtain ⟨t, l, rfl⟩ : ∃ (t : Fin 8192) (l : Fin 512), x = ix2 t l := ⟨_, _, eq_ix2 x⟩
  have e1 := fun h t s => ref_dz W hA h t s
  have e2 := fun h t e => ref_k W hA h t e
  generalize res_main_v51 W = X at e1 ⊢
  generalize res_main_v10 W = Y at e2 ⊢
  pointwise []
  rw [Finset.sum_congr rfl fun x _ => by rw [e1, e2, ← EReal.coe_mul], ← coe_sum]
  refine congrArg Real.toEReal ?_
  simp only [col_eq]
  refine (Finset.sum_congr rfl fun x _ => ?_).trans ((sum_cut (fun s => dz Q K V D l.val t.val s * K s l.val * (1 / 8)) 8192 t.val t.isLt.le).trans (Finset.sum_mul _ _ _).symm)
  split
  · unfold dz
    ring
  · ring

theorem ref_resK : (truncf .bf16 (shapeCast S8192x512 (transpose S8192x8x64 [1, 0, 2] (Host.dotGeneral (φ₁ := .f32) (φ₂ := .f32) dot_S8x8192x8192_S8x8192x64_S8x8192x64_1_1_2_2_0_0 none (res_main_v51 W) (res_main_v8 W)) transposes_S8x8192x64_S8192x8x64_1_0_2) shapeCasts_S8192x8x64_S8192x512) bitsLt_bf16_f32 : Vec Ideal S8192x512 .bf16) = arr (resK Q K V D) := by
  funext x
  obtain ⟨s, l, rfl⟩ : ∃ (t : Fin 8192) (l : Fin 512), x = ix2 t l := ⟨_, _, eq_ix2 x⟩
  have e1 := fun h t s => ref_dz W hA h t s
  have e2 := fun h t e => ref_q W hA h t e
  generalize res_main_v51 W = X at e1 ⊢
  generalize res_main_v8 W = Y at e2 ⊢
  pointwise []
  rw [Finset.sum_congr rfl fun x _ => by rw [e1, e2, ← EReal.coe_mul], ← coe_sum]
  refine congrArg Real.toEReal ?_
  simp only [col_eq]
  refine Eq.trans ?_ (Fin.sum_univ_eq_sum_range (fun t => termK Q K V D s.val l.val t) 8192)
  refine Finset.sum_congr rfl fun x _ => ?_
  unfold termK dz
  ring

theorem ref_resV : (truncf .bf16 (shapeCast S8192x512 (transpose S8192x8x64 [1, 0, 2] (transpose S8x8192x64 [0, 2, 1] (Host.dotGeneral (φ₁ := .f32) (φ₂ := .f32) dot_S8x8192x64_S8x8192x8192_S8x64x8192_1_1_2_2_0_0 none (res_main_v36 W) (res_main_v30_0 W)) transposes_S8x64x8192_S8x8192x64_0_2_1) transposes_S8x8192x64_S8192x8x64_1_0_2) shapeCasts_S8192x8x64_S8192x512) bitsLt_bf16_f32 : Vec Ideal S8192x512 .bf16) = arr (resV Q K D) := by
  funext x
  obtain ⟨s, l, rfl⟩ : ∃ (t : Fin 8192) (l : Fin 512), x = ix2 t l := ⟨_, _, eq_ix2 x⟩
  have e1 := fun h t s => ref_a W hA h t s
  have e2 := fun h t e => ref_d W hA h t e
  generalize res_main_v30_0 W = X at e1 ⊢
  generalize res_main_v36 W = Y at e2 ⊢
  pointwise []
  rw [Finset.sum_congr rfl fun x _ => by rw [e1, e2, ← EReal.coe_mul], ← coe_sum]
  refine congrArg Real.toEReal ?_
  simp only [col_eq]
  exact Fin.sum_univ_eq_sum_range (fun t => termV Q K D s.val l.val t) 8192
end

end Cert.Attn
end
-- ==== Proof.Value.lean ====
module

public import proofs.«01_k».proof.Defs
public import proofs.«01_k».proof.Proof.Fin
public import proofs.«01_k».proof.Proof.RefC

@[expose] public section

set_option maxRecDepth 65536

noncomputable section

namespace Cert.Attn

open Idealize.ShloMosaic Idealize.ShloMosaic.TcCoe Idealize.SL.Sem

/-! ## The two programs' results -/

/-- The kernel's results where its arguments are real. -/
theorem kernel_run (m : (ℓ : Loc Cert.KernelIdeal.nD Cert.KernelIdeal.τ Cert.KernelIdeal.sig) → Buf (Elt Ideal) ℓ) (g : Dev Cert.KernelIdeal.nD → PrngReg)
    (Q K V D : Dev Cert.KernelIdeal.nD → ℕ → ℕ → ℝ)
    (hA : ∀ c : Dev Cert.KernelIdeal.nD, Args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Q c) (K c) (V c) (D c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v27_0) = arr (resQ (Q c) (K c) (V c) (D c))
      ∧ r.2.mem ((c.tc : Thread Cert.KernelIdeal.nD Cert.KernelIdeal.τ).loc Cert.KernelIdeal.main_v27_1) = arr (resK (Q c) (K c) (V c) (D c))
      ∧ r.2.mem ((c.tc : Thread Cert.KernelIdeal.nD Cert.KernelIdeal.τ).loc Cert.KernelIdeal.main_v27_2) = arr (resV (Q c) (K c) (D c))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run Cert.KernelIdeal.defs _ _).mono (fun r h c => ?_) (θ_run_and (run_main (F := Ideal) m g) (frame_any (F := Ideal) m g))
  exact ⟨((h.1.1 c).1 6).trans (arrQ m c (hA c)), ((h.1.1 c).1 7).trans (arrK m c (hA c)), ((h.1.1 c).1 8).trans (arrV m c (hA c)), (h.2.1 c).1, (h.2.1 c).2⟩

/-- The reference's results where its arguments are real. -/
theorem reference_run (m : (ℓ : Loc Cert.ReferenceIdeal.nD Cert.ReferenceIdeal.τ Cert.ReferenceIdeal.sig) → Buf (Elt Ideal) ℓ) (g : Dev Cert.ReferenceIdeal.nD → PrngReg)
    (Q K V D : Dev Cert.ReferenceIdeal.nD → ℕ → ℕ → ℝ)
    (hA : ∀ c : Dev Cert.ReferenceIdeal.nD, Args (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (Q c) (K c) (V c) (D c)) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v60) = arr (resQ (Q c) (K c) (V c) (D c))
      ∧ r.2.mem ((c.tc : Thread Cert.ReferenceIdeal.nD Cert.ReferenceIdeal.τ).loc Cert.ReferenceIdeal.main_v61) = arr (resK (Q c) (K c) (V c) (D c))
      ∧ r.2.mem ((c.tc : Thread Cert.ReferenceIdeal.nD Cert.ReferenceIdeal.τ).loc Cert.ReferenceIdeal.main_v62) = arr (resV (Q c) (K c) (D c))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run Cert.ReferenceIdeal.defs _ _).mono (fun r h c => ?_) (Cert.ReferenceIdeal.Value.run (F := Ideal) m g)
  have hc : Args (StableHlo.launchContents m c (Proc.devRef .tc Cert.ReferenceIdeal.main_arg0)) (StableHlo.launchContents m c (Proc.devRef .tc Cert.ReferenceIdeal.main_arg1)) (Q c) (K c) (V c) (D c) := hA c
  exact ⟨(h c).1.trans (ref_resQ _ hc), (h c).2.1.trans (ref_resK _ hc), (h c).2.2.1.trans (ref_resV _ hc), (h c).2.2.2⟩

/-- The reference's frame. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2.2, sem_eq_zero_of_no_sems (by decide) _⟩) (Cert.ReferenceIdeal.Value.run (F := Ideal) m g)

instance : Cert.Pre_finite.Facts := fin_facts

theorem results_agree : Cert.algebraic_KernelIdeal_ReferenceIdeal_pre_finite := by
  intro m g m' g' hpre hag
  obtain ⟨Q, K, V, D, hA⟩ : ∃ Q K V D : Dev Cert.KernelIdeal.nD → ℕ → ℕ → ℝ, ∀ c : Dev Cert.KernelIdeal.nD,
      Args (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Q c) (K c) (V c) (D c) :=
    ⟨fun c => qkvR _ 0, fun c => qkvR _ 1, fun c => qkvR _ 2, fun c => doR _, fun c => args_real _ _ (hpre c).1 (hpre c).2⟩
  refine ⟨fun c => arr (resQ (Q c) (K c) (V c) (D c)), fun c => arr (resK (Q c) (K c) (V c) (D c)), fun c => arr (resV (Q c) (K c) (D c)),
    kernel_run m g Q K V D hA, reference_run m' g' Q K V D fun c => ?_⟩
  rw [(hag c).1, (hag c).2]
  exact hA c

end Cert.Attn
end
-- ==== Proof.Same.lean ====
module

public import proofs.«01_k».proof.Defs
public import proofs.«01_k».proof.Proof.Run
public import proofs.«01_k».proof.Proof.Gen.Kernel

@[expose] public section

set_option maxRecDepth 65536

noncomputable section

namespace Cert.Attn

open Idealize.ShloMosaic Idealize.SL.Sem

/-! ## The two printed kernels are one program -/

variable (F : FTy → Type) [FloatOps F]

theorem body_same (t s) : Cert.Kernel.defs₀ (F := F) .tc (0 : Fin 1) (t, s) = Cert.KernelIdeal.defs₀ (F := F) .tc (0 : Fin 1) (t, s) := rfl

theorem defs₀_same : Cert.Kernel.defs₀ (F := F) = Cert.KernelIdeal.defs₀ (F := F) := by
  refine congrArg Defs.onTc (funext fun l => funext fun x => ?_)
  match l, x with
  | ⟨0, _⟩, (t, s) => exact body_same F t s
  | ⟨n + 1, h⟩, _ => exact absurd h (Nat.not_lt.2 (Nat.le_add_left _ _))

theorem defs_same : Cert.Kernel.defs (F := F) = Cert.KernelIdeal.defs (F := F) :=
  congrArg (Pipeline.defs Cert.Kernel.pcfgs) (defs₀_same F)

set_option maxHeartbeats 0 in
theorem main_same : Cert.Kernel.main (F := F) = Cert.KernelIdeal.main (F := F) := rfl

/-- The kernel's frame on the machine's floats. -/
theorem frame_kernel : Cert.quiescent_Kernel := fun m ρ _ => by
  rw [defs_same, main_same]
  exact frame_any (F := Bits) m ρ

end Cert.Attn
end
-- ==== Proof.WgPay.lean ====
module

public import proofs.«01_k».proof.Proof.Gen.Kernel2Ideal.Skeleton
public import Idealize.ShloMosaic.Lib.Pointwise

@[expose] public section

set_option maxRecDepth 65536

noncomputable section

namespace Cert.Wgrad

open Cert.Kernel2Ideal Cert.Kernel2Ideal.Gen
open Idealize.ShloMosaic Idealize.ShloMosaic.TcCoe Idealize.SL.Sem

/-- A row of `x`, normalised: times the reciprocal root of its mean square (and a small constant), times the gain. -/
def hn {n : ℕ} (x : Fin n → Fin 1024 → EReal) (g : Fin 1024 → EReal) (k : Fin n) (d : Fin 1024) : EReal :=
  x k d * Ideal.rsqrt (Ideal.div (∑ i, x k i * x k i) (Ideal.ofBits FTy.f32 1149239296#32) + Ideal.ofBits FTy.f32 897988541#32) * g d

/-- The gradient of the projection, in fifteen units of 512 columns: unit `u`, out of the branches' inputs (`p`), the gates (`s`) and q, k, v. -/
def unit {n : ℕ} (p : Fin 3 → Fin n → Fin 512 → EReal) (s : Fin 9 → Fin n → Fin 512 → EReal) (q k v : Fin n → Fin 512 → EReal) : ℕ → Fin n → Fin 512 → EReal
  | 0 => p 0 | 1 => s 0 | 2 => p 1 | 3 => p 2 | 4 => s 1 | 5 => q | 6 => k | 7 => v | 8 => s 2 | 9 => s 3 | 10 => s 4 | 11 => s 5 | 12 => s 6 | 13 => s 7 | _ => s 8

/-- One row's term of the gradient: the normalised input's entry `d` times the entry of column `n`. -/
def term (x : Fin 8192 → Fin 1024 → EReal) (g : Fin 1024 → EReal) (p : Fin 3 → Fin 8192 → Fin 512 → EReal) (s : Fin 9 → Fin 8192 → Fin 512 → EReal) (q k v : Fin 8192 → Fin 512 → EReal)
    (d : Fin 1024) (u : ℕ) (e : Fin 512) (t : Fin 8192) : EReal := hn x g t d * unit p s q k v u t e

/-- The gradient of `w_in`: the sum of the terms over the rows. -/
def grad (x : Fin 8192 → Fin 1024 → EReal) (g : Fin 1024 → EReal) (p : Fin 3 → Fin 8192 → Fin 512 → EReal) (s : Fin 9 → Fin 8192 → Fin 512 → EReal) (q k v : Fin 8192 → Fin 512 → EReal)
    (y : S1024x7680.Idx) : EReal := ∑ t, term x g p s q k v (y 0) ((y 1).val / 512) ⟨(y 1).val % 512, Nat.mod_lt _ (by norm_num)⟩ t

/-- Rows taken out of an array are normalised as the array's own. -/
theorem hn_rows {n l : ℕ} (x : Fin n → Fin 1024 → EReal) (g : Fin 1024 → EReal) (f : Fin l → Fin n) (k : Fin l) (d : Fin 1024) : hn (fun k => x (f k)) g k d = hn x g (f k) d := rfl

/-- Rows taken out of the units' arrays are rows of the units. -/
theorem unit_rows {n l : ℕ} (p : Fin 3 → Fin n → Fin 512 → EReal) (s : Fin 9 → Fin n → Fin 512 → EReal) (q k v : Fin n → Fin 512 → EReal) (f : Fin l → Fin n) (u : ℕ) (r : Fin l) (e : Fin 512) :
    unit (fun i r => p i (f r)) (fun i r => s i (f r)) (fun r => q (f r)) (fun r => k (f r)) (fun r => v (f r)) u r e = unit p s q k v u (f r) e := by
  unfold unit
  split <;> rfl

/-- The normalised block, transposed. -/
theorem pay4_apply (x : Vec Ideal S512x1024 .f32) (g : Vec Ideal S1x1024 .f32) (d : Fin 1024) (k : Fin 512) :
    k0_pay4 x g (ix2 d k) = hn (fun k d => x (ix2 k d)) (fun d => g (ix2 0 d)) k d := by
  pointwise [k0_pay4]
  rfl

/-- The scratch begins with zeros. -/
theorem pay5_apply (d : Fin 1024) (e : Fin 7680) : (k0_pay5 (F := Ideal)) (ix2 d e) = 0 := by
  pointwise [k0_pay5]

/-! ## A unit's sum and what a point adds to it -/

theorem pay6_apply (x : Vec Ideal S512x1024 .f32) (g : Vec Ideal S1x1024 .f32) (w : Vec Ideal S1024x512 .f32) (b : Vec Ideal S1x512x512 .bf16) (d : Fin 1024) (e : Fin 512) :
    k0_pay6 x g w b (ix2 d e) = w (ix2 d e) + ∑ k, k0_pay4 x g (ix2 d k) * b (ix3 0 k e) := by
  unfold k0_pay6
  generalize k0_pay4 x g = h
  pointwise []

theorem pay7_apply (x : Vec Ideal S512x1024 .f32) (g : Vec Ideal S1x1024 .f32) (w : Vec Ideal S1024x512 .f32) (b : Vec Ideal S1x512x512 .bf16) (d : Fin 1024) (e : Fin 512) :
    k0_pay8 (k0_pay7 x g w b) (ix2 d e) = w (ix2 d e) + ∑ k, k0_pay4 x g (ix2 d k) * b (ix3 0 k e) := by
  unfold k0_pay8 k0_pay7
  generalize k0_pay4 x g = h
  pointwise []

theorem pay9_apply (h : FVec Ideal S1024x512 .bf16) (w : Vec Ideal S1024x512 .f32) (b : Vec Ideal S1x512x512 .bf16) (d : Fin 1024) (e : Fin 512) :
    k0_pay9 h w b (ix2 d e) = w (ix2 d e) + ∑ k, h (ix2 d k) * b (ix3 0 k e) := by
  pointwise [k0_pay9]

theorem pay10_apply (h : FVec Ideal S1024x512 .bf16) (w : Vec Ideal S1024x512 .f32) (b : Vec Ideal S1x512x512 .bf16) (d : Fin 1024) (e : Fin 512) :
    k0_pay10 h w b (ix2 d e) = w (ix2 d e) + ∑ k, h (ix2 d k) * b (ix3 0 k e) := by
  pointwise [k0_pay10]

theorem pay11_apply (h : FVec Ideal S1024x512 .bf16) (w : Vec Ideal S1024x512 .f32) (b : Vec Ideal S1x512x512 .bf16) (d : Fin 1024) (e : Fin 512) :
    k0_pay11 h w b (ix2 d e) = w (ix2 d e) + ∑ k, h (ix2 d k) * b (ix3 0 k e) := by
  pointwise [k0_pay11]

theorem pay12_apply (h : FVec Ideal S1024x512 .bf16) (w : Vec Ideal S1024x512 .f32) (b : Vec Ideal S512x512 .bf16) (d : Fin 1024) (e : Fin 512) :
    k0_pay12 h w b (ix2 d e) = w (ix2 d e) + ∑ k, h (ix2 d k) * b (ix2 k e) := by
  pointwise [k0_pay12]

theorem pay13_apply (h : FVec Ideal S1024x512 .bf16) (w : Vec Ideal S1024x512 .f32) (b : Vec Ideal S512x512 .bf16) (d : Fin 1024) (e : Fin 512) :
    k0_pay13 h w b (ix2 d e) = w (ix2 d e) + ∑ k, h (ix2 d k) * b (ix2 k e) := by
  pointwise [k0_pay13]

theorem pay14_apply (h : FVec Ideal S1024x512 .bf16) (w : Vec Ideal S1024x512 .f32) (b : Vec Ideal S512x512 .bf16) (d : Fin 1024) (e : Fin 512) :
    k0_pay14 h w b (ix2 d e) = w (ix2 d e) + ∑ k, h (ix2 d k) * b (ix2 k e) := by
  pointwise [k0_pay14]

theorem pay15_apply (h : FVec Ideal S1024x512 .bf16) (w : Vec Ideal S1024x512 .f32) (b : Vec Ideal S1x512x512 .bf16) (d : Fin 1024) (e : Fin 512) :
    k0_pay15 h w b (ix2 d e) = w (ix2 d e) + ∑ k, h (ix2 d k) * b (ix3 0 k e) := by
  pointwise [k0_pay15]

theorem pay16_apply (h : FVec Ideal S1024x512 .bf16) (w : Vec Ideal S1024x512 .f32) (b : Vec Ideal S1x512x512 .bf16) (d : Fin 1024) (e : Fin 512) :
    k0_pay16 h w b (ix2 d e) = w (ix2 d e) + ∑ k, h (ix2 d k) * b (ix3 0 k e) := by
  pointwise [k0_pay16]

theorem pay17_apply (h : FVec Ideal S1024x512 .bf16) (w : Vec Ideal S1024x512 .f32) (b : Vec Ideal S1x512x512 .bf16) (d : Fin 1024) (e : Fin 512) :
    k0_pay17 h w b (ix2 d e) = w (ix2 d e) + ∑ k, h (ix2 d k) * b (ix3 0 k e) := by
  pointwise [k0_pay17]

theorem pay18_apply (h : FVec Ideal S1024x512 .bf16) (w : Vec Ideal S1024x512 .f32) (b : Vec Ideal S1x512x512 .bf16) (d : Fin 1024) (e : Fin 512) :
    k0_pay18 h w b (ix2 d e) = w (ix2 d e) + ∑ k, h (ix2 d k) * b (ix3 0 k e) := by
  pointwise [k0_pay18]

theorem pay19_apply (h : FVec Ideal S1024x512 .bf16) (w : Vec Ideal S1024x512 .f32) (b : Vec Ideal S1x512x512 .bf16) (d : Fin 1024) (e : Fin 512) :
    k0_pay1 (k0_pay19 h w b) (ix2 d e) = w (ix2 d e) + ∑ k, h (ix2 d k) * b (ix3 0 k e) := by
  pointwise [k0_pay1, k0_pay19]

theorem pay2_apply (h : FVec Ideal S1024x512 .bf16) (w : Vec Ideal S1024x512 .f32) (b : Vec Ideal S1x512x512 .bf16) (d : Fin 1024) (e : Fin 512) :
    k0_pay2 h w b (ix2 d e) = w (ix2 d e) + ∑ k, h (ix2 d k) * b (ix3 0 k e) := by
  pointwise [k0_pay2]

theorem pay3_apply (h : FVec Ideal S1024x512 .bf16) (w : Vec Ideal S1024x512 .f32) (b : Vec Ideal S1x512x512 .bf16) (d : Fin 1024) (e : Fin 512) :
    k0_pay3 h w b (ix2 d e) = w (ix2 d e) + ∑ k, h (ix2 d k) * b (ix3 0 k e) := by
  pointwise [k0_pay3]

end Cert.Wgrad
end
-- ==== Proof.WgStep.lean ====
module

public import proofs.«01_k».proof.Proof.Gen.Kernel2Ideal.Frame
public import proofs.«01_k».proof.Proof.WgPay
public import Idealize.ShloMosaic.Lib.Pointwise
public import Idealize.ShloMosaic.Lib.Pipeline.ReadBack

@[expose] public section

set_option maxRecDepth 65536

noncomputable section

namespace Cert.Wgrad

open Cert.Kernel2Ideal Cert.Kernel2Ideal.Gen
open Idealize.ShloMosaic Idealize.ShloMosaic.TcCoe Idealize.SL.Sem

/-- What a point of the grid adds to the sum: in unit `u`'s column `e`, the normalised block's column `d` times that unit's. -/
def addend (x : Vec Ideal S512x1024 .f32) (g : Vec Ideal S1x1024 .f32) (p : Vec Ideal S3x512x512 .bf16) (s : Vec Ideal S9x512x512 .bf16) (q k v : Vec Ideal S512x512 .bf16)
    (d : Fin 1024) (u : ℕ) (e : Fin 512) : EReal :=
  ∑ r, k0_pay4 x g (ix2 d r) * unit (fun i r e => p (ix3 i r e)) (fun i r e => s (ix3 i r e)) (fun r e => q (ix2 r e)) (fun r e => k (ix2 r e)) (fun r e => v (ix2 r e)) u r e

/-- The sum after a point. -/
def step (x : Vec Ideal S512x1024 .f32) (g : Vec Ideal S1x1024 .f32) (p : Vec Ideal S3x512x512 .bf16) (s : Vec Ideal S9x512x512 .bf16) (q k v : Vec Ideal S512x512 .bf16)
    (w : Vec Ideal S1024x7680 .f32) (y : S1024x7680.Idx) : EReal :=
  w y + addend x g p s q k v (y 0) ((y 1).val / 512) ⟨(y 1).val % 512, Nat.mod_lt _ (by norm_num)⟩

/-- Where stores whose values are all blocks of one array cover an index, they leave that array there. -/
theorem canon_of_piecesOf {S : Shape} {e : EltTy} (G : S.Idx → Elt Ideal e) (L : List (View.Piece (Elt Ideal) S e)) (h : View.PiecesOf G L) (y : S.Idx) (hc : ∃ p ∈ L, y ∈ p.1.set) :
    View.canon L y = G y := by
  have := View.canon_append_of_piecesOf G [] L h y hc
  rwa [List.append_nil] at this

/-- `step` at column `e` of unit `u`. -/
theorem step_at (x : Vec Ideal S512x1024 .f32) (g : Vec Ideal S1x1024 .f32) (p : Vec Ideal S3x512x512 .bf16) (s : Vec Ideal S9x512x512 .bf16) (q k v : Vec Ideal S512x512 .bf16)
    (w : Vec Ideal S1024x7680 .f32) (d : Fin 1024) (u : ℕ) (e : Fin 512) (hu : 512 * u + e.val < 7680) :
    step x g p s q k v w (ix2 d ⟨512 * u + e.val, hu⟩) = w (ix2 d ⟨512 * u + e.val, hu⟩) + addend x g p s q k v d u e := by
  have he := e.isLt
  have h1 : (512 * u + e.val) / 512 = u := by omega
  have h2 : (⟨(512 * u + e.val) % 512, Nat.mod_lt _ (by norm_num)⟩ : Fin 512) = e := Fin.ext (by show (512 * u + e.val) % 512 = e.val; omega)
  show w _ + addend x g p s q k v d ((512 * u + e.val) / 512) ⟨(512 * u + e.val) % 512, _⟩ = _
  rw [h1, h2]

/-- Where a store of 512 columns puts its own entries. -/
theorem emb_cols {n : ℕ} (inb : ∀ a, (![0, n] : Fin 2 → ℕ) a + (![1024, 512] : Fin 2 → ℕ) a ≤ S1024x7680.size a) (d : Fin 1024) (e : Fin 512) (h : n + e.val < 7680) :
    (Rect.unit (s := S1024x7680) ![0, n] ![1024, 512] inb).emb (ix2 d e) = ix2 d ⟨n + e.val, h⟩ := by
  funext a
  match a with
  | ⟨0, _⟩ => exact Fin.ext (by show 0 + 1 * d.val = d.val; omega)
  | ⟨1, _⟩ => exact Fin.ext (by show n + 1 * e.val = n + e.val; omega)

/-- A store of 512 columns that adds to what they held is a block of `step`. -/
theorem block_of (x : Vec Ideal S512x1024 .f32) (g : Vec Ideal S1x1024 .f32) (p : Vec Ideal S3x512x512 .bf16) (s : Vec Ideal S9x512x512 .bf16) (q k v : Vec Ideal S512x512 .bf16)
    (w : Vec Ideal S1024x7680 .f32) (u : ℕ) (hu : 512 * u + 512 ≤ 7680) {n : ℕ} (hn : n = 512 * u)
    (inb : ∀ a, (![0, n] : Fin 2 → ℕ) a + (![1024, 512] : Fin 2 → ℕ) a ≤ S1024x7680.size a) (P : Vec Ideal S1024x512 .f32)
    (hP : ∀ (d : Fin 1024) (e : Fin 512), P (ix2 d e) = View.ld w (Rect.unit (s := S1024x7680) ![0, n] ![1024, 512] inb) (ix2 d e) + addend x g p s q k v d u e)
    (j : S1024x512.Idx) : P j = step x g p s q k v w ((Rect.unit (s := S1024x7680) ![0, n] ![1024, 512] inb).emb j) := by
  subst hn
  obtain ⟨d, e, rfl⟩ : ∃ (d : Fin 1024) (e : Fin 512), j = ix2 d e := ⟨j 0, j 1, by funext a; match a with | ⟨0, _⟩ => rfl | ⟨1, _⟩ => rfl⟩
  have he := e.isLt
  rw [hP, emb_cols inb d e (by omega), step_at]
  show w ((Rect.unit (s := S1024x7680) ![0, 512 * u] ![1024, 512] inb).emb (ix2 d e)) + _ = _
  rw [emb_cols inb d e (by omega)]

/-- Slab `n` of the three, loaded. -/
theorem ld_slab3 (b : Vec Ideal S3x512x512 .bf16) {n : ℕ} (hn : n < 3) (inb : ∀ a, (![n, 0, 0] : Fin 3 → ℕ) a + (![1, 512, 512] : Fin 3 → ℕ) a ≤ S3x512x512.size a) (k e : Fin 512) :
    View.ld b (Rect.unit (s := S3x512x512) ![n, 0, 0] ![1, 512, 512] inb) (ix3 (0 : Fin 1) k e) = b (ix3 ⟨n, hn⟩ k e) :=
  congrArg b (by
    funext a
    match a with
    | ⟨0, _⟩ => exact Fin.ext (by show n + 1 * 0 = n; omega)
    | ⟨1, _⟩ => exact Fin.ext (by show 0 + 1 * k.val = k.val; omega)
    | ⟨2, _⟩ => exact Fin.ext (by show 0 + 1 * e.val = e.val; omega))

/-- Slab `n` of the nine, loaded. -/
theorem ld_slab9 (b : Vec Ideal S9x512x512 .bf16) {n : ℕ} (hn : n < 9) (inb : ∀ a, (![n, 0, 0] : Fin 3 → ℕ) a + (![1, 512, 512] : Fin 3 → ℕ) a ≤ S9x512x512.size a) (k e : Fin 512) :
    View.ld b (Rect.unit (s := S9x512x512) ![n, 0, 0] ![1, 512, 512] inb) (ix3 (0 : Fin 1) k e) = b (ix3 ⟨n, hn⟩ k e) :=
  congrArg b (by
    funext a
    match a with
    | ⟨0, _⟩ => exact Fin.ext (by show n + 1 * 0 = n; omega)
    | ⟨1, _⟩ => exact Fin.ext (by show 0 + 1 * k.val = k.val; omega)
    | ⟨2, _⟩ => exact Fin.ext (by show 0 + 1 * e.val = e.val; omega))

/-- The whole block of rows, loaded. -/
theorem ld_x (x : Vec Ideal S512x1024 .f32) (inb : ∀ a, (![0, 0] : Fin 2 → ℕ) a + (![512, 1024] : Fin 2 → ℕ) a ≤ S512x1024.size a) :
    View.ld x (Rect.unit (s := S512x1024) ![0, 0] ![512, 1024] inb) = x := View.ld_unit_lit inb x (by decide)

/-- The whole gain, loaded. -/
theorem ld_g (g : Vec Ideal S1x1024 .f32) (inb : ∀ a, (![0, 0] : Fin 2 → ℕ) a + (![1, 1024] : Fin 2 → ℕ) a ≤ S1x1024.size a) :
    View.ld g (Rect.unit (s := S1x1024) ![0, 0] ![1, 1024] inb) = g := View.ld_unit_lit inb g (by decide)

/-- A whole block of one unit, loaded. -/
theorem ld_square (b : Vec Ideal S512x512 .bf16) (inb : ∀ a, (![0, 0] : Fin 2 → ℕ) a + (![512, 512] : Fin 2 → ℕ) a ≤ S512x512.size a) (k e : Fin 512) :
    View.ld b (Rect.unit (s := S512x512) ![0, 0] ![512, 512] inb) (ix2 k e) = b (ix2 k e) := congrFun (View.ld_unit_lit inb b (by decide)) _

/-- A point between the first and the last adds to what the point before left. -/
theorem step_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x512 .bf16) (harg3 : arg3.IsWhole) (arg4 : Memref sig .tc .vmem S9x512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S1024x7680 .f32) (harg9 : arg9.IsWhole) (hc0 : ¬cond0_0 i) (hc1 : ¬cond0_1 i)
    (x0 : Vec Ideal S512x1024 .f32) (x1 : Vec Ideal S1x1024 .f32) (x2 : Vec Ideal S3x512x512 .bf16) (x3 : Vec Ideal S9x512x512 .bf16) (x4 : Vec Ideal S512x512 .bf16) (x5 : Vec Ideal S512x512 .bf16) (x6 : Vec Ideal S512x512 .bf16) (xs0 : Vec Ideal S1024x7680 .f32) (fw0 : HbBuf0 (F := Ideal) c hbM0_0) (y : S1024x7680.Idx) :
    sout0_B_0 c i arg1 harg1 arg2 harg2 arg3 harg3 arg4 harg4 arg5 harg5 arg6 harg6 arg7 harg7 arg9 harg9 hc0 hc1 x0 x1 x2 x3 x4 x5 x6 xs0 fw0 y = step x0 x1 x2 x3 x4 x5 x6 xs0 y := by
  unfold sout0_B_0
  rw [View.read_writes_eq_canon _ _ _ (scover0_B_0 c i arg1 harg1 arg2 harg2 arg3 harg3 arg4 harg4 arg5 harg5 arg6 harg6 arg7 harg7 arg9 harg9 hc0 hc1 x0 x1 x2 x3 x4 x5 x6 xs0 fw0)]
  unfold kernelRun0_B
  dsimp only
  refine canon_of_piecesOf (e := .f32) (step x0 x1 x2 x3 x4 x5 x6 xs0) _ ?_ y ?_
  · sl_unfold_words
    simp only [View.readAt_eq_ld, harg1.read_unread, harg2.read_unread, harg3.read_unread, harg4.read_unread, harg5.read_unread, harg6.read_unread, harg7.read_unread, harg9.read_unread, ld_x, ld_g]
    refine ⟨?_, ?_, ?_, ?_, ?_, ?_, ?_, ?_, ?_, ?_, ?_, ?_, ?_, ?_, ?_, trivial⟩
    · exact block_of x0 x1 x2 x3 x4 x5 x6 xs0 14 (by norm_num) (by norm_num) _ _ fun d e =>
        (pay3_apply _ _ _ d e).trans (congrArg (_ + ·) (Finset.sum_congr rfl fun k _ => congrArg (_ * ·) (ld_slab9 x3 (by norm_num) _ k e)))
    · exact block_of x0 x1 x2 x3 x4 x5 x6 xs0 13 (by norm_num) (by norm_num) _ _ fun d e =>
        (pay2_apply _ _ _ d e).trans (congrArg (_ + ·) (Finset.sum_congr rfl fun k _ => congrArg (_ * ·) (ld_slab9 x3 (by norm_num) _ k e)))
    · exact block_of x0 x1 x2 x3 x4 x5 x6 xs0 12 (by norm_num) (by norm_num) _ _ fun d e =>
        (pay19_apply _ _ _ d e).trans (congrArg (_ + ·) (Finset.sum_congr rfl fun k _ => congrArg (_ * ·) (ld_slab9 x3 (by norm_num) _ k e)))
    · exact block_of x0 x1 x2 x3 x4 x5 x6 xs0 11 (by norm_num) (by norm_num) _ _ fun d e =>
        (pay18_apply _ _ _ d e).trans (congrArg (_ + ·) (Finset.sum_congr rfl fun k _ => congrArg (_ * ·) (ld_slab9 x3 (by norm_num) _ k e)))
    · exact block_of x0 x1 x2 x3 x4 x5 x6 xs0 10 (by norm_num) (by norm_num) _ _ fun d e =>
        (pay17_apply _ _ _ d e).trans (congrArg (_ + ·) (Finset.sum_congr rfl fun k _ => congrArg (_ * ·) (ld_slab9 x3 (by norm_num) _ k e)))
    · exact block_of x0 x1 x2 x3 x4 x5 x6 xs0 9 (by norm_num) (by norm_num) _ _ fun d e =>
        (pay16_apply _ _ _ d e).trans (congrArg (_ + ·) (Finset.sum_congr rfl fun k _ => congrArg (_ * ·) (ld_slab9 x3 (by norm_num) _ k e)))
    · exact block_of x0 x1 x2 x3 x4 x5 x6 xs0 8 (by norm_num) (by norm_num) _ _ fun d e =>
        (pay15_apply _ _ _ d e).trans (congrArg (_ + ·) (Finset.sum_congr rfl fun k _ => congrArg (_ * ·) (ld_slab9 x3 (by norm_num) _ k e)))
    · exact block_of x0 x1 x2 x3 x4 x5 x6 xs0 7 (by norm_num) (by norm_num) _ _ fun d e =>
        (pay14_apply _ _ _ d e).trans (congrArg (_ + ·) (Finset.sum_congr rfl fun k _ => congrArg (_ * ·) (ld_square x6 _ k e)))
    · exact block_of x0 x1 x2 x3 x4 x5 x6 xs0 6 (by norm_num) (by norm_num) _ _ fun d e =>
        (pay13_apply _ _ _ d e).trans (congrArg (_ + ·) (Finset.sum_congr rfl fun k _ => congrArg (_ * ·) (ld_square x5 _ k e)))
    · exact block_of x0 x1 x2 x3 x4 x5 x6 xs0 5 (by norm_num) (by norm_num) _ _ fun d e =>
        (pay12_apply _ _ _ d e).trans (congrArg (_ + ·) (Finset.sum_congr rfl fun k _ => congrArg (_ * ·) (ld_square x4 _ k e)))
    · exact block_of x0 x1 x2 x3 x4 x5 x6 xs0 4 (by norm_num) (by norm_num) _ _ fun d e =>
        (pay11_apply _ _ _ d e).trans (congrArg (_ + ·) (Finset.sum_congr rfl fun k _ => congrArg (_ * ·) (ld_slab9 x3 (by norm_num) _ k e)))
    · exact block_of x0 x1 x2 x3 x4 x5 x6 xs0 3 (by norm_num) (by norm_num) _ _ fun d e =>
        (pay10_apply _ _ _ d e).trans (congrArg (_ + ·) (Finset.sum_congr rfl fun k _ => congrArg (_ * ·) (ld_slab3 x2 (by norm_num) _ k e)))
    · exact block_of x0 x1 x2 x3 x4 x5 x6 xs0 2 (by norm_num) (by norm_num) _ _ fun d e =>
        (pay9_apply _ _ _ d e).trans (congrArg (_ + ·) (Finset.sum_congr rfl fun k _ => congrArg (_ * ·) (ld_slab3 x2 (by norm_num) _ k e)))
    · exact block_of x0 x1 x2 x3 x4 x5 x6 xs0 1 (by norm_num) (by norm_num) _ _ fun d e =>
        (pay7_apply _ _ _ _ d e).trans (congrArg (_ + ·) (Finset.sum_congr rfl fun k _ => congrArg (_ * ·) (ld_slab9 x3 (by norm_num) _ k e)))
    · exact block_of x0 x1 x2 x3 x4 x5 x6 xs0 0 (by norm_num) (by norm_num) _ _ fun d e =>
        (pay6_apply _ _ _ _ d e).trans (congrArg (_ + ·) (Finset.sum_congr rfl fun k _ => congrArg (_ * ·) (ld_slab3 x2 (by norm_num) _ k e)))
  · exact scover0_B_0 c i arg1 harg1 arg2 harg2 arg3 harg3 arg4 harg4 arg5 harg5 arg6 harg6 arg7 harg7 arg9 harg9 hc0 hc1 x0 x1 x2 x3 x4 x5 x6 xs0 fw0 y

/-- The last point adds as well. -/
theorem step_C (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x512 .bf16) (harg3 : arg3.IsWhole) (arg4 : Memref sig .tc .vmem S9x512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S1024x7680 .f32) (harg9 : arg9.IsWhole) (hc0 : ¬cond0_0 i) (hc1 : cond0_1 i)
    (x0 : Vec Ideal S512x1024 .f32) (x1 : Vec Ideal S1x1024 .f32) (x2 : Vec Ideal S3x512x512 .bf16) (x3 : Vec Ideal S9x512x512 .bf16) (x4 : Vec Ideal S512x512 .bf16) (x5 : Vec Ideal S512x512 .bf16) (x6 : Vec Ideal S512x512 .bf16) (xs0 : Vec Ideal S1024x7680 .f32) (fw0 : HbBuf0 (F := Ideal) c hbM0_0) (y : S1024x7680.Idx) :
    sout0_C_0 c i arg1 harg1 arg2 harg2 arg3 harg3 arg4 harg4 arg5 harg5 arg6 harg6 arg7 harg7 arg9 harg9 hc0 hc1 x0 x1 x2 x3 x4 x5 x6 xs0 fw0 y = step x0 x1 x2 x3 x4 x5 x6 xs0 y := by
  unfold sout0_C_0
  rw [View.read_writes_eq_canon _ _ _ (scover0_C_0 c i arg1 harg1 arg2 harg2 arg3 harg3 arg4 harg4 arg5 harg5 arg6 harg6 arg7 harg7 arg9 harg9 hc0 hc1 x0 x1 x2 x3 x4 x5 x6 xs0 fw0)]
  unfold kernelRun0_C
  dsimp only
  refine canon_of_piecesOf (e := .f32) (step x0 x1 x2 x3 x4 x5 x6 xs0) _ ?_ y ?_
  · sl_unfold_words
    simp only [View.readAt_eq_ld, harg1.read_unread, harg2.read_unread, harg3.read_unread, harg4.read_unread, harg5.read_unread, harg6.read_unread, harg7.read_unread, harg9.read_unread, ld_x, ld_g]
    refine ⟨?_, ?_, ?_, ?_, ?_, ?_, ?_, ?_, ?_, ?_, ?_, ?_, ?_, ?_, ?_, trivial⟩
    · exact block_of x0 x1 x2 x3 x4 x5 x6 xs0 14 (by norm_num) (by norm_num) _ _ fun d e =>
        (pay3_apply _ _ _ d e).trans (congrArg (_ + ·) (Finset.sum_congr rfl fun k _ => congrArg (_ * ·) (ld_slab9 x3 (by norm_num) _ k e)))
    · exact block_of x0 x1 x2 x3 x4 x5 x6 xs0 13 (by norm_num) (by norm_num) _ _ fun d e =>
        (pay2_apply _ _ _ d e).trans (congrArg (_ + ·) (Finset.sum_congr rfl fun k _ => congrArg (_ * ·) (ld_slab9 x3 (by norm_num) _ k e)))
    · exact block_of x0 x1 x2 x3 x4 x5 x6 xs0 12 (by norm_num) (by norm_num) _ _ fun d e =>
        (pay19_apply _ _ _ d e).trans (congrArg (_ + ·) (Finset.sum_congr rfl fun k _ => congrArg (_ * ·) (ld_slab9 x3 (by norm_num) _ k e)))
    · exact block_of x0 x1 x2 x3 x4 x5 x6 xs0 11 (by norm_num) (by norm_num) _ _ fun d e =>
        (pay18_apply _ _ _ d e).trans (congrArg (_ + ·) (Finset.sum_congr rfl fun k _ => congrArg (_ * ·) (ld_slab9 x3 (by norm_num) _ k e)))
    · exact block_of x0 x1 x2 x3 x4 x5 x6 xs0 10 (by norm_num) (by norm_num) _ _ fun d e =>
        (pay17_apply _ _ _ d e).trans (congrArg (_ + ·) (Finset.sum_congr rfl fun k _ => congrArg (_ * ·) (ld_slab9 x3 (by norm_num) _ k e)))
    · exact block_of x0 x1 x2 x3 x4 x5 x6 xs0 9 (by norm_num) (by norm_num) _ _ fun d e =>
        (pay16_apply _ _ _ d e).trans (congrArg (_ + ·) (Finset.sum_congr rfl fun k _ => congrArg (_ * ·) (ld_slab9 x3 (by norm_num) _ k e)))
    · exact block_of x0 x1 x2 x3 x4 x5 x6 xs0 8 (by norm_num) (by norm_num) _ _ fun d e =>
        (pay15_apply _ _ _ d e).trans (congrArg (_ + ·) (Finset.sum_congr rfl fun k _ => congrArg (_ * ·) (ld_slab9 x3 (by norm_num) _ k e)))
    · exact block_of x0 x1 x2 x3 x4 x5 x6 xs0 7 (by norm_num) (by norm_num) _ _ fun d e =>
        (pay14_apply _ _ _ d e).trans (congrArg (_ + ·) (Finset.sum_congr rfl fun k _ => congrArg (_ * ·) (ld_square x6 _ k e)))
    · exact block_of x0 x1 x2 x3 x4 x5 x6 xs0 6 (by norm_num) (by norm_num) _ _ fun d e =>
        (pay13_apply _ _ _ d e).trans (congrArg (_ + ·) (Finset.sum_congr rfl fun k _ => congrArg (_ * ·) (ld_square x5 _ k e)))
    · exact block_of x0 x1 x2 x3 x4 x5 x6 xs0 5 (by norm_num) (by norm_num) _ _ fun d e =>
        (pay12_apply _ _ _ d e).trans (congrArg (_ + ·) (Finset.sum_congr rfl fun k _ => congrArg (_ * ·) (ld_square x4 _ k e)))
    · exact block_of x0 x1 x2 x3 x4 x5 x6 xs0 4 (by norm_num) (by norm_num) _ _ fun d e =>
        (pay11_apply _ _ _ d e).trans (congrArg (_ + ·) (Finset.sum_congr rfl fun k _ => congrArg (_ * ·) (ld_slab9 x3 (by norm_num) _ k e)))
    · exact block_of x0 x1 x2 x3 x4 x5 x6 xs0 3 (by norm_num) (by norm_num) _ _ fun d e =>
        (pay10_apply _ _ _ d e).trans (congrArg (_ + ·) (Finset.sum_congr rfl fun k _ => congrArg (_ * ·) (ld_slab3 x2 (by norm_num) _ k e)))
    · exact block_of x0 x1 x2 x3 x4 x5 x6 xs0 2 (by norm_num) (by norm_num) _ _ fun d e =>
        (pay9_apply _ _ _ d e).trans (congrArg (_ + ·) (Finset.sum_congr rfl fun k _ => congrArg (_ * ·) (ld_slab3 x2 (by norm_num) _ k e)))
    · exact block_of x0 x1 x2 x3 x4 x5 x6 xs0 1 (by norm_num) (by norm_num) _ _ fun d e =>
        (pay7_apply _ _ _ _ d e).trans (congrArg (_ + ·) (Finset.sum_congr rfl fun k _ => congrArg (_ * ·) (ld_slab9 x3 (by norm_num) _ k e)))
    · exact block_of x0 x1 x2 x3 x4 x5 x6 xs0 0 (by norm_num) (by norm_num) _ _ fun d e =>
        (pay6_apply _ _ _ _ d e).trans (congrArg (_ + ·) (Finset.sum_congr rfl fun k _ => congrArg (_ * ·) (ld_slab3 x2 (by norm_num) _ k e)))
  · exact scover0_C_0 c i arg1 harg1 arg2 harg2 arg3 harg3 arg4 harg4 arg5 harg5 arg6 harg6 arg7 harg7 arg9 harg9 hc0 hc1 x0 x1 x2 x3 x4 x5 x6 xs0 fw0 y

/-- The first point leaves its own addend, over zeros. -/
theorem step_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x512 .bf16) (harg3 : arg3.IsWhole) (arg4 : Memref sig .tc .vmem S9x512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S1024x7680 .f32) (harg9 : arg9.IsWhole) (hc0 : cond0_0 i) (hc1 : ¬cond0_1 i)
    (x0 : Vec Ideal S512x1024 .f32) (x1 : Vec Ideal S1x1024 .f32) (x2 : Vec Ideal S3x512x512 .bf16) (x3 : Vec Ideal S9x512x512 .bf16) (x4 : Vec Ideal S512x512 .bf16) (x5 : Vec Ideal S512x512 .bf16) (x6 : Vec Ideal S512x512 .bf16) (fw0 : HbBuf0 (F := Ideal) c hbM0_0) (y : S1024x7680.Idx) :
    sout0_A_0 c i arg1 harg1 arg2 harg2 arg3 harg3 arg4 harg4 arg5 harg5 arg6 harg6 arg7 harg7 arg9 harg9 hc0 hc1 x0 x1 x2 x3 x4 x5 x6 fw0 y = step x0 x1 x2 x3 x4 x5 x6 (k0_pay5 (F := Ideal)) y := by
  unfold sout0_A_0
  rw [View.read_writes_eq_canon _ _ _ (scover0_A_0 c i arg1 harg1 arg2 harg2 arg3 harg3 arg4 harg4 arg5 harg5 arg6 harg6 arg7 harg7 arg9 harg9 hc0 hc1 x0 x1 x2 x3 x4 x5 x6 fw0)]
  unfold kernelRun0_A
  dsimp only
  refine View.canon_append_of_piecesOf (Val := Elt Ideal) (e := .f32) (step x0 x1 x2 x3 x4 x5 x6 (k0_pay5 (F := Ideal))) [_] [_, _, _, _, _, _, _, _, _, _, _, _, _, _, _] ?_ y ?_
  · sl_unfold_words
    simp (disch := decide) only [↓View.readCov_skip, ↓View.readCov_fill, View.readAt_eq_ld, harg1.read_unread, harg2.read_unread, harg3.read_unread, harg4.read_unread, harg5.read_unread, harg6.read_unread, harg7.read_unread, ld_x, ld_g]
    refine ⟨?_, ?_, ?_, ?_, ?_, ?_, ?_, ?_, ?_, ?_, ?_, ?_, ?_, ?_, ?_, trivial⟩
    · exact block_of x0 x1 x2 x3 x4 x5 x6 (k0_pay5 (F := Ideal)) 14 (by norm_num) (by norm_num) _ _ fun d e =>
        (pay3_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 13 (by norm_num) (by norm_num) _ _ fun d e =>
        (pay2_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 12 (by norm_num) (by norm_num) _ _ fun d e =>
        (pay19_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 11 (by norm_num) (by norm_num) _ _ fun d e =>
        (pay18_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 10 (by norm_num) (by norm_num) _ _ fun d e =>
        (pay17_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 9 (by norm_num) (by norm_num) _ _ fun d e =>
        (pay16_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 8 (by norm_num) (by norm_num) _ _ fun d e =>
        (pay15_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 7 (by norm_num) (by norm_num) _ _ fun d e =>
        (pay14_apply _ _ _ d e).trans (congrArg (_ + ·) (Finset.sum_congr rfl fun k _ => congrArg (_ * ·) (ld_square x6 _ k e)))
    · exact block_of x0 x1 x2 x3 x4 x5 x6 (k0_pay5 (F := Ideal)) 6 (by norm_num) (by norm_num) _ _ fun d e =>
        (pay13_apply _ _ _ d e).trans (congrArg (_ + ·) (Finset.sum_congr rfl fun k _ => congrArg (_ * ·) (ld_square x5 _ k e)))
    · exact block_of x0 x1 x2 x3 x4 x5 x6 (k0_pay5 (F := Ideal)) 5 (by norm_num) (by norm_num) _ _ fun d e =>
        (pay12_apply _ _ _ d e).trans (congrArg (_ + ·) (Finset.sum_congr rfl fun k _ => congrArg (_ * ·) (ld_square x4 _ k e)))
    · exact block_of x0 x1 x2 x3 x4 x5 x6 (k0_pay5 (F := Ideal)) 4 (by norm_num) (by norm_num) _ _ fun d e =>
        (pay11_apply _ _ _ d e).trans (congrArg (_ + ·) (Finset.sum_congr rfl fun k _ => congrArg (_ * ·) (ld_slab9 x3 (by norm_num) _ k e)))
    · exact block_of x0 x1 x2 x3 x4 x5 x6 (k0_pay5 (F := Ideal)) 3 (by norm_num) (by norm_num) _ _ fun d e =>
        (pay10_apply _ _ _ d e).trans (congrArg (_ + ·) (Finset.sum_congr rfl fun k _ => congrArg (_ * ·) (ld_slab3 x2 (by norm_num) _ k e)))
    · exact block_of x0 x1 x2 x3 x4 x5 x6 (k0_pay5 (F := Ideal)) 2 (by norm_num) (by norm_num) _ _ fun d e =>
        (pay9_apply _ _ _ d e).trans (congrArg (_ + ·) (Finset.sum_congr rfl fun k _ => congrArg (_ * ·) (ld_slab3 x2 (by norm_num) _ k e)))
    · exact block_of x0 x1 x2 x3 x4 x5 x6 (k0_pay5 (F := Ideal)) 1 (by norm_num) (by norm_num) _ _ fun d e =>
        (pay7_apply _ _ _ _ d e).trans (congrArg (_ + ·) (Finset.sum_congr rfl fun k _ => congrArg (_ * ·) (ld_slab9 x3 (by norm_num) _ k e)))
    · exact block_of x0 x1 x2 x3 x4 x5 x6 (k0_pay5 (F := Ideal)) 0 (by norm_num) (by norm_num) _ _ fun d e =>
        (pay6_apply _ _ _ _ d e).trans (congrArg (_ + ·) (Finset.sum_congr rfl fun k _ => congrArg (_ * ·) (ld_slab3 x2 (by norm_num) _ k e)))
  · refine View.cover_of_tiledL (s := S1024x7680) _ S1024x512.size ?_ y
    sl_kernel_rfl

end Cert.Wgrad
end
-- ==== Proof.WgHb.lean ====
module

public import proofs.«01_k».proof.Proof.Gen.Kernel2Ideal.Frame
public import Idealize.ShloMosaic.Lib.Pointwise

@[expose] public section

set_option maxRecDepth 65536

noncomputable section

namespace Cert.Wgrad

open Cert.Kernel2Ideal Cert.Kernel2Ideal.Gen
open Idealize.ShloMosaic Idealize.ShloMosaic.TcCoe Idealize.SL.Sem

variable {F : FTy → Type} [FloatOps F]

/-- What the last point copies out is the scratch that it leaves. -/
theorem hbw_C (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3x512x512 .bf16) (harg3 : arg3.IsWhole) (arg4 : Memref sig .tc .vmem S9x512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg9 : Memref sig .tc .vmem S1024x7680 .f32) (harg9 : arg9.IsWhole) (hc0 : ¬cond0_0 i) (hc1 : cond0_1 i)
    (x0 : Vec F S512x1024 .f32) (x1 : Vec F S1x1024 .f32) (x2 : Vec F S3x512x512 .bf16) (x3 : Vec F S9x512x512 .bf16) (x4 : Vec F S512x512 .bf16) (x5 : Vec F S512x512 .bf16) (x6 : Vec F S512x512 .bf16) (xs0 : Vec F S1024x7680 .f32) (fw0 : HbBuf0 (F := F) c hbM0_0) :
    hbw0_C_0 c i arg1 harg1 arg2 harg2 arg3 harg3 arg4 harg4 arg5 harg5 arg6 harg6 arg7 harg7 arg9 harg9 hc0 hc1 x0 x1 x2 x3 x4 x5 x6 xs0 fw0 = sout0_C_0 c i arg1 harg1 arg2 harg2 arg3 harg3 arg4 harg4 arg5 harg5 arg6 harg6 arg7 harg7 arg9 harg9 hc0 hc1 x0 x1 x2 x3 x4 x5 x6 xs0 fw0 := by
  unfold hbw0_C_0 sout0_C_0
  unfold kernelRun0_C
  dsimp only
  sl_unfold_words
  refine Eq.trans (b := View.read (Elt F) arg9.view (arg9.view.writes (Elt F) (harg9.unread xs0) _)) ?_ (View.read_writes_of_cover _ _ _ _ _ ?_)
  · exact View.read_write_univ (v := View.whole main_v0) fw0 _
  · exact View.cover_of_tiledL _ S1024x512.size (by sl_kernel_rfl)

end Cert.Wgrad
end
-- ==== Proof.WgSum.lean ====
module

public import proofs.«01_k».proof.Proof.WgStep
public import proofs.«01_k».proof.Proof.WgHb
public import Idealize.ShloMosaic.Lib.Pipeline.ValueKit

@[expose] public section

set_option maxRecDepth 65536

noncomputable section

namespace Cert.Wgrad

open Cert.Kernel2Ideal Cert.Kernel2Ideal.Gen
open Idealize.ShloMosaic Idealize.ShloMosaic.TcCoe Idealize.SL.Sem

/-! ## The blocks of a point -/

/-- The grid has 16 points. -/
theorem t_lt (t : Fin cfg0.N) : t.val < 16 := t.isLt

/-- Which block of each argument a point takes. -/
theorem idx : ∀ t : Fin cfg0.N, win0_0.index t = ![t.val, 0] ∧ win0_1.index t = ![0, 0] ∧ win0_2.index t = ![0, t.val, 0] ∧ win0_3.index t = ![0, t.val, 0]
    ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD)

/-- The arguments' entries: `x`, the gain, the branches' inputs, the gates, q, k and v. -/
abbrev ax (t : Fin 8192) (d : Fin 1024) : EReal := (m ((c.tc : Thread nD τ).loc main_arg0) : Vec Ideal S8192x1024 .f32) (ix2 t d)
abbrev ag (d : Fin 1024) : EReal := (m ((c.tc : Thread nD τ).loc main_arg1) : Vec Ideal S1x1024 .f32) (ix2 0 d)
abbrev ap (i : Fin 3) (t : Fin 8192) (e : Fin 512) : EReal := (m ((c.tc : Thread nD τ).loc main_arg2) : Vec Ideal S3x8192x512 .bf16) (ix3 i t e)
abbrev asg (i : Fin 9) (t : Fin 8192) (e : Fin 512) : EReal := (m ((c.tc : Thread nD τ).loc main_arg3) : Vec Ideal S9x8192x512 .bf16) (ix3 i t e)
abbrev aq (t : Fin 8192) (e : Fin 512) : EReal := (m ((c.tc : Thread nD τ).loc main_arg4) : Vec Ideal S8192x512 .bf16) (ix2 t e)
abbrev ak (t : Fin 8192) (e : Fin 512) : EReal := (m ((c.tc : Thread nD τ).loc main_arg5) : Vec Ideal S8192x512 .bf16) (ix2 t e)
abbrev av (t : Fin 8192) (e : Fin 512) : EReal := (m ((c.tc : Thread nD τ).loc main_arg6) : Vec Ideal S8192x512 .bf16) (ix2 t e)

/-- The row of the arrays that is row `r` of point `t`'s blocks. -/
def row (t : Fin cfg0.N) (r : Fin 512) : Fin 8192 := ⟨512 * t.val + r.val, by have := t_lt t; omega⟩

variable (t : Fin cfg0.N)

/-- The entries of a point's blocks are the arguments' own, at the point's rows. -/
theorem x_read (r : Fin 512) (d : Fin 1024) : (iblk m c 0 t : Vec Ideal S512x1024 .f32) (ix2 r d) = ax m c (row t r) d := by
  show Gen.V m c main_arg0 ((win0_0.blk t).view.emb (ix2 r d)) = _
  rw [Gen.V_main_arg0]
  blk_ext [idx t, row]

theorem g_read (d : Fin 1024) : (iblk m c 1 t : Vec Ideal S1x1024 .f32) (ix2 0 d) = ag m c d := by
  show Gen.V m c main_arg1 ((win0_1.blk t).view.emb (ix2 0 d)) = _
  rw [Gen.V_main_arg1]
  blk_ext [idx t]

theorem p_read (i : Fin 3) (r e : Fin 512) : (iblk m c 2 t : Vec Ideal S3x512x512 .bf16) (ix3 i r e) = ap m c i (row t r) e := by
  show Gen.V m c main_arg2 ((win0_2.blk t).view.emb (ix3 i r e)) = _
  rw [Gen.V_main_arg2]
  blk_ext [idx t, row]

theorem s_read (i : Fin 9) (r e : Fin 512) : (iblk m c 3 t : Vec Ideal S9x512x512 .bf16) (ix3 i r e) = asg m c i (row t r) e := by
  show Gen.V m c main_arg3 ((win0_3.blk t).view.emb (ix3 i r e)) = _
  rw [Gen.V_main_arg3]
  blk_ext [idx t, row]

theorem q_read (r e : Fin 512) : (iblk m c 4 t : Vec Ideal S512x512 .bf16) (ix2 r e) = aq m c (row t r) e := by
  show Gen.V m c main_arg4 ((win0_4.blk t).view.emb (ix2 r e)) = _
  rw [Gen.V_main_arg4]
  blk_ext [idx t, row]

theorem k_read (r e : Fin 512) : (iblk m c 5 t : Vec Ideal S512x512 .bf16) (ix2 r e) = ak m c (row t r) e := by
  show Gen.V m c main_arg5 ((win0_5.blk t).view.emb (ix2 r e)) = _
  rw [Gen.V_main_arg5]
  blk_ext [idx t, row]

theorem v_read (r e : Fin 512) : (iblk m c 6 t : Vec Ideal S512x512 .bf16) (ix2 r e) = av m c (row t r) e := by
  show Gen.V m c main_arg6 ((win0_6.blk t).view.emb (ix2 r e)) = _
  rw [Gen.V_main_arg6]
  blk_ext [idx t, row]

/-- What a point adds is the sum of its rows' terms. -/
theorem addend_eq (d : Fin 1024) (u : ℕ) (e : Fin 512) :
    addend (iblk m c 0 t) (iblk m c 1 t) (iblk m c 2 t) (iblk m c 3 t) (iblk m c 4 t) (iblk m c 5 t) (iblk m c 6 t) d u e
      = ∑ r : Fin 512, term (ax m c) (ag m c) (ap m c) (asg m c) (aq m c) (ak m c) (av m c) d u e (row t r) := by
  unfold addend term
  refine Finset.sum_congr rfl fun r _ => ?_
  rw [pay4_apply]
  simp only [x_read, g_read, p_read, s_read, q_read, k_read, v_read]
  exact congrArg₂ (· * ·) (hn_rows (ax m c) _ (row t) r d) (unit_rows (ap m c) (asg m c) (aq m c) (ak m c) (av m c) (row t) u r e)

/-! ## The sum over the grid -/

/-- The terms, indexed by a natural number. -/
def termN (y : S1024x7680.Idx) (t : ℕ) : EReal :=
  if h : t < 8192 then term (ax m c) (ag m c) (ap m c) (asg m c) (aq m c) (ak m c) (av m c) (y 0) ((y 1).val / 512) ⟨(y 1).val % 512, Nat.mod_lt _ (by norm_num)⟩ ⟨t, h⟩ else 0

/-- A point brings the sum over the rows before its block to the sum over the rows up to its end. -/
theorem step_eq (w : Vec Ideal S1024x7680 .f32) (y : S1024x7680.Idx) (hw : w y = ∑ i ∈ Finset.range (512 * t.val), termN m c y i) :
    step (iblk m c 0 t) (iblk m c 1 t) (iblk m c 2 t) (iblk m c 3 t) (iblk m c 4 t) (iblk m c 5 t) (iblk m c 6 t) w y = ∑ i ∈ Finset.range (512 * (t.val + 1)), termN m c y i := by
  unfold step
  refine (congrArg (w y + ·) (addend_eq m c t (y 0) _ _)).trans ?_
  dsimp only
  rw [hw, mul_add, mul_one, Finset.sum_range_add, Finset.sum_range (n := 512)]
  refine congrArg (_ + ·) (Finset.sum_congr rfl fun r _ => ?_)
  unfold termN
  rw [dif_pos (show 512 * t.val + r.val < 8192 from (row t r).isLt)]
  rfl

/-- After point `n` the scratch holds the sums over the rows up to the end of its block. -/
theorem outs_eq (y : S1024x7680.Idx) : ∀ (n : ℕ) (h : n < cfg0.N), (outsAt0 m c n h).1 y = ∑ i ∈ Finset.range (512 * (n + 1)), termN m c y i
  | 0, h => by
    rw [outsAt0_A m c ⟨0, h⟩ rfl (by show ¬0 % 16 = 15; decide)]
    dsimp only
    rw [step_A]
    refine (step_eq m c ⟨0, h⟩ _ y ?_)
    refine Eq.trans (b := (0 : EReal)) ?_ (by simp)
    obtain ⟨d, e, rfl⟩ : ∃ (d : Fin 1024) (e : Fin 7680), y = ix2 d e := ⟨y 0, y 1, by funext a; match a with | ⟨0, _⟩ => rfl | ⟨1, _⟩ => rfl⟩
    exact pay5_apply d e
  | n + 1, h => by
    have hN : n + 1 < 16 := t_lt ⟨n + 1, h⟩
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [step_C]
      exact step_eq m c ⟨n + 1, h⟩ _ y (outs_eq y n _)
    · rw [outsAt0_B m c ⟨n + 1, h⟩ h0 h1]
      dsimp only
      rw [step_B]
      exact step_eq m c ⟨n + 1, h⟩ _ y (outs_eq y n _)

/-- The array that the last point copies out. -/
theorem hb_eq : Gen.hbG0 m c main_v0 = grad (ax m c) (ag m c) (ap m c) (asg m c) (aq m c) (ak m c) (av m c) := by
  rw [hbG0_0]
  have h15 : 15 < cfg0.N := by rw [show cfg0.N = 16 from N_0]; decide
  have key : (outsAt0 m c 15 h15).2 = (outsAt0 m c 15 h15).1 := by
    rw [outsAt0_C m c ⟨15, h15⟩ (show ¬15 % 16 = 0 by decide) (show 15 % 16 = 15 by decide)]
    dsimp only
    exact hbw_C ..
  refine Eq.trans (b := (outsAt0 m c 15 h15).2) rfl (key.trans (funext fun y => ?_))
  rw [outs_eq m c y 15 h15]
  refine (Finset.sum_range _).trans ?_
  exact Finset.sum_congr rfl fun t _ => dif_pos t.isLt

end

end Cert.Wgrad
end
-- ==== Proof.WgRef.lean ====
module

public import proofs.«01_k».proof.Proof.WgPay
public import proofs.«01_k».proof.Proof.Gen.Reference2Ideal.Run
public import Idealize.ShloMosaic.Lib.Pointwise

@[expose] public section

set_option maxRecDepth 65536

noncomputable section

namespace Cert.Wgrad

open Cert.Reference2Ideal Cert.Reference2Ideal.Gen
open Idealize.ShloMosaic Idealize.ShloMosaic.TcCoe Idealize.SL.Sem

/-- The derivative of the product with respect to the weights, at an entry. -/
theorem dot_eq (D : Vec Ideal S8192x7680 .f32) (H : Vec Ideal S8192x1024 .f32) (d : Fin 1024) (n : Fin 7680) :
    (transpose S1024x7680 [1, 0] (Host.dotGeneral (φ₁ := .f32) (φ₂ := .f32) dot_S8192x7680_S8192x1024_S7680x1024_0_0_1_1_n_n none D H) transposes_S7680x1024_S1024x7680_1_0 : FVec Ideal S1024x7680 .f32) (ix2 d n) = ∑ t, D (ix2 t n) * H (ix2 t d) := by
  pointwise []
/-- An entry of the fifteen arrays side by side: column `512 u + e` is column `e` of array `u`. -/
theorem concat_eq (a0 a1 a2 a3 a4 a5 a6 a7 a8 a9 a10 a11 a12 a13 a14 : Vec Ideal S8192x512 .f32) (t : Fin 8192) (u : Fin 15) (e : Fin 512) (n : Fin 7680) (hn : n.val = 512 * u.val + e.val) :
    (concatenate S8192x7680 1 [⟨S8192x512, a0⟩, ⟨S8192x512, a1⟩, ⟨S8192x512, a2⟩, ⟨S8192x512, a3⟩, ⟨S8192x512, a4⟩, ⟨S8192x512, a5⟩, ⟨S8192x512, a6⟩, ⟨S8192x512, a7⟩, ⟨S8192x512, a8⟩, ⟨S8192x512, a9⟩, ⟨S8192x512, a10⟩, ⟨S8192x512, a11⟩, ⟨S8192x512, a12⟩, ⟨S8192x512, a13⟩, ⟨S8192x512, a14⟩] concatenates_S8192x512_S8192x512_S8192x512_S8192x512_S8192x512_S8192x512_S8192x512_S8192x512_S8192x512_S8192x512_S8192x512_S8192x512_S8192x512_S8192x512_S8192x512_S8192x7680_d1 : Vec Ideal S8192x7680 .f32) (ix2 t n)
      = (![a0, a1, a2, a3, a4, a5, a6, a7, a8, a9, a10, a11, a12, a13, a14] : Fin 15 → Vec Ideal S8192x512 .f32) u (ix2 t e) := by
  have he := e.isLt
  exact concatenate_ofFn_apply (t := S8192x7680) (s₁ := S8192x512) (N := 15) 1 ![a0, a1, a2, a3, a4, a5, a6, a7, a8, a9, a10, a11, a12, a13, a14] _ rfl 512 rfl (ix2 t n) u (by show n.val / 512 = u.val; omega) (ix2 t e) (by show e.val = n.val % 512; omega)
    (fun b hb => by match b with | ⟨0, _⟩ => rfl | ⟨1, _⟩ => exact absurd rfl hb)

/-- The reference's normalisation at an entry. -/
theorem norm_eq (x : Vec Ideal S8192x1024 .f32) (g : Vec Ideal S1x1024 .f32) (t : Fin 8192) (d : Fin 1024) : ((mulf (F := Ideal) (φ := .f32) (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) : FVec Ideal S8192x1024 .f32) (ix2 t d) = hn (fun t d => x (ix2 t d)) (fun d => g (ix2 0 d)) t d := by
  pointwise []
  rfl

/-- The reference's result is the gradient `grad` of its arguments. -/
theorem ref_eq (m : (ℓ : Loc nD τ sig) → Buf (Elt Ideal) ℓ) (c : Dev nD) : (Value.res_main_v47 m c : Vec Ideal S1024x7680 .f32) =
    grad (fun t d => (m ((c.tc : Thread nD τ).loc main_arg0) : Vec Ideal S8192x1024 .f32) (ix2 t d)) (fun d => (m ((c.tc : Thread nD τ).loc main_arg1) : Vec Ideal S1x1024 .f32) (ix2 0 d))
      (fun i t e => (m ((c.tc : Thread nD τ).loc main_arg2) : Vec Ideal S3x8192x512 .bf16) (ix3 i t e)) (fun i t e => (m ((c.tc : Thread nD τ).loc main_arg3) : Vec Ideal S9x8192x512 .bf16) (ix3 i t e))
      (fun t e => (m ((c.tc : Thread nD τ).loc main_arg4) : Vec Ideal S8192x512 .bf16) (ix2 t e)) (fun t e => (m ((c.tc : Thread nD τ).loc main_arg5) : Vec Ideal S8192x512 .bf16) (ix2 t e))
      (fun t e => (m ((c.tc : Thread nD τ).loc main_arg6) : Vec Ideal S8192x512 .bf16) (ix2 t e)) := by
  funext y
  obtain ⟨d, n, rfl⟩ : ∃ (d : Fin 1024) (n : Fin 7680), y = ix2 d n := ⟨y 0, y 1, by funext a; match a with | ⟨0, _⟩ => rfl | ⟨1, _⟩ => rfl⟩
  unfold Value.res_main_v47
  refine (dot_eq _ _ d n).trans (Finset.sum_congr rfl fun t _ => ?_)
  have hn := n.isLt
  rw [mul_comm, concat_eq (t := t) (u := ⟨n.val / 512, by omega⟩) (e := ⟨n.val % 512, Nat.mod_lt _ (by norm_num)⟩) (n := n) (hn := by dsimp only; omega)]
  refine congrArg₂ (· * ·) (norm_eq _ _ t d) ?_
  show _ = unit _ _ _ _ _ (n.val / 512) t ⟨n.val % 512, _⟩
  obtain ⟨u, hu⟩ : ∃ u : Fin 15, n.val / 512 = u.val := ⟨⟨n.val / 512, by omega⟩, rfl⟩
  generalize (⟨n.val % 512, Nat.mod_lt _ (by norm_num)⟩ : Fin 512) = e
  simp only [hu, Fin.eta]
  generalize m ((c.tc : Thread nD τ).loc main_arg2) = p
  generalize m ((c.tc : Thread nD τ).loc main_arg3) = s
  generalize m ((c.tc : Thread nD τ).loc main_arg4) = q
  generalize m ((c.tc : Thread nD τ).loc main_arg5) = k
  generalize m ((c.tc : Thread nD τ).loc main_arg6) = v
  fin_cases u
  all_goals dsimp only [Matrix.cons_val, unit]
  all_goals pointwise []

end Cert.Wgrad
end
-- ==== Proof.WgValue.lean ====
module

public import proofs.«01_k».proof.Defs
public import proofs.«01_k».proof.Proof.WgSum
public import proofs.«01_k».proof.Proof.WgRef
public import Idealize.ShloMosaic.Lib.Quiescent

@[expose] public section

set_option maxRecDepth 65536

noncomputable section

namespace Cert.Wgrad

open Idealize.ShloMosaic Idealize.ShloMosaic.TcCoe Idealize.SL.Sem

/-! ## The two programs' results -/

/-- The reference ends without fault, with its arguments unchanged and no semaphore counted. -/
theorem reference_frame : Cert.quiescent_Reference2Ideal (hReference2Ideal := Cert.Reference2Ideal.Gen.facts) :=
  fun m g _ => (θ_run Cert.Reference2Ideal.defs _ _).mono (fun r h => ⟨fun c => (h c).2, sem_eq_zero_of_no_sems (by decide) _⟩) (Cert.Reference2Ideal.Value.run (F := Ideal) m g)

/-- Both programs end with the gradient of `w_in` that their arguments give. -/
theorem results_agree : Cert.algebraic_Kernel2Ideal_Reference2Ideal (hKernel2Ideal := Cert.Kernel2Ideal.Gen.facts) (hReference2Ideal := Cert.Reference2Ideal.Gen.facts) := by
  intro m g m' g' _ hag
  refine ⟨fun c => grad (ax m c) (ag m c) (ap m c) (asg m c) (aq m c) (ak m c) (av m c), ?_, ?_⟩
  · refine (θ_run Cert.Kernel2Ideal.defs _ _).mono (fun r h c => ?_) (θ_run_and (Cert.Kernel2Ideal.Gen.run_main (F := Ideal) m g) (Cert.Kernel2Ideal.Gen.unchanged (F := Ideal) m g))
    exact ⟨(h.1.written c (by decide)).trans (hb_eq m c), h.2 c⟩
  · refine (θ_run Cert.Reference2Ideal.defs _ _).mono (fun r h c => ?_) (Cert.Reference2Ideal.Value.run (F := Ideal) m' g')
    refine ⟨(h c).1.trans ((ref_eq m' c).trans ?_), (h c).2⟩
    obtain ⟨h0, h1, h2, h3, h4, h5, h6⟩ := hag c
    rw [h0, h1, h2, h3, h4, h5, h6]

end Cert.Wgrad
end
-- ==== Proof.FwBlock.lean ====
module

public import proofs.«01_k».proof.Proof.Gen.Kernel3Ideal.Frame
public import proofs.«01_k».proof.Proof.WgStep
public import Idealize.ShloMosaic.Lib.Pointwise
public import Idealize.ShloMosaic.Lib.Pipeline.ReadBack

@[expose] public section

set_option maxRecDepth 65536

noncomputable section

namespace Cert.Fwd

open Cert.Kernel3Ideal Cert.Kernel3Ideal.Gen
open Idealize.ShloMosaic Idealize.ShloMosaic.TcCoe Idealize.SL.Sem

/-! ## What a point of the projection computes -/

/-- The projection of a normalised row, at column `j`. -/
def proj {n : ℕ} (x : Fin n → Fin 1024 → EReal) (g : Fin 1024 → EReal) (w : Fin 1024 → Fin 7680 → EReal) (r : Fin n) (j : Fin 7680) : EReal :=
  ∑ d, Wgrad.hn x g r d * w d j

/-- The projection in units of 512 columns, unit first: `k` units from unit `o` on. -/
def units {n k : ℕ} (o : ℕ) (hk : o + k ≤ 15) (x : Fin n → Fin 1024 → EReal) (g : Fin 1024 → EReal) (w : Fin 1024 → Fin 7680 → EReal) (u : Fin k) (r : Fin n) (e : Fin 512) : EReal :=
  proj x g w r ⟨512 * (o + u.val) + e.val, by omega⟩

/-- The normalised block. -/
theorem pay3_apply (x : Vec Ideal S512x1024 .f32) (g : Vec Ideal S1x1024 .f32) (r : Fin 512) (d : Fin 1024) :
    k0_pay3 x g (ix2 r d) = Wgrad.hn (fun r d => x (ix2 r d)) (fun d => g (ix2 0 d)) r d := by
  pointwise [k0_pay3]
  rfl

/-- The product of a unit. -/
theorem pay8_apply (h : FVec Ideal S512x1024 .bf16) (w : Vec Ideal S1x1024x512 .bf16) (r e : Fin 512) :
    k0_pay8 h w (ix3 0 r e) = ∑ d, h (ix2 r d) * w (ix3 0 d e) := by
  pointwise [k0_pay8]

/-- The product of a unit, cast to bf16. -/
theorem pay12_apply (h : FVec Ideal S512x1024 .bf16) (w : Vec Ideal S1x1024x512 .bf16) (r e : Fin 512) :
    k0_pay12 h w (ix3 0 r e) = ∑ d, h (ix2 r d) * w (ix3 0 d e) := by
  pointwise [k0_pay12, k0_pay10]

variable (x0 : Vec Ideal S512x1024 .f32) (x1 : Vec Ideal S1x1024 .f32) (x2 : Vec Ideal S1x1024x7680 .bf16)

/-- The block's `k` units from unit `o` on. -/
def blk {k : ℕ} (o : ℕ) (hk : o + k ≤ 15) : Fin k → Fin 512 → Fin 512 → EReal :=
  units o hk (fun r d => x0 (ix2 r d)) (fun d => x1 (ix2 0 d)) (fun d j => x2 (ix3 0 d j))

/-- The normalised block that every unit's product takes. -/
def hblk : FVec Ideal S512x1024 .bf16 := k0_pay3 (View.ld x0 r0_0) (View.ld x1 r0_1)

theorem hblk_apply (r : Fin 512) (d : Fin 1024) : hblk x0 x1 (ix2 r d) = Wgrad.hn (fun r d => x0 (ix2 r d)) (fun d => x1 (ix2 0 d)) r d := by
  unfold hblk
  rw [show View.ld x0 r0_0 = x0 from View.ld_unit_lit _ x0 (by decide), show View.ld x1 r0_1 = x1 from View.ld_unit_lit _ x1 (by decide), pay3_apply]

/-- 512 columns of the weights, loaded. -/
theorem ld_cols {n : ℕ} (inb : ∀ a, (![0, 0, n] : Fin 3 → ℕ) a + S1x1024x512.size a ≤ S1x1024x7680.size a) (d : Fin 1024) (e : Fin 512) (h : n + e.val < 7680) :
    View.ld x2 (Rect.unit (s := S1x1024x7680) ![0, 0, n] S1x1024x512.size inb) (ix3 (0 : Fin 1) d e) = x2 (ix3 0 d ⟨n + e.val, h⟩) :=
  congrArg x2 (by
    funext a
    match a with
    | ⟨0, _⟩ => rfl
    | ⟨1, _⟩ => exact Fin.ext (by show 0 + 1 * d.val = d.val; omega)
    | ⟨2, _⟩ => exact Fin.ext (by show n + 1 * e.val = n + e.val; omega))

/-- The sum that a unit's product is. -/
theorem sum_eq {k : ℕ} (o : ℕ) (hk : o + k ≤ 15) (u : Fin k) {n : ℕ} (hn : n = 512 * (o + u.val)) (inb : ∀ a, (![0, 0, n] : Fin 3 → ℕ) a + S1x1024x512.size a ≤ S1x1024x7680.size a) (r e : Fin 512) :
    (∑ d : Fin 1024, (hblk x0 x1 (ix2 r d) : EReal) * (View.ld x2 (Rect.unit (s := S1x1024x7680) ![0, 0, n] S1x1024x512.size inb) (ix3 (0 : Fin 1) d e) : EReal) : EReal) = blk x0 x1 x2 o hk u r e := by
  subst hn
  unfold blk units proj
  refine Finset.sum_congr rfl fun d _ => ?_
  rw [hblk_apply, ld_cols x2 inb d e (by omega)]

/-- A store of a unit's product into the first result is a block of the projection. -/
theorem piece3 {u n : ℕ} (hu : u < 15) (hn : n = 512 * (0 + u)) (inb : ∀ a, (![0, 0, n] : Fin 3 → ℕ) a + S1x1024x512.size a ≤ S1x1024x7680.size a)
    (inb' : ∀ a, (![u, 0, 0] : Fin 3 → ℕ) a + S1x512x512.size a ≤ S15x512x512.size a) (j : S1x512x512.Idx) :
    k0_pay8 (hblk x0 x1) (View.ld x2 (Rect.unit (s := S1x1024x7680) ![0, 0, n] S1x1024x512.size inb)) j
      = (fun y : S15x512x512.Idx => blk x0 x1 x2 0 (le_refl 15) (y 0) (y 1) (y 2)) ((Rect.unit (s := S15x512x512) ![u, 0, 0] S1x512x512.size inb').emb j) := by
  obtain ⟨i, r, e, rfl⟩ : ∃ (i : Fin 1) (r e : Fin 512), j = ix3 i r e := ⟨j 0, j 1, j 2, by funext a; match a with | ⟨0, _⟩ => rfl | ⟨1, _⟩ => rfl | ⟨2, _⟩ => rfl⟩
  obtain rfl : i = 0 := Subsingleton.elim _ _
  rw [pay8_apply, sum_eq x0 x1 x2 0 (le_refl 15) ⟨u, hu⟩ hn]
  refine congr (congr (congrArg _ (Fin.ext ?_)) (Fin.ext ?_)) (Fin.ext ?_)
  · show u = u + 1 * 0; omega
  · show r.val = 0 + 1 * r.val; omega
  · show e.val = 0 + 1 * e.val; omega

/-- A store of a unit's product into the second result is a block of q, k and v. -/
theorem piece4 {u n : ℕ} (hu : u < 3) (hn : n = 512 * (5 + u)) (inb : ∀ a, (![0, 0, n] : Fin 3 → ℕ) a + S1x1024x512.size a ≤ S1x1024x7680.size a)
    (inb' : ∀ a, (![u, 0, 0] : Fin 3 → ℕ) a + S1x512x512.size a ≤ S3x512x512.size a) (j : S1x512x512.Idx) :
    k0_pay12 (hblk x0 x1) (View.ld x2 (Rect.unit (s := S1x1024x7680) ![0, 0, n] S1x1024x512.size inb)) j
      = (fun y : S3x512x512.Idx => blk x0 x1 x2 5 (by norm_num) (y 0) (y 1) (y 2)) ((Rect.unit (s := S3x512x512) ![u, 0, 0] S1x512x512.size inb').emb j) := by
  obtain ⟨i, r, e, rfl⟩ : ∃ (i : Fin 1) (r e : Fin 512), j = ix3 i r e := ⟨j 0, j 1, j 2, by funext a; match a with | ⟨0, _⟩ => rfl | ⟨1, _⟩ => rfl | ⟨2, _⟩ => rfl⟩
  obtain rfl : i = 0 := Subsingleton.elim _ _
  rw [pay12_apply, sum_eq x0 x1 x2 5 (by norm_num : 5 + 3 ≤ 15) ⟨u, hu⟩ hn]
  refine congr (congr (congrArg _ (Fin.ext ?_)) (Fin.ext ?_)) (Fin.ext ?_)
  · show u = u + 1 * 0; omega
  · show r.val = 0 + 1 * r.val; omega
  · show e.val = 0 + 1 * e.val; omega

/-- What a point leaves in its block of the first result: all the units. -/
theorem out3_apply (y : S15x512x512.Idx) : out0_3 x0 x1 x2 y = blk x0 x1 x2 0 (le_refl 15) (y 0) (y 1) (y 2) := by
  unfold out0_3
  refine Wgrad.canon_of_piecesOf (e := .f32) (fun y : S15x512x512.Idx => blk x0 x1 x2 0 (le_refl 15) (y 0) (y 1) (y 2)) _ ?_ y (cover0_3 (F := Ideal) _ _ _ _ _ _ _ _ _ _ _ _ _ _ _ y)
  exact ⟨piece3 x0 x1 x2 (by norm_num) (by norm_num) _ (by decide), piece3 x0 x1 x2 (by norm_num) (by norm_num) _ (by decide), piece3 x0 x1 x2 (by norm_num) (by norm_num) _ (by decide),
      piece3 x0 x1 x2 (by norm_num) (by norm_num) _ (by decide), piece3 x0 x1 x2 (by norm_num) (by norm_num) _ (by decide), piece3 x0 x1 x2 (by norm_num) (by norm_num) _ (by decide),
      piece3 x0 x1 x2 (by norm_num) (by norm_num) _ (by decide), piece3 x0 x1 x2 (by norm_num) (by norm_num) _ (by decide), piece3 x0 x1 x2 (by norm_num) (by norm_num) _ (by decide),
      piece3 x0 x1 x2 (by norm_num) (by norm_num) _ (by decide), piece3 x0 x1 x2 (by norm_num) (by norm_num) _ (by decide), piece3 x0 x1 x2 (by norm_num) (by norm_num) _ (by decide),
      piece3 x0 x1 x2 (by norm_num) (by norm_num) _ (by decide), piece3 x0 x1 x2 (by norm_num) (by norm_num) _ (by decide), piece3 x0 x1 x2 (by norm_num) (by norm_num) _ (by decide), trivial⟩

/-- What a point leaves in its block of the second result: the units of q, k and v. -/
theorem out4_apply (y : S3x512x512.Idx) : out0_4 x0 x1 x2 y = blk x0 x1 x2 5 (by norm_num : 5 + 3 ≤ 15) (y 0) (y 1) (y 2) := by
  unfold out0_4
  refine Wgrad.canon_of_piecesOf (e := .bf16) (fun y : S3x512x512.Idx => blk x0 x1 x2 5 (by norm_num : 5 + 3 ≤ 15) (y 0) (y 1) (y 2)) _ ?_ y (cover0_4 (F := Ideal) _ _ _ y)
  exact ⟨piece4 x0 x1 x2 (by norm_num) (by norm_num) _ (by decide), piece4 x0 x1 x2 (by norm_num) (by norm_num) _ (by decide), piece4 x0 x1 x2 (by norm_num) (by norm_num) _ (by decide), trivial⟩

end Cert.Fwd
end
-- ==== Proof.FwOut.lean ====
module

public import proofs.«01_k».proof.Proof.FwBlock
public import proofs.«01_k».proof.Proof.Gen.Kernel3Ideal.Value
public import Idealize.ShloMosaic.Lib.Pipeline.ValueKit

@[expose] public section

set_option maxRecDepth 65536

noncomputable section

namespace Cert.Fwd

open Cert.Kernel3Ideal Cert.Kernel3Ideal.Gen
open Idealize.ShloMosaic Idealize.ShloMosaic.TcCoe Idealize.SL.Sem

/-! ## The arrays that the grid leaves -/

/-- The grid has 16 points. -/
theorem t_lt (t : Fin cfg0.N) : t.val < 16 := t.isLt

/-- Which block of each array a point takes. -/
theorem idx : ∀ t : Fin cfg0.N, win0_0.index t = ![t.val, 0] ∧ win0_1.index t = ![0, 0] ∧ win0_2.index t = ![1, 0, 0] ∧ win0_3.index t = ![0, t.val, 0] ∧ win0_4.index t = ![0, t.val, 0] :=
  (by decide +kernel : ∀ t : Fin grid0.N, _)

variable (m : (ℓ : Loc nD τ sig) → Buf (Elt Ideal) ℓ) (c : Dev nD)

/-- The arguments' entries: `x`, the gain, and the weights of the second layer. -/
abbrev ax (t : Fin 8192) (d : Fin 1024) : EReal := (m ((c.tc : Thread nD τ).loc main_arg0) : Vec Ideal S8192x1024 .f32) (ix2 t d)
abbrev ag (d : Fin 1024) : EReal := (m ((c.tc : Thread nD τ).loc main_arg1) : Vec Ideal S1x1024 .f32) (ix2 0 d)
abbrev aw (d : Fin 1024) (j : Fin 7680) : EReal := (m ((c.tc : Thread nD τ).loc main_arg2) : Vec Ideal S2x1024x7680 .bf16) (ix3 1 d j)

/-- The row of the arrays that is row `r` of point `t`'s blocks. -/
def row (t : Fin cfg0.N) (r : Fin 512) : Fin 8192 := ⟨512 * t.val + r.val, by have := t_lt t; omega⟩

variable (t : Fin cfg0.N)

/-- The entries of a point's blocks are the arguments' own, at the point's rows. -/
theorem x_read (r : Fin 512) (d : Fin 1024) : (iblk m c 0 t : Vec Ideal S512x1024 .f32) (ix2 r d) = ax m c (row t r) d := by
  show Gen.V m c main_arg0 ((win0_0.blk t).view.emb (ix2 r d)) = _
  rw [Gen.V_main_arg0]
  blk_ext [idx t, row]

theorem g_read (d : Fin 1024) : (iblk m c 1 t : Vec Ideal S1x1024 .f32) (ix2 0 d) = ag m c d := by
  show Gen.V m c main_arg1 ((win0_1.blk t).view.emb (ix2 0 d)) = _
  rw [Gen.V_main_arg1]
  blk_ext [idx t]

theorem w_read (d : Fin 1024) (j : Fin 7680) : (iblk m c 2 t : Vec Ideal S1x1024x7680 .bf16) (ix3 0 d j) = aw m c d j := by
  show Gen.V m c main_arg2 ((win0_2.blk t).view.emb (ix3 0 d j)) = _
  rw [Gen.V_main_arg2]
  blk_ext [idx t]

/-- The units of a point's block are the whole projection's units at the point's rows. -/
theorem blk_eq {k : ℕ} (o : ℕ) (hk : o + k ≤ 15) (u : Fin k) (r e : Fin 512) :
    blk (iblk m c 0 t) (iblk m c 1 t) (iblk m c 2 t) o hk u r e = units o hk (ax m c) (ag m c) (aw m c) u (row t r) e := by
  unfold blk
  rw [show (fun (r : Fin 512) (d : Fin 1024) => (iblk m c 0 t : Vec Ideal S512x1024 .f32) (ix2 r d)) = fun r => ax m c (row t r) from funext fun r => funext fun d => x_read m c t r d,
    show (fun d : Fin 1024 => (iblk m c 1 t : Vec Ideal S1x1024 .f32) (ix2 0 d)) = ag m c from funext fun d => g_read m c t d,
    show (fun (d : Fin 1024) (j : Fin 7680) => (iblk m c 2 t : Vec Ideal S1x1024x7680 .bf16) (ix3 0 d j)) = aw m c from funext fun d => funext fun j => w_read m c t d j]
  rfl

/-- An array of units. -/
def arr3 (f : Fin 15 → Fin 8192 → Fin 512 → EReal) : Vec Ideal S15x8192x512 .f32 := fun y => f (y 0) (y 1) (y 2)

/-- An array of the units q, k and v. -/
def arr4 (f : Fin 3 → Fin 8192 → Fin 512 → EReal) : Vec Ideal S3x8192x512 .bf16 := fun y => f (y 0) (y 1) (y 2)

/-- The entries of a point's block of the first result are at the point's rows. -/
theorem emb3 (f : Fin 15 → Fin 8192 → Fin 512 → EReal) (u : Fin 15) (r e : Fin 512) : arr3 f ((win0_3.blk t).view.emb (ix3 u r e)) = f u (row t r) e := by
  have h : (arr3 f) ((win0_3.blk t).view.emb (ix3 u r e)) = arr3 f (ix3 u (row t r) e) := by
    blk_ext [idx t, row]
  exact h

/-- The entries of a point's block of the second result are at the point's rows. -/
theorem emb4 (f : Fin 3 → Fin 8192 → Fin 512 → EReal) (u : Fin 3) (r e : Fin 512) : arr4 f ((win0_4.blk t).view.emb (ix3 u r e)) = f u (row t r) e := by
  have h : (arr4 f) ((win0_4.blk t).view.emb (ix3 u r e)) = arr4 f (ix3 u (row t r) e) := by
    blk_ext [idx t, row]
  exact h

/-- The first result: the projection in its fifteen units. -/
theorem arr3_eq : (dats m 0 c).arrAt 3 cfg0.N = arr3 (units 0 (le_refl 15) (ax m c) (ag m c) (aw m c)) := by
  refine (dats m 0 c).arrAt_eq_of_covers 3 _ (by decide +kernel) fun t _ y => ?_
  blk_simp
  rw [after0_3]
  obtain ⟨u, r, e, rfl⟩ : ∃ (u : Fin 15) (r e : Fin 512), y = ix3 u r e := ⟨y 0, y 1, y 2, by funext a; match a with | ⟨0, _⟩ => rfl | ⟨1, _⟩ => rfl | ⟨2, _⟩ => rfl⟩
  exact (out3_apply _ _ _ (ix3 u r e)).trans ((blk_eq m c t 0 (le_refl 15) u r e).trans (emb3 t _ u r e).symm)

/-- The second result: the units of q, k and v. -/
theorem arr4_eq : (dats m 0 c).arrAt 4 cfg0.N = arr4 (units 5 (by norm_num) (ax m c) (ag m c) (aw m c)) := by
  refine (dats m 0 c).arrAt_eq_of_covers 4 _ (by decide +kernel) fun t _ y => ?_
  blk_simp
  rw [after0_4]
  obtain ⟨u, r, e, rfl⟩ : ∃ (u : Fin 3) (r e : Fin 512), y = ix3 u r e := ⟨y 0, y 1, y 2, by funext a; match a with | ⟨0, _⟩ => rfl | ⟨1, _⟩ => rfl | ⟨2, _⟩ => rfl⟩
  exact (out4_apply _ _ _ (ix3 u r e)).trans ((blk_eq m c t 5 (by norm_num) u r e).trans (emb4 t _ u r e).symm)

end Cert.Fwd
end
-- ==== Proof.FwRef.lean ====
module

public import proofs.«01_k».proof.Proof.FwOut
public import proofs.«01_k».proof.Proof.Gen.Reference3Ideal.Run
public import Idealize.ShloMosaic.Lib.Pointwise

@[expose] public section

set_option maxRecDepth 65536

noncomputable section

namespace Cert.Fwd

open Cert.Reference3Ideal Cert.Reference3Ideal.Gen
open Idealize.ShloMosaic Idealize.ShloMosaic.TcCoe Idealize.SL.Sem

/-! ## What the reference computes -/

/-- The product, cut into units, at an entry. -/
theorem dot_eq (H : Vec Ideal S8192x1024 .f32) (W : Vec Ideal S1024x7680 .f32) (u : Fin 15) (t : Fin 8192) (e : Fin 512) (h : 512 * u.val + e.val < 7680) :
    (transpose S15x8192x512 [1, 0, 2] (shapeCast S8192x15x512 (Host.dotGeneral (φ₁ := .f32) (φ₂ := .f32) dot_S8192x1024_S1024x7680_S8192x7680_1_0_0_1_n_n none H W) shapeCasts_S8192x7680_S8192x15x512) transposes_S8192x15x512_S15x8192x512_1_0_2 : FVec Ideal S15x8192x512 .f32) (ix3 u t e)
      = ∑ d, H (ix2 t d) * W (ix2 d ⟨512 * u.val + e.val, h⟩) := by
  pointwise []
  simp only [mul_comm u.val 512]

/-- The second layer's weights, at an entry. -/
theorem weight_eq (w : Vec Ideal S2x1024x7680 .bf16) (d : Fin 1024) (j : Fin 7680) :
    (extf (F := Ideal) .f32 (shapeCast S1024x7680 (extractStridedSlice S1x1024x7680 ![1, 0, 0] w slices_S2x1024x7680_S1x1024x7680_1_0_0) shapeCasts_S1x1024x7680_S1024x7680) bitsLt_bf16_f32 : FVec Ideal S1024x7680 .f32) (ix2 d j) = w (ix3 1 d j) := by
  pointwise []

/-- The reference's normalisation at an entry. -/
theorem norm_eq (x : Vec Ideal S8192x1024 .f32) (g : Vec Ideal S1x1024 .f32) (t : Fin 8192) (d : Fin 1024) : ((mulf (F := Ideal) (φ := .f32) (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))) : FVec Ideal S8192x1024 .f32) (ix2 t d) = Wgrad.hn (fun t d => x (ix2 t d)) (fun d => g (ix2 0 d)) t d := by
  pointwise []
  rfl

/-- The second result's units are the first's from the fifth on. -/
theorem slice_eq (Z : Vec Ideal S15x8192x512 .f32) (u : Fin 3) (t : Fin 8192) (e : Fin 512) :
    (truncf (F := Ideal) .bf16 (extractStridedSlice S3x8192x512 ![5, 0, 0] Z slices_S15x8192x512_S3x8192x512_5_0_0) bitsLt_bf16_f32 : FVec Ideal S3x8192x512 .bf16) (ix3 u t e) = Z (ix3 ⟨5 + u.val, by omega⟩ t e) := by
  pointwise []

/-- The reference's projection, in units. -/
def whole (x : Vec Ideal S8192x1024 .f32) (g : Vec Ideal S1x1024 .f32) (w : Vec Ideal S2x1024x7680 .bf16) : FVec Ideal S15x8192x512 .f32 :=
  transpose S15x8192x512 [1, 0, 2] (shapeCast S8192x15x512 (Host.dotGeneral (φ₁ := .f32) (φ₂ := .f32) dot_S8192x1024_S1024x7680_S8192x7680_1_0_0_1_n_n none
    (mulf (F := Ideal) (φ := .f32) (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024))))
    (extf (F := Ideal) .f32 (shapeCast S1024x7680 (extractStridedSlice S1x1024x7680 ![1, 0, 0] w slices_S2x1024x7680_S1x1024x7680_1_0_0) shapeCasts_S1x1024x7680_S1024x7680) bitsLt_bf16_f32)) shapeCasts_S8192x7680_S8192x15x512) transposes_S8192x15x512_S15x8192x512_1_0_2

/-- It is the projection of the normalised rows by the second layer's weights. -/
theorem whole_apply (x : Vec Ideal S8192x1024 .f32) (g : Vec Ideal S1x1024 .f32) (w : Vec Ideal S2x1024x7680 .bf16) (u : Fin 15) (t : Fin 8192) (e : Fin 512) :
    whole x g w (ix3 u t e) = proj (fun t d => x (ix2 t d)) (fun d => g (ix2 0 d)) (fun d j => w (ix3 1 d j)) t ⟨512 * u.val + e.val, by omega⟩ := by
  unfold whole proj
  rw [dot_eq _ _ u t e (by omega)]
  exact Finset.sum_congr rfl fun d _ => congrArg₂ (· * ·) (norm_eq x g t d) (weight_eq w d _)

/-- The first result. -/
theorem first_eq (x : Vec Ideal S8192x1024 .f32) (g : Vec Ideal S1x1024 .f32) (w : Vec Ideal S2x1024x7680 .bf16) :
    whole x g w = arr3 (units 0 (le_refl 15) (fun t d => x (ix2 t d)) (fun d => g (ix2 0 d)) (fun d j => w (ix3 1 d j))) := by
  funext y
  obtain ⟨u, t, e, rfl⟩ : ∃ (u : Fin 15) (t : Fin 8192) (e : Fin 512), y = ix3 u t e := ⟨y 0, y 1, y 2, by funext a; match a with | ⟨0, _⟩ => rfl | ⟨1, _⟩ => rfl | ⟨2, _⟩ => rfl⟩
  rw [whole_apply]
  exact congrArg (proj (fun t d => x (ix2 t d)) (fun d => g (ix2 0 d)) (fun d j => w (ix3 1 d j)) t) (Fin.ext (by show 512 * u.val + e.val = 512 * (0 + u.val) + e.val; omega))

/-- The second result. -/
theorem second_eq (x : Vec Ideal S8192x1024 .f32) (g : Vec Ideal S1x1024 .f32) (w : Vec Ideal S2x1024x7680 .bf16) :
    (truncf (F := Ideal) .bf16 (extractStridedSlice S3x8192x512 ![5, 0, 0] (whole x g w) slices_S15x8192x512_S3x8192x512_5_0_0) bitsLt_bf16_f32 : FVec Ideal S3x8192x512 .bf16)
      = arr4 (units 5 (by norm_num) (fun t d => x (ix2 t d)) (fun d => g (ix2 0 d)) (fun d j => w (ix3 1 d j))) := by
  funext y
  obtain ⟨u, t, e, rfl⟩ : ∃ (u : Fin 3) (t : Fin 8192) (e : Fin 512), y = ix3 u t e := ⟨y 0, y 1, y 2, by funext a; match a with | ⟨0, _⟩ => rfl | ⟨1, _⟩ => rfl | ⟨2, _⟩ => rfl⟩
  rw [slice_eq, whole_apply]
  rfl

end Cert.Fwd
end
-- ==== Proof.FwValue.lean ====
module

public import proofs.«01_k».proof.Defs
public import proofs.«01_k».proof.Proof.FwOut
public import proofs.«01_k».proof.Proof.FwRef
public import Idealize.ShloMosaic.Lib.Quiescent

@[expose] public section

set_option maxRecDepth 65536

noncomputable section

namespace Cert.Fwd

open Idealize.ShloMosaic Idealize.ShloMosaic.TcCoe Idealize.SL.Sem

/-! ## The two programs' results -/

/-- The reference ends without fault, with its arguments unchanged and no semaphore counted. -/
theorem reference_frame : Cert.quiescent_Reference3Ideal (hReference3Ideal := Cert.Reference3Ideal.Gen.facts) :=
  fun m g _ => (θ_run Cert.Reference3Ideal.defs _ _).mono (fun r h => ⟨fun c => (h c).2.2, sem_eq_zero_of_no_sems (by decide) _⟩) (Cert.Reference3Ideal.Value.run (F := Ideal) m g)

/-- Both programs end with the projection of the normalised rows, in units, and with its units q, k and v. -/
theorem results_agree : Cert.algebraic_Kernel3Ideal_Reference3Ideal (hKernel3Ideal := Cert.Kernel3Ideal.Gen.facts) (hReference3Ideal := Cert.Reference3Ideal.Gen.facts) := by
  intro m g m' g' _ hag
  refine ⟨fun c => arr3 (units 0 (le_refl 15) (ax m c) (ag m c) (aw m c)), fun c => arr4 (units 5 (by norm_num) (ax m c) (ag m c) (aw m c)), ?_, ?_⟩
  · refine (θ_run Cert.Kernel3Ideal.defs _ _).mono (fun r h c => ?_) (Cert.Kernel3Ideal.Value.run_blocks (F := Ideal) m g)
    exact ⟨(h c).1.trans (arr3_eq m c), (h c).2.1.trans (arr4_eq m c), (h c).2.2⟩
  · refine (θ_run Cert.Reference3Ideal.defs _ _).mono (fun r h c => ?_) (Cert.Reference3Ideal.Value.run (F := Ideal) m' g')
    obtain ⟨h0, h1, h2⟩ := hag c
    refine ⟨(h c).1.trans ((first_eq _ _ _).trans ?_), (h c).2.1.trans ((second_eq _ _ _).trans ?_), (h c).2.2⟩
    · rw [h0, h1, h2]
    · rw [h0, h1, h2]

end Cert.Fwd
end
-- ==== Proof.DxSpec.lean ====
module

public import proofs.«01_k».proof.Proof.WgPay

@[expose] public section

set_option maxRecDepth 65536

noncomputable section

namespace Cert.Dx

open Idealize.ShloMosaic

/-! ## What the gradient of the input is -/

/-- The gradient of the normalised rows: each row of the projection's gradient times the weights, over all columns. -/
def dh {n : ℕ} (D : ℕ → Fin n → Fin 512 → EReal) (w : Fin 1024 → Fin 7680 → EReal) (t : Fin n) (d : Fin 1024) : EReal :=
  ∑ j : Fin 7680, D (j.val / 512) t ⟨j.val % 512, Nat.mod_lt _ (by norm_num)⟩ * w d j

/-- A unit's part of it. -/
def part {n : ℕ} (D : ℕ → Fin n → Fin 512 → EReal) (w : Fin 1024 → Fin 7680 → EReal) (t : Fin n) (d : Fin 1024) (u : ℕ) (hu : u < 15) : EReal :=
  ∑ e : Fin 512, D u t e * w d ⟨512 * u + e.val, by omega⟩

/-- The sum over the columns is the sum of the units' parts. -/
theorem dh_parts {n : ℕ} (D : ℕ → Fin n → Fin 512 → EReal) (w : Fin 1024 → Fin 7680 → EReal) (t : Fin n) (d : Fin 1024) : dh D w t d = ∑ u : Fin 15, part D w t d u.val u.isLt := by
  unfold dh part
  rw [← Equiv.sum_comp (finProdFinEquiv (m := 15) (n := 512)), Fintype.sum_prod_type]
  refine Finset.sum_congr rfl fun u _ => Finset.sum_congr rfl fun e _ => ?_
  have he := e.isLt
  have h0 : (finProdFinEquiv (u, e) : Fin (15 * 512)).val = e.val + 512 * u.val := rfl
  refine congrArg₂ (· * ·) ?_ (congrArg (w d) (Fin.ext ?_))
  · refine congr (congrFun (congrArg D ?_) t) (Fin.ext ?_)
    · rw [h0]; omega
    · show (finProdFinEquiv (u, e) : Fin (15 * 512)).val % 512 = e.val
      rw [h0]; omega
  · rw [h0]; show e.val + 512 * u.val = 512 * u.val + e.val; omega

/-- The units' parts one after the other. -/
theorem dh_chain {n : ℕ} (D : ℕ → Fin n → Fin 512 → EReal) (w : Fin 1024 → Fin 7680 → EReal) (t : Fin n) (d : Fin 1024) : dh D w t d =
    0 + part D w t d 0 (by norm_num) + part D w t d 1 (by norm_num) + part D w t d 2 (by norm_num) + part D w t d 3 (by norm_num) + part D w t d 4 (by norm_num)
      + part D w t d 5 (by norm_num) + part D w t d 6 (by norm_num) + part D w t d 7 (by norm_num) + part D w t d 8 (by norm_num) + part D w t d 9 (by norm_num)
      + part D w t d 10 (by norm_num) + part D w t d 11 (by norm_num) + part D w t d 12 (by norm_num) + part D w t d 13 (by norm_num) + part D w t d 14 (by norm_num) := by
  rw [dh_parts, zero_add]
  simp only [Fin.sum_univ_castSucc, Fin.sum_univ_zero, zero_add]
  rfl

/-- A row's mean square, and the small constant. -/
def ms (x : Fin 1024 → EReal) : EReal :=
  Ideal.div (∑ i, x i * x i) (Ideal.ofBits FTy.f32 1149239296#32) + Ideal.ofBits FTy.f32 897988541#32

/-- The gradient of a row `x` before its normalisation, out of the gradient `a` behind the gain, added to what came by the other way. -/
def dx (x a o : Fin 1024 → EReal) (d : Fin 1024) : EReal :=
  o d + Ideal.rsqrt (ms x) * (a d - x d * Ideal.rsqrt (ms x) * Ideal.div (∑ i, a i * (x i * Ideal.rsqrt (ms x))) (Ideal.ofBits FTy.f32 1149239296#32))

/-- A row's term of the gain's gradient. -/
def dgterm (x h : Fin 1024 → EReal) (d : Fin 1024) : EReal := h d * (x d * Ideal.rsqrt (ms x))

end Cert.Dx
end
-- ==== Proof.DxBlock.lean ====
module

public import proofs.«01_k».proof.Proof.Gen.Kernel4Ideal.Frame
public import proofs.«01_k».proof.Proof.DxSpec
public import proofs.«01_k».proof.Proof.FwBlock
public import Idealize.ShloMosaic.Lib.Pointwise
public import Idealize.ShloMosaic.Lib.Pipeline.ReadBack

@[expose] public section

set_option maxRecDepth 65536

noncomputable section

namespace Cert.Dx

open Cert.Kernel4Ideal Cert.Kernel4Ideal.Gen
open Idealize.ShloMosaic Idealize.ShloMosaic.TcCoe Idealize.SL.Sem

/-! ## What a point of the input's gradient computes -/

/-- The first three units' products, summed. -/
theorem pay3_apply (b0 b1 b2 : Vec Ideal S1x512x512 .bf16) (w0 w1 w2 : Vec Ideal S1x1024x512 .bf16) (r : Fin 512) (d : Fin 1024) :
    k0_pay3 b0 w0 b1 w1 b2 w2 (ix2 r d) = 0 + (∑ e, b0 (ix3 0 r e) * w0 (ix3 0 d e)) + (∑ e, b1 (ix3 0 r e) * w1 (ix3 0 d e)) + (∑ e, b2 (ix3 0 r e) * w2 (ix3 0 d e)) := by
  pointwise [k0_pay3]

/-- The next unit's product. -/
theorem pay4_apply (b : Vec Ideal S1x512x512 .bf16) (w : Vec Ideal S1x1024x512 .bf16) (r : Fin 512) (d : Fin 1024) : k0_pay4 b w (ix2 r d) = ∑ e, b (ix3 0 r e) * w (ix3 0 d e) := by
  pointwise [k0_pay4]

/-- The units to the eighth added. -/
theorem pay5_apply (A B : FVec Ideal S512x1024 .f32) (b4 b8 : Vec Ideal S1x512x512 .bf16) (q k v : Vec Ideal S512x512 .bf16) (w4 w5 w6 w7 w8 : Vec Ideal S1x1024x512 .bf16) (r : Fin 512) (d : Fin 1024) :
    k0_pay5 A B b4 w4 q w5 k w6 v w7 b8 w8 (ix2 r d) = A (ix2 r d) + B (ix2 r d) + (∑ e, b4 (ix3 0 r e) * w4 (ix3 0 d e)) + (∑ e, q (ix2 r e) * w5 (ix3 0 d e))
      + (∑ e, k (ix2 r e) * w6 (ix3 0 d e)) + (∑ e, v (ix2 r e) * w7 (ix3 0 d e)) + (∑ e, b8 (ix3 0 r e) * w8 (ix3 0 d e)) := by
  pointwise [k0_pay5]

/-- The units to the twelfth added. -/
theorem pay6_apply (A : FVec Ideal S512x1024 .f32) (b0 b1 b2 b3 : Vec Ideal S1x512x512 .bf16) (w0 w1 w2 w3 : Vec Ideal S1x1024x512 .bf16) (r : Fin 512) (d : Fin 1024) :
    k0_pay6 A b0 w0 b1 w1 b2 w2 b3 w3 (ix2 r d) = A (ix2 r d) + (∑ e, b0 (ix3 0 r e) * w0 (ix3 0 d e)) + (∑ e, b1 (ix3 0 r e) * w1 (ix3 0 d e)) + (∑ e, b2 (ix3 0 r e) * w2 (ix3 0 d e))
      + (∑ e, b3 (ix3 0 r e) * w3 (ix3 0 d e)) := by
  pointwise [k0_pay6]

/-- The last two added. -/
theorem pay8_apply (A : FVec Ideal S512x1024 .f32) (b0 b1 : Vec Ideal S1x512x512 .bf16) (w0 w1 : Vec Ideal S1x1024x512 .bf16) (r : Fin 512) (d : Fin 1024) :
    k0_pay8 A (k0_pay7 b0) w0 b1 w1 (ix2 r d) = A (ix2 r d) + (∑ e, b0 (ix3 0 r e) * w0 (ix3 0 d e)) + (∑ e, b1 (ix3 0 r e) * w1 (ix3 0 d e)) := by
  pointwise [k0_pay8, k0_pay7]

/-- What goes to the first result, where `h` is the gradient of the normalised rows. -/
theorem out_apply (A : FVec Ideal S512x1024 .f32) (B : FVec Ideal S512x512 .bf16) (w0 : Vec Ideal S1x1024x512 .bf16) (b1 : Vec Ideal S1x512x512 .bf16) (w1 : Vec Ideal S1x1024x512 .bf16)
    (x : Vec Ideal S512x1024 .f32) (g : Vec Ideal S1x1024 .f32) (o : Vec Ideal S512x1024 .f32) (h : Fin 512 → Fin 1024 → EReal) (hh : ∀ r d, k0_pay8 A B w0 b1 w1 (ix2 r d) = h r d) (r : Fin 512) (d : Fin 1024) :
    k0_pay1 (k0_pay9 x) (k0_pay10 x) (k0_pay12 A B w0 b1 w1 g) o (k0_pay13 A B w0 b1 w1 x g) (Scalar.ofBits .f32 0x44800000#32) (ix2 r d)
      = dx (fun d => x (ix2 r d)) (fun d => h r d * g (ix2 0 d)) (fun d => o (ix2 r d)) d := by
  unfold k0_pay13 k0_pay12
  generalize k0_pay8 A B w0 b1 w1 = H at hh
  pointwise [k0_pay1, k0_pay9, k0_pay10]
  simp only [hh]
  rfl

/-- What goes to the second result. -/
theorem gain_apply (A : FVec Ideal S512x1024 .f32) (B : FVec Ideal S512x512 .bf16) (w0 : Vec Ideal S1x1024x512 .bf16) (b1 : Vec Ideal S1x512x512 .bf16) (w1 : Vec Ideal S1x1024x512 .bf16)
    (x : Vec Ideal S512x1024 .f32) (w : Vec Ideal S1x1024 .f32) (h : Fin 512 → Fin 1024 → EReal) (hh : ∀ r d, k0_pay8 A B w0 b1 w1 (ix2 r d) = h r d) (d : Fin 1024) :
    k0_pay11 A B w0 b1 w1 x w (ix2 0 d) = w (ix2 0 d) + ∑ r, dgterm (fun d => x (ix2 r d)) (h r) d := by
  unfold k0_pay11
  generalize k0_pay8 A B w0 b1 w1 = H at hh
  pointwise [k0_pay9, k0_pay10]
  simp only [hh]
  rfl

/-- The second result begins with zeros. -/
theorem pay2_apply (d : Fin 1024) : (k0_pay2 (F := Ideal)) (ix2 0 d) = 0 := by
  pointwise [k0_pay2]

variable (x0 : Vec Ideal S512x1024 .f32) (x1 : Vec Ideal S1x1024 .f32) (x2 : Vec Ideal S1x1024x7680 .bf16) (x3 : Vec Ideal S3x512x512 .bf16) (x4 : Vec Ideal S9x512x512 .bf16)
  (x5 x6 x7 : Vec Ideal S512x512 .bf16) (x8 : Vec Ideal S512x1024 .f32)

/-- The gradient of the block's normalised rows. -/
def bdh : Fin 512 → Fin 1024 → EReal :=
  dh (Wgrad.unit (fun i r e => x3 (ix3 i r e)) (fun i r e => x4 (ix3 i r e)) (fun r e => x5 (ix2 r e)) (fun r e => x6 (ix2 r e)) (fun r e => x7 (ix2 r e))) (fun d j => x2 (ix3 0 d j))

/-- The block of the first result. -/
def bdx (y : S512x1024.Idx) : EReal :=
  dx (fun d => x0 (ix2 (y 0) d)) (fun d => bdh x2 x3 x4 x5 x6 x7 (y 0) d * x1 (ix2 0 d)) (fun d => x8 (ix2 (y 0) d)) (y 1)

/-- The second result after a point that found it at `w`. -/
def bdg (w : Vec Ideal S1x1024 .f32) (y : S1x1024.Idx) : EReal :=
  w y + ∑ r, dgterm (fun d => x0 (ix2 r d)) (bdh x2 x3 x4 x5 x6 x7 r) (y 1)

/-- 512 columns of the weights at column `n`, loaded. -/
abbrev lw (n : ℕ) (inb : ∀ a, (![0, 0, n] : Fin 3 → ℕ) a + S1x1024x512.size a ≤ S1x1024x7680.size a) : Vec Ideal S1x1024x512 .bf16 := View.ld x2 (Rect.unit (s := S1x1024x7680) ![0, 0, n] S1x1024x512.size inb)
/-- Slab `n` of the branches' inputs, loaded. -/
abbrev lp (n : ℕ) (inb : ∀ a, (![n, 0, 0] : Fin 3 → ℕ) a + S1x512x512.size a ≤ S3x512x512.size a) : Vec Ideal S1x512x512 .bf16 := View.ld x3 (Rect.unit (s := S3x512x512) ![n, 0, 0] S1x512x512.size inb)
/-- Slab `n` of the gates, loaded. -/
abbrev lg (n : ℕ) (inb : ∀ a, (![n, 0, 0] : Fin 3 → ℕ) a + S1x512x512.size a ≤ S9x512x512.size a) : Vec Ideal S1x512x512 .bf16 := View.ld x4 (Rect.unit (s := S9x512x512) ![n, 0, 0] S1x512x512.size inb)

/-- The products of the fifteen units, summed, are the gradient of the normalised rows. -/
theorem chain_apply (q k v : Vec Ideal S512x512 .bf16) (hq : q = x5) (hk : k = x6) (hv : v = x7) (r : Fin 512) (d : Fin 1024) :
    k0_pay8 (k0_pay6 (k0_pay5 (k0_pay3 (lp x3 0 (by decide)) (lw x2 0 (by decide)) (lg x4 0 (by decide)) (lw x2 512 (by decide)) (lp x3 1 (by decide)) (lw x2 1024 (by decide)))
        (k0_pay4 (lp x3 2 (by decide)) (lw x2 1536 (by decide))) (lg x4 1 (by decide)) (lw x2 2048 (by decide)) q (lw x2 2560 (by decide)) k (lw x2 3072 (by decide)) v (lw x2 3584 (by decide))
        (lg x4 2 (by decide)) (lw x2 4096 (by decide)))
      (lg x4 3 (by decide)) (lw x2 4608 (by decide)) (lg x4 4 (by decide)) (lw x2 5120 (by decide)) (lg x4 5 (by decide)) (lw x2 5632 (by decide)) (lg x4 6 (by decide)) (lw x2 6144 (by decide)))
      (k0_pay7 (lg x4 7 (by decide))) (lw x2 6656 (by decide)) (lg x4 8 (by decide)) (lw x2 7168 (by decide)) (ix2 r d) = bdh x2 x3 x4 x5 x6 x7 r d := by
  subst hq hk hv
  have hw : ∀ (u n : ℕ) (hu : u < 15) (hn : n = 512 * u) (inb : ∀ a, (![0, 0, n] : Fin 3 → ℕ) a + S1x1024x512.size a ≤ S1x1024x7680.size a) (e : Fin 512), lw x2 n inb (ix3 0 d e) = x2 (ix3 0 d ⟨512 * u + e.val, by omega⟩) := by
    intro u n hu hn inb e
    subst hn
    exact Fwd.ld_cols x2 inb d e (by omega)
  have hp : ∀ (n : ℕ) (hn : n < 3) (inb : ∀ a, (![n, 0, 0] : Fin 3 → ℕ) a + S1x512x512.size a ≤ S3x512x512.size a) (e : Fin 512), lp x3 n inb (ix3 0 r e) = x3 (ix3 ⟨n, hn⟩ r e) :=
    fun n hn inb e => Wgrad.ld_slab3 x3 hn inb r e
  have hg : ∀ (n : ℕ) (hn : n < 9) (inb : ∀ a, (![n, 0, 0] : Fin 3 → ℕ) a + S1x512x512.size a ≤ S9x512x512.size a) (e : Fin 512), lg x4 n inb (ix3 0 r e) = x4 (ix3 ⟨n, hn⟩ r e) :=
    fun n hn inb e => Wgrad.ld_slab9 x4 hn inb r e
  rw [pay8_apply, pay6_apply, pay5_apply, pay4_apply, pay3_apply]
  unfold bdh
  rw [dh_chain]
  unfold part
  simp only [hp 0 (by norm_num), hp 1 (by norm_num), hp 2 (by norm_num), hg 0 (by norm_num), hg 1 (by norm_num), hg 2 (by norm_num), hg 3 (by norm_num), hg 4 (by norm_num), hg 5 (by norm_num),
    hg 6 (by norm_num), hg 7 (by norm_num), hg 8 (by norm_num), hw 0 0 (by norm_num) rfl, hw 1 512 (by norm_num) rfl, hw 2 1024 (by norm_num) rfl, hw 3 1536 (by norm_num) rfl, hw 4 2048 (by norm_num) rfl,
    hw 5 2560 (by norm_num) rfl, hw 6 3072 (by norm_num) rfl, hw 7 3584 (by norm_num) rfl, hw 8 4096 (by norm_num) rfl, hw 9 4608 (by norm_num) rfl, hw 10 5120 (by norm_num) rfl, hw 11 5632 (by norm_num) rfl,
    hw 12 6144 (by norm_num) rfl, hw 13 6656 (by norm_num) rfl, hw 14 7168 (by norm_num) rfl]
  rfl

end Cert.Dx
end
-- ==== Proof.DxOut.lean ====
module

public import proofs.«01_k».proof.Proof.DxBlock

@[expose] public section

set_option maxRecDepth 65536

noncomputable section

namespace Cert.Dx

open Cert.Kernel4Ideal Cert.Kernel4Ideal.Gen
open Idealize.ShloMosaic Idealize.ShloMosaic.TcCoe Idealize.SL.Sem

/-! ## What a point leaves in its two blocks -/

section
variable (x0 : Vec Ideal S512x1024 .f32) (x1 : Vec Ideal S1x1024 .f32) (x2 : Vec Ideal S1x1024x7680 .bf16) (x3 : Vec Ideal S3x512x512 .bf16) (x4 : Vec Ideal S9x512x512 .bf16)
  (x5 x6 x7 : Vec Ideal S512x512 .bf16) (x8 : Vec Ideal S512x1024 .f32)

/-- The units added so far, before the last two. -/
abbrev acc (q k v : Vec Ideal S512x512 .bf16) : FVec Ideal S512x1024 .f32 :=
  (k0_pay6 (k0_pay5 (k0_pay3 (lp x3 0 (by decide)) (lw x2 0 (by decide)) (lg x4 0 (by decide)) (lw x2 512 (by decide)) (lp x3 1 (by decide)) (lw x2 1024 (by decide)))
        (k0_pay4 (lp x3 2 (by decide)) (lw x2 1536 (by decide))) (lg x4 1 (by decide)) (lw x2 2048 (by decide)) q (lw x2 2560 (by decide)) k (lw x2 3072 (by decide)) v (lw x2 3584 (by decide))
        (lg x4 2 (by decide)) (lw x2 4096 (by decide)))
      (lg x4 3 (by decide)) (lw x2 4608 (by decide)) (lg x4 4 (by decide)) (lw x2 5120 (by decide)) (lg x4 5 (by decide)) (lw x2 5632 (by decide)) (lg x4 6 (by decide)) (lw x2 6144 (by decide)))

/-- The whole block's store into the first result is `bdx`. -/
theorem out_point (x' o' : Vec Ideal S512x1024 .f32) (g' : Vec Ideal S1x1024 .f32) (q k v : Vec Ideal S512x512 .bf16) (hx : x' = x0) (ho : o' = x8) (hg : g' = x1) (hq : q = x5) (hk : k = x6) (hv : v = x7)
    (inb : ∀ a, (![0, 0] : Fin 2 → ℕ) a + S512x1024.size a ≤ S512x1024.size a) (j : S512x1024.Idx) :
    k0_pay1 (k0_pay9 x') (k0_pay10 x') (k0_pay12 (acc x2 x3 x4 q k v) (k0_pay7 (lg x4 7 (by decide))) (lw x2 6656 (by decide)) (lg x4 8 (by decide)) (lw x2 7168 (by decide)) g') o'
        (k0_pay13 (acc x2 x3 x4 q k v) (k0_pay7 (lg x4 7 (by decide))) (lw x2 6656 (by decide)) (lg x4 8 (by decide)) (lw x2 7168 (by decide)) x' g') (Scalar.ofBits .f32 0x44800000#32) j
      = bdx x0 x1 x2 x3 x4 x5 x6 x7 x8 ((Rect.unit (s := S512x1024) ![0, 0] S512x1024.size inb).emb j) := by
  subst hx ho hg
  obtain ⟨r, d, rfl⟩ : ∃ (r : Fin 512) (d : Fin 1024), j = ix2 r d := ⟨j 0, j 1, by funext a; match a with | ⟨0, _⟩ => rfl | ⟨1, _⟩ => rfl⟩
  have he : (Rect.unit (s := S512x1024) ![0, 0] S512x1024.size inb).emb (ix2 r d) = ix2 r d := by
    funext a
    match a with
    | ⟨0, _⟩ => exact Fin.ext (by show 0 + 1 * r.val = r.val; omega)
    | ⟨1, _⟩ => exact Fin.ext (by show 0 + 1 * d.val = d.val; omega)
  rw [he]
  exact out_apply _ _ _ _ _ x' g' o' _ (chain_apply x2 x3 x4 x5 x6 x7 q k v hq hk hv) r d

/-- The store into the second result is `bdg`. -/
theorem gain_point (x' : Vec Ideal S512x1024 .f32) (w w' : Vec Ideal S1x1024 .f32) (q k v : Vec Ideal S512x512 .bf16) (hx : x' = x0) (hw : w' = w) (hq : q = x5) (hk : k = x6) (hv : v = x7)
    (inb : ∀ a, (![0, 0] : Fin 2 → ℕ) a + S1x1024.size a ≤ S1x1024.size a) (j : S1x1024.Idx) :
    k0_pay11 (acc x2 x3 x4 q k v) (k0_pay7 (lg x4 7 (by decide))) (lw x2 6656 (by decide)) (lg x4 8 (by decide)) (lw x2 7168 (by decide)) x' w' j
      = bdg x0 x2 x3 x4 x5 x6 x7 w ((Rect.unit (s := S1x1024) ![0, 0] S1x1024.size inb).emb j) := by
  subst hx hw
  obtain ⟨i, d, rfl⟩ : ∃ (i : Fin 1) (d : Fin 1024), j = ix2 i d := ⟨j 0, j 1, by funext a; match a with | ⟨0, _⟩ => rfl | ⟨1, _⟩ => rfl⟩
  obtain rfl : i = 0 := Subsingleton.elim _ _
  have he : (Rect.unit (s := S1x1024) ![0, 0] S1x1024.size inb).emb (ix2 (0 : Fin 1) d) = ix2 0 d := by
    funext a
    match a with
    | ⟨0, _⟩ => rfl
    | ⟨1, _⟩ => exact Fin.ext (by show 0 + 1 * d.val = d.val; omega)
  rw [he]
  exact gain_apply _ _ _ _ _ x' w' _ (chain_apply x2 x3 x4 x5 x6 x7 q k v hq hk hv) d

end

/-- The first point's block of the first result. -/
theorem out_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x7680 .bf16) (harg3 : arg3.IsWhole) (arg4 : Memref sig .tc .vmem S3x512x512 .bf16) (harg4 : arg4.IsWhole) (arg5 : Memref sig .tc .vmem S9x512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (hc0 : cond0_0 i)
    (x0 : Vec Ideal S512x1024 .f32) (x1 : Vec Ideal S1x1024 .f32) (x2 : Vec Ideal S1x1024x7680 .bf16) (x3 : Vec Ideal S3x512x512 .bf16) (x4 : Vec Ideal S9x512x512 .bf16) (x5 : Vec Ideal S512x512 .bf16) (x6 : Vec Ideal S512x512 .bf16) (x7 : Vec Ideal S512x512 .bf16) (x8 : Vec Ideal S512x1024 .f32) (y : S512x1024.Idx) :
    out0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 y = bdx x0 x1 x2 x3 x4 x5 x6 x7 x8 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  refine Wgrad.canon_of_piecesOf (e := .f32) (bdx x0 x1 x2 x3 x4 x5 x6 x7 x8) _ ?_ y (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7 x8 y)
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  exact ⟨out_point x0 x1 x2 x3 x4 x5 x6 x7 x8 _ _ _ _ _ _ (View.ld_unit_lit _ _ (by decide)) (View.ld_unit_lit _ _ (by decide)) (View.ld_unit_lit _ _ (by decide)) (View.ld_unit_lit _ _ (by decide)) (View.ld_unit_lit _ _ (by decide)) (View.ld_unit_lit _ _ (by decide)) inb_S512x1024_S512x1024_0_0, trivial⟩

/-- The first point leaves its own rows' terms in the second result, over zeros. -/
theorem gain_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x7680 .bf16) (harg3 : arg3.IsWhole) (arg4 : Memref sig .tc .vmem S3x512x512 .bf16) (harg4 : arg4.IsWhole) (arg5 : Memref sig .tc .vmem S9x512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (hc0 : cond0_0 i)
    (x0 : Vec Ideal S512x1024 .f32) (x1 : Vec Ideal S1x1024 .f32) (x2 : Vec Ideal S1x1024x7680 .bf16) (x3 : Vec Ideal S3x512x512 .bf16) (x4 : Vec Ideal S9x512x512 .bf16) (x5 : Vec Ideal S512x512 .bf16) (x6 : Vec Ideal S512x512 .bf16) (x7 : Vec Ideal S512x512 .bf16) (x8 : Vec Ideal S512x1024 .f32) (y : S1x1024.Idx) :
    out0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8 y = bdg x0 x2 x3 x4 x5 x6 x7 (k0_pay2 (F := Ideal)) y := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  refine View.canon_append_of_piecesOf (Val := Elt Ideal) (e := .f32) (bdg x0 x2 x3 x4 x5 x6 x7 (k0_pay2 (F := Ideal))) [_] [_] ?_ y ?_
  · sl_unfold_words
    simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread]
    exact ⟨gain_point x0 x2 x3 x4 x5 x6 x7 _ (k0_pay2 (F := Ideal)) _ _ _ _ (View.ld_unit_lit _ _ (by decide)) (View.ld_unit_lit _ _ (by decide)) (View.ld_unit_lit _ _ (by decide)) (View.ld_unit_lit _ _ (by decide)) (View.ld_unit_lit _ _ (by decide)) inb_S1x1024_S1x1024_0_0, trivial⟩
  · refine View.cover_of_tiledL (s := S1x1024) _ S1x1024.size ?_ y
    sl_kernel_rfl

/-- A later point's block of the first result. -/
theorem out_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x7680 .bf16) (harg3 : arg3.IsWhole) (arg4 : Memref sig .tc .vmem S3x512x512 .bf16) (harg4 : arg4.IsWhole) (arg5 : Memref sig .tc .vmem S9x512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (hc0 : ¬cond0_0 i)
    (x0 : Vec Ideal S512x1024 .f32) (x1 : Vec Ideal S1x1024 .f32) (x2 : Vec Ideal S1x1024x7680 .bf16) (x3 : Vec Ideal S3x512x512 .bf16) (x4 : Vec Ideal S9x512x512 .bf16) (x5 : Vec Ideal S512x512 .bf16) (x6 : Vec Ideal S512x512 .bf16) (x7 : Vec Ideal S512x512 .bf16) (x8 : Vec Ideal S512x1024 .f32) (xo10 : Vec Ideal S1x1024 .f32) (y : S512x1024.Idx) :
    out0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 y = bdx x0 x1 x2 x3 x4 x5 x6 x7 x8 y := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  refine Wgrad.canon_of_piecesOf (e := .f32) (bdx x0 x1 x2 x3 x4 x5 x6 x7 x8) _ ?_ y (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 y)
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  exact ⟨out_point x0 x1 x2 x3 x4 x5 x6 x7 x8 _ _ _ _ _ _ (View.ld_unit_lit _ _ (by decide)) (View.ld_unit_lit _ _ (by decide)) (View.ld_unit_lit _ _ (by decide)) (View.ld_unit_lit _ _ (by decide)) (View.ld_unit_lit _ _ (by decide)) (View.ld_unit_lit _ _ (by decide)) inb_S512x1024_S512x1024_0_0, trivial⟩

/-- A later point adds its rows' terms to what the second result held. -/
theorem gain_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x7680 .bf16) (harg3 : arg3.IsWhole) (arg4 : Memref sig .tc .vmem S3x512x512 .bf16) (harg4 : arg4.IsWhole) (arg5 : Memref sig .tc .vmem S9x512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S1x1024 .f32) (harg11 : arg11.IsWhole) (hc0 : ¬cond0_0 i)
    (x0 : Vec Ideal S512x1024 .f32) (x1 : Vec Ideal S1x1024 .f32) (x2 : Vec Ideal S1x1024x7680 .bf16) (x3 : Vec Ideal S3x512x512 .bf16) (x4 : Vec Ideal S9x512x512 .bf16) (x5 : Vec Ideal S512x512 .bf16) (x6 : Vec Ideal S512x512 .bf16) (x7 : Vec Ideal S512x512 .bf16) (x8 : Vec Ideal S512x1024 .f32) (xo10 : Vec Ideal S1x1024 .f32) (y : S1x1024.Idx) :
    out0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 y = bdg x0 x2 x3 x4 x5 x6 x7 xo10 y := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10)]
  unfold kernelRun0_B
  dsimp only
  refine Wgrad.canon_of_piecesOf (e := .f32) (bdg x0 x2 x3 x4 x5 x6 x7 xo10) _ ?_ y (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 x8 xo10 y)
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  exact ⟨gain_point x0 x2 x3 x4 x5 x6 x7 _ xo10 _ _ _ _ (View.ld_unit_lit _ _ (by decide)) (View.ld_unit_lit _ _ (by decide)) (View.ld_unit_lit _ _ (by decide)) (View.ld_unit_lit _ _ (by decide)) (View.ld_unit_lit _ _ (by decide)) inb_S1x1024_S1x1024_0_0, trivial⟩

end Cert.Dx
end
-- ==== Proof.DxSum.lean ====
module

public import proofs.«01_k».proof.Proof.DxOut
public import proofs.«01_k».proof.Proof.Gen.Kernel4Ideal.Value
public import Idealize.ShloMosaic.Lib.Pipeline.ValueKit

@[expose] public section

set_option maxRecDepth 65536

noncomputable section

namespace Cert.Dx

open Cert.Kernel4Ideal Cert.Kernel4Ideal.Gen
open Idealize.ShloMosaic Idealize.ShloMosaic.TcCoe Idealize.SL.Sem

/-! ## The arrays that the grid leaves -/

/-- The grid has 16 points. -/
theorem t_lt (t : Fin cfg0.N) : t.val < 16 := t.isLt

/-- Which block of each array a point takes. -/
theorem idx : ∀ t : Fin cfg0.N, win0_0.index t = ![t.val, 0] ∧ win0_1.index t = ![0, 0] ∧ win0_2.index t = ![1, 0, 0] ∧ win0_3.index t = ![0, t.val, 0] ∧ win0_4.index t = ![0, t.val, 0]
    ∧ win0_5.index t = ![t.val, 0] ∧ win0_6.index t = ![t.val, 0] ∧ win0_7.index t = ![t.val, 0] ∧ win0_8.index t = ![t.val, 0] ∧ win0_9.index t = ![t.val, 0] ∧ win0_10.index t = ![0, 0] :=
  (by decide +kernel : ∀ t : Fin grid0.N, _)

/-- Only the last point writes the second result back. -/
theorem last_flush : ∀ t : Fin cfg0.N, (cfg0.win 10).flush t = true → t.val = 15 :=
  (by decide +kernel : ∀ t : Fin grid0.N, _)

variable (m : (ℓ : Loc nD τ sig) → Buf (Elt Ideal) ℓ) (c : Dev nD)

/-- The arguments' entries: `x`, the gain, the weights of the second layer, the branches' inputs, the gates, q, k, v, and what came by the other way. -/
abbrev ax (t : Fin 8192) (d : Fin 1024) : EReal := (m ((c.tc : Thread nD τ).loc main_arg0) : Vec Ideal S8192x1024 .f32) (ix2 t d)
abbrev ag (d : Fin 1024) : EReal := (m ((c.tc : Thread nD τ).loc main_arg1) : Vec Ideal S1x1024 .f32) (ix2 0 d)
abbrev aw (d : Fin 1024) (j : Fin 7680) : EReal := (m ((c.tc : Thread nD τ).loc main_arg2) : Vec Ideal S2x1024x7680 .bf16) (ix3 1 d j)
abbrev ap (i : Fin 3) (t : Fin 8192) (e : Fin 512) : EReal := (m ((c.tc : Thread nD τ).loc main_arg3) : Vec Ideal S3x8192x512 .bf16) (ix3 i t e)
abbrev asg (i : Fin 9) (t : Fin 8192) (e : Fin 512) : EReal := (m ((c.tc : Thread nD τ).loc main_arg4) : Vec Ideal S9x8192x512 .bf16) (ix3 i t e)
abbrev aq (t : Fin 8192) (e : Fin 512) : EReal := (m ((c.tc : Thread nD τ).loc main_arg5) : Vec Ideal S8192x512 .bf16) (ix2 t e)
abbrev ak (t : Fin 8192) (e : Fin 512) : EReal := (m ((c.tc : Thread nD τ).loc main_arg6) : Vec Ideal S8192x512 .bf16) (ix2 t e)
abbrev av (t : Fin 8192) (e : Fin 512) : EReal := (m ((c.tc : Thread nD τ).loc main_arg7) : Vec Ideal S8192x512 .bf16) (ix2 t e)
abbrev ao (t : Fin 8192) (d : Fin 1024) : EReal := (m ((c.tc : Thread nD τ).loc main_arg8) : Vec Ideal S8192x1024 .f32) (ix2 t d)

/-- The gradient of the normalised rows, out of the arguments. -/
def adh : Fin 8192 → Fin 1024 → EReal := dh (Wgrad.unit (ap m c) (asg m c) (aq m c) (ak m c) (av m c)) (aw m c)

/-- The row of the arrays that is row `r` of point `t`'s blocks. -/
def row (t : Fin cfg0.N) (r : Fin 512) : Fin 8192 := ⟨512 * t.val + r.val, by have := t_lt t; omega⟩

variable (t : Fin cfg0.N)

/-- The entries of a point's blocks are the arguments' own, at the point's rows. -/
theorem x_read (r : Fin 512) (d : Fin 1024) : (iblk m c 0 t : Vec Ideal S512x1024 .f32) (ix2 r d) = ax m c (row t r) d := by
  show Gen.V m c main_arg0 ((win0_0.blk t).view.emb (ix2 r d)) = _
  rw [Gen.V_main_arg0]
  blk_ext [idx t, row]

theorem g_read (d : Fin 1024) : (iblk m c 1 t : Vec Ideal S1x1024 .f32) (ix2 0 d) = ag m c d := by
  show Gen.V m c main_arg1 ((win0_1.blk t).view.emb (ix2 0 d)) = _
  rw [Gen.V_main_arg1]
  blk_ext [idx t]

theorem w_read (d : Fin 1024) (j : Fin 7680) : (iblk m c 2 t : Vec Ideal S1x1024x7680 .bf16) (ix3 0 d j) = aw m c d j := by
  show Gen.V m c main_arg2 ((win0_2.blk t).view.emb (ix3 0 d j)) = _
  rw [Gen.V_main_arg2]
  blk_ext [idx t]

theorem p_read (i : Fin 3) (r e : Fin 512) : (iblk m c 3 t : Vec Ideal S3x512x512 .bf16) (ix3 i r e) = ap m c i (row t r) e := by
  show Gen.V m c main_arg3 ((win0_3.blk t).view.emb (ix3 i r e)) = _
  rw [Gen.V_main_arg3]
  blk_ext [idx t, row]

theorem s_read (i : Fin 9) (r e : Fin 512) : (iblk m c 4 t : Vec Ideal S9x512x512 .bf16) (ix3 i r e) = asg m c i (row t r) e := by
  show Gen.V m c main_arg4 ((win0_4.blk t).view.emb (ix3 i r e)) = _
  rw [Gen.V_main_arg4]
  blk_ext [idx t, row]

theorem q_read (r e : Fin 512) : (iblk m c 5 t : Vec Ideal S512x512 .bf16) (ix2 r e) = aq m c (row t r) e := by
  show Gen.V m c main_arg5 ((win0_5.blk t).view.emb (ix2 r e)) = _
  rw [Gen.V_main_arg5]
  blk_ext [idx t, row]

theorem k_read (r e : Fin 512) : (iblk m c 6 t : Vec Ideal S512x512 .bf16) (ix2 r e) = ak m c (row t r) e := by
  show Gen.V m c main_arg6 ((win0_6.blk t).view.emb (ix2 r e)) = _
  rw [Gen.V_main_arg6]
  blk_ext [idx t, row]

theorem v_read (r e : Fin 512) : (iblk m c 7 t : Vec Ideal S512x512 .bf16) (ix2 r e) = av m c (row t r) e := by
  show Gen.V m c main_arg7 ((win0_7.blk t).view.emb (ix2 r e)) = _
  rw [Gen.V_main_arg7]
  blk_ext [idx t, row]

theorem o_read (r : Fin 512) (d : Fin 1024) : (iblk m c 8 t : Vec Ideal S512x1024 .f32) (ix2 r d) = ao m c (row t r) d := by
  show Gen.V m c main_arg8 ((win0_8.blk t).view.emb (ix2 r d)) = _
  rw [Gen.V_main_arg8]
  blk_ext [idx t, row]

/-- A point's gradient of the normalised rows is the whole one at the point's rows. -/
theorem bdh_eq (r : Fin 512) : bdh (iblk m c 2 t) (iblk m c 3 t) (iblk m c 4 t) (iblk m c 5 t) (iblk m c 6 t) (iblk m c 7 t) r = adh m c (row t r) := by
  unfold bdh adh
  simp only [w_read, p_read, s_read, q_read, k_read, v_read]
  funext d
  unfold dh
  exact Finset.sum_congr rfl fun j _ => congrArg (· * _) (Wgrad.unit_rows (ap m c) (asg m c) (aq m c) (ak m c) (av m c) (row t) _ r _)

/-- The first result. -/
def dxArr (f : Fin 8192 → Fin 1024 → EReal) : Vec Ideal S8192x1024 .f32 := fun y => f (y 0) (y 1)

/-- The second result. -/
def dgArr (f : Fin 1024 → EReal) : Vec Ideal S1x1024 .f32 := fun y => f (y 1)

/-- The gradient of `x`, out of the arguments. -/
def adx (t : Fin 8192) (d : Fin 1024) : EReal := dx (ax m c t) (fun d => adh m c t d * ag m c d) (ao m c t) d

/-- A row's term of the gain's gradient, out of the arguments. -/
def adg (d : Fin 1024) (t : Fin 8192) : EReal := dgterm (ax m c t) (adh m c t) d

theorem bdx_eq (r : Fin 512) (d : Fin 1024) : bdx (iblk m c 0 t) (iblk m c 1 t) (iblk m c 2 t) (iblk m c 3 t) (iblk m c 4 t) (iblk m c 5 t) (iblk m c 6 t) (iblk m c 7 t) (iblk m c 8 t) (ix2 r d) = adx m c (row t r) d := by
  unfold bdx adx
  show dx (fun d' => (iblk m c 0 t : Vec Ideal S512x1024 .f32) (ix2 r d')) (fun d' => bdh (iblk m c 2 t) (iblk m c 3 t) (iblk m c 4 t) (iblk m c 5 t) (iblk m c 6 t) (iblk m c 7 t) r d' * (iblk m c 1 t : Vec Ideal S1x1024 .f32) (ix2 0 d')) (fun d' => (iblk m c 8 t : Vec Ideal S512x1024 .f32) (ix2 r d')) d = _
  rw [bdh_eq]
  simp only [x_read, g_read, o_read]

/-- What a point leaves in its block of the first result. -/
theorem fst_eq (y : S512x1024.Idx) : (outsAt0 m c t.val t.isLt).1 y = bdx (iblk m c 0 t) (iblk m c 1 t) (iblk m c 2 t) (iblk m c 3 t) (iblk m c 4 t) (iblk m c 5 t) (iblk m c 6 t) (iblk m c 7 t) (iblk m c 8 t) y := by
  by_cases h0 : t.val % 16 = 0
  · rw [outsAt0_A m c t h0]
    dsimp only
    exact out_A ..
  · rw [outsAt0_B m c t h0]
    dsimp only
    exact out_B ..

/-- The entries of a point's block of the first result are at the point's rows. -/
theorem emb9 (f : Fin 8192 → Fin 1024 → EReal) (r : Fin 512) (d : Fin 1024) : dxArr f ((win0_9.blk t).view.emb (ix2 r d)) = f (row t r) d := by
  have h : (dxArr f) ((win0_9.blk t).view.emb (ix2 r d)) = dxArr f (ix2 (row t r) d) := by
    blk_ext [idx t, row]
  exact h

/-- The one block of the second result is the whole of it. -/
theorem emb10 (f : Fin 1024 → EReal) (d : Fin 1024) : dgArr f ((win0_10.blk t).view.emb (ix2 0 d)) = f d := by
  have h : (dgArr f) ((win0_10.blk t).view.emb (ix2 0 d)) = dgArr f (ix2 0 d) := by
    blk_ext [idx t]
  exact h

/-- The first result after the grid. -/
theorem arr9_eq : (dats m 0 c).arrAt 9 cfg0.N = dxArr (adx m c) := by
  refine (dats m 0 c).arrAt_eq_of_covers 9 _ (by decide +kernel) fun t _ y => ?_
  blk_simp
  rw [after0_9]
  obtain ⟨r, d, rfl⟩ : ∃ (r : Fin 512) (d : Fin 1024), y = ix2 r d := ⟨y 0, y 1, by funext a; match a with | ⟨0, _⟩ => rfl | ⟨1, _⟩ => rfl⟩
  exact (fst_eq m c t (ix2 r d)).trans ((bdx_eq m c t r d).trans (emb9 t _ r d).symm)

/-! ## The sum over the grid -/

/-- The terms of the gain's gradient, indexed by a natural number. -/
def termN (d : Fin 1024) (t : ℕ) : EReal := if h : t < 8192 then adg m c d ⟨t, h⟩ else 0

/-- A point brings the sum over the rows before its block to the sum over the rows up to its end. -/
theorem step_eq (w : Vec Ideal S1x1024 .f32) (d : Fin 1024) (hw : w (ix2 0 d) = ∑ i ∈ Finset.range (512 * t.val), termN m c d i) :
    bdg (iblk m c 0 t) (iblk m c 2 t) (iblk m c 3 t) (iblk m c 4 t) (iblk m c 5 t) (iblk m c 6 t) (iblk m c 7 t) w (ix2 0 d) = ∑ i ∈ Finset.range (512 * (t.val + 1)), termN m c d i := by
  unfold bdg
  rw [hw, mul_add, mul_one, Finset.sum_range_add, Finset.sum_range (n := 512)]
  refine congrArg (_ + ·) (Finset.sum_congr rfl fun r _ => ?_)
  unfold termN
  rw [dif_pos (show 512 * t.val + r.val < 8192 from (row t r).isLt), bdh_eq]
  simp only [x_read]
  rfl

/-- After point `n` the block holds the sums over the rows up to the end of the point's blocks. -/
theorem outs_eq (d : Fin 1024) : ∀ (n : ℕ) (h : n < cfg0.N), (outsAt0 m c n h).2 (ix2 0 d) = ∑ i ∈ Finset.range (512 * (n + 1)), termN m c d i
  | 0, h => by
    rw [outsAt0_A m c ⟨0, h⟩ rfl]
    dsimp only
    refine (gain_A ..).trans (step_eq m c ⟨0, h⟩ _ d ?_)
    exact (pay2_apply d).trans (by simp)
  | n + 1, h => by
    have hN : n + 1 < 16 := t_lt ⟨n + 1, h⟩
    have h0 : ¬(⟨n + 1, h⟩ : Fin cfg0.N).val % 16 = 0 := by dsimp only; omega
    rw [outsAt0_B m c ⟨n + 1, h⟩ h0]
    dsimp only
    exact (gain_B ..).trans (step_eq m c ⟨n + 1, h⟩ _ d (outs_eq d n _))

/-- The second result after the grid. -/
theorem arr10_eq : (dats m 0 c).arrAt 10 cfg0.N = dgArr (fun d => ∑ t, adg m c d t) := by
  refine (dats m 0 c).arrAt_eq_of_covers 10 _ (by decide +kernel) fun t hf y => ?_
  have h15 := last_flush t hf
  blk_simp
  rw [after0_10]
  obtain ⟨i, d, rfl⟩ : ∃ (i : Fin 1) (d : Fin 1024), y = ix2 i d := ⟨y 0, y 1, by funext a; match a with | ⟨0, _⟩ => rfl | ⟨1, _⟩ => rfl⟩
  obtain rfl : i = 0 := Subsingleton.elim _ _
  refine (outs_eq m c d t.val t.isLt).trans (Eq.trans ?_ (emb10 t _ d).symm)
  rw [h15]
  refine (Finset.sum_range _).trans ?_
  exact Finset.sum_congr rfl fun t _ => dif_pos t.isLt

end Cert.Dx
end
-- ==== Proof.DxAlg.lean ====
module

public import proofs.«01_k».proof.Proof.DxSpec
public import Idealize.ShloMosaic.Lib.IdealHost

@[expose] public section

noncomputable section

namespace Cert.Dx

open Idealize.ShloMosaic

/-! ## The derivative of a row's normalisation, in its two forms -/

/-- The constants: the row's length, the small constant under the root, and the half of the root's derivative. -/
theorem len_eq : Ideal.ofBits FTy.f32 1149239296#32 = ((1024 : ℝ) : EReal) := by
  simp [Ideal.ofBits, Ideal.ieee, -EReal.coe_mul]; norm_num

theorem eps_eq : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

theorem half_eq : Ideal.ofBits FTy.f32 0xBF000000#32 = ((-(1 / 2) : ℝ) : EReal) := by
  simp [Ideal.ofBits, Ideal.ieee, -EReal.coe_mul]; norm_num

/-- A product of a number with itself is not negative. -/
theorem sq_nonneg (a : EReal) : 0 ≤ a * a := by
  induction a with
  | bot => simp
  | top => simp
  | coe a => rw [← EReal.coe_mul]; exact_mod_cast mul_self_nonneg a

/-- The mean square is the infinity or a positive real. -/
theorem ms_cases (x : Fin 1024 → EReal) : ms x = ⊤ ∨ ∃ s : ℝ, 0 < s ∧ ms x = (s : EReal) := by
  obtain ⟨e, he, hee⟩ := eps_eq
  have h1 : 0 ≤ ∑ i, x i * x i := Finset.sum_nonneg fun i _ => sq_nonneg (x i)
  have h2 : ms x = (∑ i, x i * x i) * ((1 / 1024 : ℝ) : EReal) + (e : EReal) := by
    unfold ms
    rw [len_eq, hee, Ideal.div_coe (by norm_num)]
  rw [h2]
  generalize (∑ i, x i * x i) = S at h1
  induction S with
  | bot => simp at h1
  | top => left; rw [EReal.top_mul_coe_of_pos (by norm_num)]; simp
  | coe S =>
    right
    have h3 : (0 : ℝ) ≤ S := by exact_mod_cast h1
    exact ⟨S * (1 / 1024) + e, by positivity, by push_cast; rfl⟩

/-- A real factor that is not negative moves into a sum. -/
theorem mul_sum_real {n : ℕ} (r : ℝ) (hr : 0 ≤ r) (f : Fin n → EReal) : (r : EReal) * ∑ i, f i = ∑ i, (r : EReal) * f i := by
  have h : ∀ s : Finset (Fin n), (r : EReal) * ∑ i ∈ s, f i = ∑ i ∈ s, (r : EReal) * f i := fun s => by
    induction s using Finset.cons_induction with
    | empty => simp
    | cons a s ha ih => rw [Finset.sum_cons, Finset.sum_cons, EReal.left_distrib_of_nonneg_of_ne_top (by exact_mod_cast hr) (EReal.coe_ne_top r), ih]
  exact h _

/-- The gradient of a row as the reference takes it: the root's derivative apart, and the square's as the product rule gives it. -/
theorem dx_eq (x a o : Fin 1024 → EReal) (d : Fin 1024) :
    dx x a o d
      = o d + (a d * Ideal.rsqrt (ms x)
        + x d * Ideal.div ((∑ i, x i * a i) * (Ideal.ofBits FTy.f32 0xBF000000#32 * Ideal.div (Ideal.rsqrt (ms x)) (ms x))) (Ideal.ofBits FTy.f32 1149239296#32)
        + Ideal.div ((∑ i, x i * a i) * (Ideal.ofBits FTy.f32 0xBF000000#32 * Ideal.div (Ideal.rsqrt (ms x)) (ms x))) (Ideal.ofBits FTy.f32 1149239296#32) * x d) := by
  unfold dx
  refine congrArg (o d + ·) ?_
  rw [len_eq, half_eq, Ideal.div_coe (by norm_num), Ideal.div_coe (by norm_num)]
  rcases ms_cases x with h | ⟨s, hs, h⟩
  · rw [h]
    simp [Ideal.div]
  · rw [h, Ideal.rsqrt_coe, if_neg (not_lt.2 hs.le), if_neg hs.ne', Ideal.div_coe hs.ne']
    obtain ⟨r, hr, hrs⟩ : ∃ r : ℝ, 0 < r ∧ (Real.sqrt s)⁻¹ = r := ⟨_, inv_pos.2 (Real.sqrt_pos.2 hs), rfl⟩
    have hq : 1 / s = r * r := by
      rw [← hrs, ← mul_inv, Real.mul_self_sqrt hs.le, one_div]
    rw [hrs, hq]
    have hT : (∑ i, a i * (x i * (r : EReal))) = (r : EReal) * ∑ i, x i * a i := by
      rw [mul_sum_real r hr.le]
      exact Finset.sum_congr rfl fun i _ => by rw [← mul_assoc, mul_comm (a i) (x i), mul_comm]
    rw [hT]
    generalize (∑ i, x i * a i) = T
    rw [sub_eq_add_neg, EReal.left_distrib_of_nonneg_of_ne_top (by exact_mod_cast hr.le) (EReal.coe_ne_top r), mul_comm (r : EReal) (a d), add_assoc]
    refine congrArg (a d * (r : EReal) + ·) ?_
    have hc : T * (((-(1 / 2) : ℝ) : EReal) * ((r : EReal) * ((r * r : ℝ) : EReal))) * ((1 / 1024 : ℝ) : EReal) = ((-(r * r * r / 2048) : ℝ) : EReal) * T := by
      rw [← EReal.coe_mul, ← EReal.coe_mul, mul_assoc, ← EReal.coe_mul, mul_comm]
      congr 2
      ring
    rw [hc, mul_comm _ (x d)]
    have hd : x d * (((-(r * r * r / 2048) : ℝ) : EReal) * T) = -(((r * r * r / 2048 : ℝ) : EReal) * (x d * T)) := by
      rw [EReal.coe_neg, neg_mul, mul_neg, ← mul_assoc, mul_comm (x d), mul_assoc]
    have hk : (r : EReal) * -(x d * (r : EReal) * ((r : EReal) * T * ((1 / 1024 : ℝ) : EReal))) = -(((r * r * r / 1024 : ℝ) : EReal) * (x d * T)) := by
      rw [mul_neg, show (r * r * r / 1024 : ℝ) = r * r * r * (1 / 1024) by ring, EReal.coe_mul, EReal.coe_mul, EReal.coe_mul]
      ac_rfl
    rw [hd, hk]
    generalize x d * T = P
    have h2 : ((r * r * r / 1024 : ℝ) : EReal) * P = ((r * r * r / 2048 : ℝ) : EReal) * P + ((r * r * r / 2048 : ℝ) : EReal) * P := by
      have h0 : (0 : EReal) ≤ ((r * r * r / 2048 : ℝ) : EReal) := by
        have : (0 : ℝ) ≤ r * r * r / 2048 := by positivity
        exact_mod_cast this
      rw [← EReal.right_distrib_of_nonneg h0 h0, ← EReal.coe_add]
      congr 2
      ring
    rw [h2]
    generalize ((r * r * r / 2048 : ℝ) : EReal) * P = A
    have h3 : A ≠ ⊥ ∨ A ≠ ⊤ := by
      induction A <;> simp
    rw [EReal.neg_add h3 h3.symm, sub_eq_add_neg]

end Cert.Dx
end
-- ==== Proof.DxRef.lean ====
module

public import proofs.«01_k».proof.Proof.DxAlg
public import proofs.«01_k».proof.Proof.WgRef
public import proofs.«01_k».proof.Proof.Gen.Reference4Ideal.Run
public import Idealize.ShloMosaic.Lib.Pointwise

@[expose] public section

set_option maxRecDepth 65536

noncomputable section

namespace Cert.Dx

open Cert.Reference4Ideal Cert.Reference4Ideal.Gen
open Idealize.ShloMosaic Idealize.ShloMosaic.TcCoe Idealize.SL.Sem

/-! ## What the reference computes -/

section
variable (x : FVec Ideal S8192x1024 .f32) (g : FVec Ideal S1x1024 .f32) (w : FVec Ideal S2x1024x7680 .bf16) (p : FVec Ideal S3x8192x512 .bf16) (s : FVec Ideal S9x8192x512 .bf16)
  (q k v : FVec Ideal S8192x512 .bf16) (o H : FVec Ideal S8192x1024 .f32)

/-- The projection's gradient, its units side by side. -/
def cot : Vec Ideal S8192x7680 .f32 :=
  ((concatenate S8192x7680 1 [⟨S8192x512, ((shapeCast S8192x512 (extractStridedSlice S1x8192x512 ![0, 0, 0] (extf .f32 p bitsLt_bf16_f32 : Vec Ideal S3x8192x512 .f32) slices_S3x8192x512_S1x8192x512_0_0_0) shapeCasts_S1x8192x512_S8192x512) : (⟨S8192x512, .f32⟩ : BufTy).Contents (Elt Ideal))⟩, ⟨S8192x512, ((shapeCast S8192x512 (extractStridedSlice S1x8192x512 ![0, 0, 0] (extf .f32 s bitsLt_bf16_f32 : Vec Ideal S9x8192x512 .f32) slices_S9x8192x512_S1x8192x512_0_0_0) shapeCasts_S1x8192x512_S8192x512) : (⟨S8192x512, .f32⟩ : BufTy).Contents (Elt Ideal))⟩, ⟨S8192x512, ((shapeCast S8192x512 (extractStridedSlice S1x8192x512 ![1, 0, 0] (extf .f32 p bitsLt_bf16_f32 : Vec Ideal S3x8192x512 .f32) slices_S3x8192x512_S1x8192x512_1_0_0) shapeCasts_S1x8192x512_S8192x512) : (⟨S8192x512, .f32⟩ : BufTy).Contents (Elt Ideal))⟩, ⟨S8192x512, ((shapeCast S8192x512 (extractStridedSlice S1x8192x512 ![2, 0, 0] (extf .f32 p bitsLt_bf16_f32 : Vec Ideal S3x8192x512 .f32) slices_S3x8192x512_S1x8192x512_2_0_0) shapeCasts_S1x8192x512_S8192x512) : (⟨S8192x512, .f32⟩ : BufTy).Contents (Elt Ideal))⟩, ⟨S8192x512, ((shapeCast S8192x512 (extractStridedSlice S1x8192x512 ![1, 0, 0] (extf .f32 s bitsLt_bf16_f32 : Vec Ideal S9x8192x512 .f32) slices_S9x8192x512_S1x8192x512_1_0_0) shapeCasts_S1x8192x512_S8192x512) : (⟨S8192x512, .f32⟩ : BufTy).Contents (Elt Ideal))⟩, ⟨S8192x512, ((extf .f32 q bitsLt_bf16_f32) : (⟨S8192x512, .f32⟩ : BufTy).Contents (Elt Ideal))⟩, ⟨S8192x512, ((extf .f32 k bitsLt_bf16_f32) : (⟨S8192x512, .f32⟩ : BufTy).Contents (Elt Ideal))⟩, ⟨S8192x512, ((extf .f32 v bitsLt_bf16_f32) : (⟨S8192x512, .f32⟩ : BufTy).Contents (Elt Ideal))⟩, ⟨S8192x512, ((shapeCast S8192x512 (extractStridedSlice S1x8192x512 ![2, 0, 0] (extf .f32 s bitsLt_bf16_f32 : Vec Ideal S9x8192x512 .f32) slices_S9x8192x512_S1x8192x512_2_0_0) shapeCasts_S1x8192x512_S8192x512) : (⟨S8192x512, .f32⟩ : BufTy).Contents (Elt Ideal))⟩, ⟨S8192x512, ((shapeCast S8192x512 (extractStridedSlice S1x8192x512 ![3, 0, 0] (extf .f32 s bitsLt_bf16_f32 : Vec Ideal S9x8192x512 .f32) slices_S9x8192x512_S1x8192x512_3_0_0) shapeCasts_S1x8192x512_S8192x512) : (⟨S8192x512, .f32⟩ : BufTy).Contents (Elt Ideal))⟩, ⟨S8192x512, ((shapeCast S8192x512 (extractStridedSlice S1x8192x512 ![4, 0, 0] (extf .f32 s bitsLt_bf16_f32 : Vec Ideal S9x8192x512 .f32) slices_S9x8192x512_S1x8192x512_4_0_0) shapeCasts_S1x8192x512_S8192x512) : (⟨S8192x512, .f32⟩ : BufTy).Contents (Elt Ideal))⟩, ⟨S8192x512, ((shapeCast S8192x512 (extractStridedSlice S1x8192x512 ![5, 0, 0] (extf .f32 s bitsLt_bf16_f32 : Vec Ideal S9x8192x512 .f32) slices_S9x8192x512_S1x8192x512_5_0_0) shapeCasts_S1x8192x512_S8192x512) : (⟨S8192x512, .f32⟩ : BufTy).Contents (Elt Ideal))⟩, ⟨S8192x512, ((shapeCast S8192x512 (extractStridedSlice S1x8192x512 ![6, 0, 0] (extf .f32 s bitsLt_bf16_f32 : Vec Ideal S9x8192x512 .f32) slices_S9x8192x512_S1x8192x512_6_0_0) shapeCasts_S1x8192x512_S8192x512) : (⟨S8192x512, .f32⟩ : BufTy).Contents (Elt Ideal))⟩, ⟨S8192x512, ((shapeCast S8192x512 (extractStridedSlice S1x8192x512 ![7, 0, 0] (extf .f32 s bitsLt_bf16_f32 : Vec Ideal S9x8192x512 .f32) slices_S9x8192x512_S1x8192x512_7_0_0) shapeCasts_S1x8192x512_S8192x512) : (⟨S8192x512, .f32⟩ : BufTy).Contents (Elt Ideal))⟩, ⟨S8192x512, ((shapeCast S8192x512 (extractStridedSlice S1x8192x512 ![8, 0, 0] (extf .f32 s bitsLt_bf16_f32 : Vec Ideal S9x8192x512 .f32) slices_S9x8192x512_S1x8192x512_8_0_0) shapeCasts_S1x8192x512_S8192x512) : (⟨S8192x512, .f32⟩ : BufTy).Contents (Elt Ideal))⟩] concatenates_S8192x512_S8192x512_S8192x512_S8192x512_S8192x512_S8192x512_S8192x512_S8192x512_S8192x512_S8192x512_S8192x512_S8192x512_S8192x512_S8192x512_S8192x512_S8192x7680_d1 : (⟨S8192x7680, .f32⟩ : BufTy).Contents (Elt Ideal)))

/-- An entry of it is the unit's. -/
theorem cot_apply (t : Fin 8192) (n : Fin 7680) : cot p s q k v (ix2 t n) = Wgrad.unit (fun i t e => p (ix3 i t e)) (fun i t e => s (ix3 i t e)) (fun t e => q (ix2 t e)) (fun t e => k (ix2 t e)) (fun t e => v (ix2 t e))
    (n.val / 512) t ⟨n.val % 512, Nat.mod_lt _ (by norm_num)⟩ := by
  unfold cot
  have hn := n.isLt
  refine (Wgrad.concat_eq (t := t) (u := ⟨n.val / 512, by omega⟩) (e := ⟨n.val % 512, Nat.mod_lt _ (by norm_num)⟩) (n := n) (hn := by dsimp only; omega) ..).trans ?_
  obtain ⟨u, hu⟩ : ∃ u : Fin 15, n.val / 512 = u.val := ⟨⟨n.val / 512, by omega⟩, rfl⟩
  generalize (⟨n.val % 512, Nat.mod_lt _ (by norm_num)⟩ : Fin 512) = e
  simp only [hu, Fin.eta]
  fin_cases u
  all_goals dsimp only [Matrix.cons_val, Wgrad.unit]
  all_goals pointwise []

/-- The gradient of the normalised rows. -/
def dhr : FVec Ideal S8192x1024 .f32 :=
  Host.dotGeneral (F := Ideal) (φ₁ := .f32) (φ₂ := .f32) dot_S8192x7680_S1024x7680_S8192x1024_1_1_0_0_n_n none (cot p s q k v) (extf .f32 (shapeCast S1024x7680 (extractStridedSlice S1x1024x7680 ![1, 0, 0] w slices_S2x1024x7680_S1x1024x7680_1_0_0) shapeCasts_S1x1024x7680_S1024x7680) bitsLt_bf16_f32)

/-- The product at an entry. -/
theorem dotr_apply (D : FVec Ideal S8192x7680 .f32) (t : Fin 8192) (d : Fin 1024) :
    (Host.dotGeneral (F := Ideal) (φ₁ := .f32) (φ₂ := .f32) dot_S8192x7680_S1024x7680_S8192x1024_1_1_0_0_n_n none D (extf .f32 (shapeCast S1024x7680 (extractStridedSlice S1x1024x7680 ![1, 0, 0] w slices_S2x1024x7680_S1x1024x7680_1_0_0) shapeCasts_S1x1024x7680_S1024x7680) bitsLt_bf16_f32) : FVec Ideal S8192x1024 .f32) (ix2 t d)
      = ∑ j : Fin 7680, D (ix2 t j) * w (ix3 1 d j) := by
  pointwise []

theorem dhr_apply (t : Fin 8192) (d : Fin 1024) : dhr w p s q k v (ix2 t d)
    = dh (Wgrad.unit (fun i t e => p (ix3 i t e)) (fun i t e => s (ix3 i t e)) (fun t e => q (ix2 t e)) (fun t e => k (ix2 t e)) (fun t e => v (ix2 t e))) (fun d j => w (ix3 1 d j)) t d := by
  unfold dhr dh
  rw [dotr_apply]
  exact Finset.sum_congr rfl fun j _ => congrArg (· * _) (cot_apply p s q k v t j)

/-- The first result's entries. -/
theorem first_at (t : Fin 8192) (d : Fin 1024) : (addf (F := Ideal) (φ := .f32) o (addf (addf (mulf (mulf H (broadcastInDim S8192x1024 ![0, 1] bcast_S1x1024_S8192x1024_0_1 (broadcastInDim S1x1024 ![1] bcast_S1024_S1x1024_1 (shapeCast S1024 g shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf x (broadcastInDim S8192x1024 ![0] bcast_S8192_S8192x1024_0 (Host.reduceAdd (Host.divf (mulf (shapeCast _ (Host.reduceAdd (mulf x (mulf H (broadcastInDim S8192x1024 ![0, 1] bcast_S1x1024_S8192x1024_0_1 (broadcastInDim S1x1024 ![1] bcast_S1024_S1x1024_1 (shapeCast S1024 g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf x (mulf H (broadcastInDim S8192x1024 ![0, 1] bcast_S1x1024_S8192x1024_0_1 (broadcastInDim S1x1024 ![1] bcast_S1024_S1x1024_1 (shapeCast S1024 g shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) x)) : FVec Ideal S8192x1024 .f32) (ix2 t d)
    = dx (fun d => x (ix2 t d)) (fun d => H (ix2 t d) * g (ix2 0 d)) (fun d => o (ix2 t d)) d := by
  rw [dx_eq]
  pointwise []
  simp only [Finset.univ_unique, Finset.sum_singleton]
  rfl

/-- The second result's entries. -/
theorem second_at (d : Fin 1024) : (broadcastInDim S1x1024 ![1] bcast_S1024_S1x1024_1 (Host.reduceAdd (shapeCast _ (Host.reduceAdd (mulf (F := Ideal) (φ := .f32) (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) H) (constant S_ .f32 0x00000000#32) reducesTo_S8192x1024_S1024_d0 h_S_) shapeCasts_S1024_S1x1024) (constant S_ .f32 0x00000000#32) reducesTo_S1x1024_S1024_d0 h_S_) : FVec Ideal S1x1024 .f32) (ix2 0 d)
    = ∑ t, dgterm (fun d => x (ix2 t d)) (fun d => H (ix2 t d)) d := by
  pointwise []
  simp only [Finset.univ_unique, Finset.sum_singleton]
  exact Finset.sum_congr rfl fun t _ => mul_comm _ _

end

section
variable (m : (ℓ : Loc nD τ sig) → Buf (Elt Ideal) ℓ) (c : Dev nD)

/-- The first result is the gradient of `x`, added to what came by the other way. -/
theorem first_eq (x : Vec Ideal S8192x1024 .f32) (g : Vec Ideal S1x1024 .f32) (w : Vec Ideal S2x1024x7680 .bf16) (p : Vec Ideal S3x8192x512 .bf16) (s : Vec Ideal S9x8192x512 .bf16) (q : Vec Ideal S8192x512 .bf16) (k : Vec Ideal S8192x512 .bf16) (v : Vec Ideal S8192x512 .bf16) (o : Vec Ideal S8192x1024 .f32)
    (hx : m ((c.tc : Thread nD τ).loc main_arg0) = x) (hg : m ((c.tc : Thread nD τ).loc main_arg1) = g) (hw : m ((c.tc : Thread nD τ).loc main_arg2) = w) (hp : m ((c.tc : Thread nD τ).loc main_arg3) = p) (hs : m ((c.tc : Thread nD τ).loc main_arg4) = s) (hq : m ((c.tc : Thread nD τ).loc main_arg5) = q) (hk : m ((c.tc : Thread nD τ).loc main_arg6) = k) (hv : m ((c.tc : Thread nD τ).loc main_arg7) = v) (ho : m ((c.tc : Thread nD τ).loc main_arg8) = o) :
    (Value.res_main_v72 m c : Vec Ideal S8192x1024 .f32) = fun y => dx (fun d => x (ix2 (y 0) d)) (fun d => dh (Wgrad.unit (fun i t e => p (ix3 i t e)) (fun i t e => s (ix3 i t e)) (fun t e => q (ix2 t e)) (fun t e => k (ix2 t e)) (fun t e => v (ix2 t e))) (fun d j => w (ix3 1 d j)) (y 0) d * g (ix2 0 d)) (fun d => o (ix2 (y 0) d)) (y 1) := by
  subst hx hg hw hp hs hq hk hv ho
  funext y
  obtain ⟨t, d, rfl⟩ : ∃ (t : Fin 8192) (d : Fin 1024), y = ix2 t d := ⟨y 0, y 1, by funext a; match a with | ⟨0, _⟩ => rfl | ⟨1, _⟩ => rfl⟩
  unfold Value.res_main_v72
  refine (first_at _ _ _ (dhr _ _ _ _ _ _) t d).trans ?_
  simp only [dhr_apply]
  rfl

/-- The second result is the gain's gradient. -/
theorem second_eq (x : Vec Ideal S8192x1024 .f32) (w : Vec Ideal S2x1024x7680 .bf16) (p : Vec Ideal S3x8192x512 .bf16) (s : Vec Ideal S9x8192x512 .bf16) (q : Vec Ideal S8192x512 .bf16) (k : Vec Ideal S8192x512 .bf16) (v : Vec Ideal S8192x512 .bf16)
    (hx : m ((c.tc : Thread nD τ).loc main_arg0) = x) (hw : m ((c.tc : Thread nD τ).loc main_arg2) = w) (hp : m ((c.tc : Thread nD τ).loc main_arg3) = p) (hs : m ((c.tc : Thread nD τ).loc main_arg4) = s) (hq : m ((c.tc : Thread nD τ).loc main_arg5) = q) (hk : m ((c.tc : Thread nD τ).loc main_arg6) = k) (hv : m ((c.tc : Thread nD τ).loc main_arg7) = v) :
    (Value.res_main_v73 m c : Vec Ideal S1x1024 .f32) = fun y => ∑ t, dgterm (fun d => x (ix2 t d)) (dh (Wgrad.unit (fun i t e => p (ix3 i t e)) (fun i t e => s (ix3 i t e)) (fun t e => q (ix2 t e)) (fun t e => k (ix2 t e)) (fun t e => v (ix2 t e))) (fun d j => w (ix3 1 d j)) t) (y 1) := by
  subst hx hw hp hs hq hk hv
  funext y
  obtain ⟨i, d, rfl⟩ : ∃ (i : Fin 1) (d : Fin 1024), y = ix2 i d := ⟨y 0, y 1, by funext a; match a with | ⟨0, _⟩ => rfl | ⟨1, _⟩ => rfl⟩
  obtain rfl : i = 0 := Subsingleton.elim _ _
  unfold Value.res_main_v73
  refine (second_at _ (dhr _ _ _ _ _ _) d).trans ?_
  simp only [dhr_apply]
  rfl

end

end Cert.Dx
end
-- ==== Proof.DxValue.lean ====
module

public import proofs.«01_k».proof.Defs
public import proofs.«01_k».proof.Proof.DxSum
public import proofs.«01_k».proof.Proof.DxRef
public import Idealize.ShloMosaic.Lib.Quiescent

@[expose] public section

set_option maxRecDepth 65536

noncomputable section

namespace Cert.Dx

open Idealize.ShloMosaic Idealize.ShloMosaic.TcCoe Idealize.SL.Sem

/-! ## The two programs' results -/

/-- The reference ends without fault, with its arguments unchanged and no semaphore counted. -/
theorem reference_frame : Cert.quiescent_Reference4Ideal (hReference4Ideal := Cert.Reference4Ideal.Gen.facts) :=
  fun m g _ => (θ_run Cert.Reference4Ideal.defs _ _).mono (fun r h => ⟨fun c => (h c).2.2, sem_eq_zero_of_no_sems (by decide) _⟩) (Cert.Reference4Ideal.Value.run (F := Ideal) m g)

/-- Both programs end with the gradient of `x`, added to what came by the other way, and with the gradient of the gain. -/
theorem results_agree : Cert.algebraic_Kernel4Ideal_Reference4Ideal (hKernel4Ideal := Cert.Kernel4Ideal.Gen.facts) (hReference4Ideal := Cert.Reference4Ideal.Gen.facts) := by
  intro m g m' g' _ hag
  refine ⟨fun c => dxArr (adx m c), fun c => dgArr (fun d => ∑ t, adg m c d t), ?_, ?_⟩
  · refine (θ_run Cert.Kernel4Ideal.defs _ _).mono (fun r h c => ?_) (Cert.Kernel4Ideal.Value.run_blocks (F := Ideal) m g)
    exact ⟨(h c).1.trans (arr9_eq m c), (h c).2.1.trans (arr10_eq m c), (h c).2.2⟩
  · refine (θ_run Cert.Reference4Ideal.defs _ _).mono (fun r h c => ?_) (Cert.Reference4Ideal.Value.run (F := Ideal) m' g')
    obtain ⟨h0, h1, h2, h3, h4, h5, h6, h7, h8⟩ := hag c
    exact ⟨(h c).1.trans (first_eq m' c _ _ _ _ _ _ _ _ _ h0 h1 h2 h3 h4 h5 h6 h7 h8), (h c).2.1.trans (second_eq m' c _ _ _ _ _ _ _ h0 h2 h3 h4 h5 h6 h7), (h c).2.2⟩

end Cert.Dx
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Value
public import proofs.«01_k».proof.Proof.Same
public import proofs.«01_k».proof.Proof.WgValue
public import proofs.«01_k».proof.Proof.FwValue
public import proofs.«01_k».proof.Proof.DxValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Attn.fin_facts,
  Cert.Attn.frame_kernel, fun m g _ => Cert.Attn.frame_any m g, fun m g _ => Cert.Attn.frame_any m g,
  fun m g _ => Cert.Attn.reference_frame m g, fun m g _ => Cert.Attn.reference_frame m g,
  fun m g _ => Cert.Kernel2.Gen.frame m g, fun m g _ => Cert.Kernel2Ideal.Gen.frame m g, Cert.Wgrad.reference_frame,
  fun m g _ => Cert.Kernel3.Gen.frame m g, fun m g _ => Cert.Kernel3Ideal.Gen.frame m g, Cert.Fwd.reference_frame,
  fun m g _ => Cert.Kernel4.Gen.frame m g, fun m g _ => Cert.Kernel4Ideal.Gen.frame m g, Cert.Dx.reference_frame,
  trivial, Cert.Attn.results_agree, trivial, Cert.Wgrad.results_agree, trivial, Cert.Fwd.results_agree,
  trivial, Cert.Dx.results_agree⟩

end Cert.Proof

end
